-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def preserves_Kernel_KernelIdeal : Prop :=
  IdealRules.named_const.Statement Cert.KernelIdeal.κ "qscale" .f32 0x3E38AA3B#32 ((8⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v85) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v38_0)) (v1 : (c : Dev Cert.Kernel3Ideal.nD) → Buf (Elt Ideal) ((c.tc : Thread Cert.Kernel3Ideal.nD Cert.Kernel3Ideal.τ).loc Cert.Kernel3Ideal.main_v38_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v38_0) = v0 c
          ∧ r.2.mem ((c.tc : Thread Cert.Kernel3Ideal.nD Cert.Kernel3Ideal.τ).loc Cert.Kernel3Ideal.main_v38_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v27) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  IdealRules.named_const.Statement Cert.Kernel4Ideal.κ "qscale" .f32 0x3E38AA3B#32 ((8⁻¹ * (Real.log 2)⁻¹ : ℝ) : EReal)
  ∧ IdealRules.named_const.Statement Cert.Kernel4Ideal.κ "log2e" .f32 0x3FB8AA3B#32 (((Real.log 2)⁻¹ : ℝ) : EReal)

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v216)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v216) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v88) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S8x8192x6912 : Shape := ⟨3, ![8, 8192, 6912]⟩
abbrev S8 : Shape := ⟨1, ![8]⟩
abbrev S8x8192x640 : Shape := ⟨3, ![8, 8192, 640]⟩
abbrev S_ : Shape := ⟨0, ![]⟩

class Facts : Prop where
  slices_S8x8192x6912_S8x8192x640_0_0_3072 : S8x8192x6912.Slices ![0, 0, 3072] S8x8192x640
  bcast_S_S8x8192x640 : S_.BroadcastsInDim S8x8192x640 (![] : Fin 0 → Fin S8x8192x640.rank)
  reducesTo_S8x8192x640_S_d0_1_2 : S8x8192x640.ReducesTo [0, 1, 2] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S8x8192x6912 .f32) (main_arg1 : FVec F S8 .f32) : IVec S_ 1 :=
  let main_v0 : FVec F S8x8192x640 .f32 := (extractStridedSlice S8x8192x640 ![0, 0, 3072] · slices_S8x8192x6912_S8x8192x640_0_0_3072) main_arg0
  let main_v1 : FVec F S8x8192x640 .f32 := Host.absf main_v0
  let main_cst : FVec F S_ .f32 := constant S_ .f32 0x7F800000#32
  let main_v2 : FVec F S8x8192x640 .f32 := broadcastInDim S8x8192x640 ![] bcast_S_S8x8192x640 main_cst
  let main_v3 : IVec S8x8192x640 1 := cmpf .olt main_v1 main_v2
  let main_c : IVec S_ 1 := constantI S_ 1 1#1
  let main_v4 : IVec S_ 1 := (fun x v => Host.reduce IntOp.andi x v reducesTo_S8x8192x640_S_d0_1_2 h_S_) main_v3 main_c
  let main_v5 : FVec F S8 .f32 := Host.absf main_arg1
  let main_cst_0 : FVec F S_ .f32 := constant S_ .f32 0x7F800000#32
  let main_v6 : FVec F S8 .f32 := broadcastInDim S8 ![] bcast_S_S8 main_cst_0
  let main_v7 : IVec S8 1 := cmpf .olt main_v5 main_v6
  let main_c_1 : IVec S_ 1 := constantI S_ 1 1#1
  let main_v8 : IVec S_ 1 := (fun x v => Host.reduce IntOp.andi x v reducesTo_S8_S_d0 h_S_) main_v7 main_c_1
  let main_v9 : IVec S_ 1 := andi main_v4 main_v8
  main_v9
-- ==== Pre_finite4.lean ====
abbrev S8x8192x6912 : Shape := ⟨3, ![8, 8192, 6912]⟩
abbrev S8x15x31 : Shape := ⟨3, ![8, 15, 31]⟩
abbrev S8x8192x1024 : Shape := ⟨3, ![8, 8192, 1024]⟩
abbrev S_ : Shape := ⟨0, ![]⟩

class Facts : Prop where
  slices_S8x8192x6912_S8x8192x1024_0_0_0 : S8x8192x6912.Slices ![0, 0, 0] S8x8192x1024
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bcast_S_S8x15x31 : S_.BroadcastsInDim S8x15x31 (![] : Fin 0 → Fin S8x15x31.rank)
  reducesTo_S8x15x31_S_d0_1_2 : S8x15x31.ReducesTo [0, 1, 2] S_

variable [Facts]

def fn {F : FTy → Type} [FloatOps F] (main_arg0 : FVec F S8x8192x6912 .f32) (main_arg1 : FVec F S8x15x31 .f32) : IVec S_ 1 :=
  let main_v0 : FVec F S8x8192x1024 .f32 := (extractStridedSlice S8x8192x1024 ![0, 0, 0] · slices_S8x8192x6912_S8x8192x1024_0_0_0) main_arg0
  let main_v1 : FVec F S8x8192x1024 .f32 := Host.absf main_v0
  let main_cst : FVec F S_ .f32 := constant S_ .f32 0x7F800000#32
  let main_v2 : FVec F S8x8192x1024 .f32 := broadcastInDim S8x8192x1024 ![] bcast_S_S8x8192x1024 main_cst
  let main_v3 : IVec S8x8192x1024 1 := cmpf .olt main_v1 main_v2
  let main_c : IVec S_ 1 := constantI S_ 1 1#1
  let main_v4 : IVec S_ 1 := (fun x v => Host.reduce IntOp.andi x v reducesTo_S8x8192x1024_S_d0_1_2 h_S_) main_v3 main_c
  let main_v5 : FVec F S8x15x31 .f32 := Host.absf main_arg1
  let main_cst_0 : FVec F S_ .f32 := constant S_ .f32 0x7F800000#32
  let main_v6 : FVec F S8x15x31 .f32 := broadcastInDim S8x15x31 ![] bcast_S_S8x15x31 main_cst_0
  let main_v7 : IVec S8x15x31 1 := cmpf .olt main_v5 main_v6
  let main_c_1 : IVec S_ 1 := constantI S_ 1 1#1
  let main_v8 : IVec S_ 1 := (fun x v => Host.reduce IntOp.andi x v reducesTo_S8x15x31_S_d0_1_2 h_S_) main_v7 main_c_1
  let main_v9 : IVec S_ 1 := andi main_v4 main_v8
  main_v9
-- ==== Kernel.lean ====
abbrev S8x8192x6912 : Shape := ⟨3, ![8, 8192, 6912]⟩
abbrev S8 : Shape := ⟨1, ![8]⟩
abbrev S8x8192x64 : Shape := ⟨3, ![8, 8192, 64]⟩
abbrev S8x8192x128 : Shape := ⟨3, ![8, 8192, 128]⟩
abbrev S8x8192x3072 : Shape := ⟨3, ![8, 8192, 3072]⟩
abbrev S8x8192x1536 : Shape := ⟨3, ![8, 8192, 1536]⟩
abbrev S8x8192x1024 : Shape := ⟨3, ![8, 8192, 1024]⟩
abbrev S8x8192x6272 : Shape := ⟨3, ![8, 8192, 6272]⟩
abbrev S8x8192x512 : Shape := ⟨3, ![8, 8192, 512]⟩
abbrev S8x8192x640 : Shape := ⟨3, ![8, 8192, 640]⟩
abbrev S65536x640 : Shape := ⟨2, ![65536, 640]⟩
abbrev S640x65536 : Shape := ⟨2, ![640, 65536]⟩
abbrev S3x8x384x128 : Shape := ⟨4, ![3, 8, 384, 128]⟩
abbrev S_ : Shape := ⟨0, ![]⟩
abbrev S1x8x1x1 : Shape := ⟨4, ![1, 8, 1, 1]⟩
abbrev S1x512x512 : Shape := ⟨3, ![1, 512, 512]⟩
abbrev S1x8192x128 : Shape := ⟨3, ![1, 8192, 128]⟩
abbrev S128x8192 : Shape := ⟨2, ![128, 8192]⟩
abbrev S1x8x384x128 : Shape := ⟨4, ![1, 8, 384, 128]⟩
abbrev S1x128x512 : Shape := ⟨3, ![1, 128, 512]⟩
abbrev S128x512 : Shape := ⟨2, ![128, 512]⟩
abbrev S1x384x128 : Shape := ⟨3, ![1, 384, 128]⟩
abbrev S384x128 : Shape := ⟨2, ![384, 128]⟩
abbrev S128x384 : Shape := ⟨2, ![128, 384]⟩
abbrev S128x128 : Shape := ⟨2, ![128, 128]⟩
abbrev S1x128 : Shape := ⟨2, ![1, 128]⟩
abbrev S256x128 : Shape := ⟨2, ![256, 128]⟩
abbrev S384x256 : Shape := ⟨2, ![384, 256]⟩
abbrev S64x384 : Shape := ⟨2, ![64, 384]⟩
abbrev S1x1x384x128 : Shape := ⟨4, ![1, 1, 384, 128]⟩
abbrev S1 : Shape := ⟨1, ![1]⟩
abbrev S128 : Shape := ⟨1, ![128]⟩
abbrev S16x384 : Shape := ⟨2, ![16, 384]⟩
abbrev S80x384 : Shape := ⟨2, ![80, 384]⟩
abbrev S80x128 : Shape := ⟨2, ![80, 128]⟩
abbrev S64x128 : Shape := ⟨2, ![64, 128]⟩
abbrev S512x128 : Shape := ⟨2, ![512, 128]⟩

abbrev nBuf : Space → Nat
  | .hbm => 45
  | .vmem => 16
  | .smem => 1
  | _ => 0

abbrev bufTy : (tb : Table) → Fin (tcTables nBuf tb) → BufTy
  | .hbm, ⟨0, _⟩ => ⟨S8x8192x6912, .f32⟩
  | .hbm, ⟨1, _⟩ => ⟨S8, .f32⟩
  | .hbm, ⟨2, _⟩ => ⟨S8, .f32⟩
  | .hbm, ⟨3, _⟩ => ⟨S8x8192x64, .f32⟩
  | .hbm, ⟨4, _⟩ => ⟨S8x8192x64, .f32⟩
  | .hbm, ⟨5, _⟩ => ⟨S8x8192x64, .f32⟩
  | .hbm, ⟨6, _⟩ => ⟨S8x8192x64, .f32⟩
  | .hbm, ⟨7, _⟩ => ⟨S8x8192x64, .f32⟩
  | .hbm, ⟨8, _⟩ => ⟨S8x8192x64, .f32⟩
  | .hbm, ⟨9, _⟩ => ⟨S8x8192x64, .f32⟩
  | .hbm, ⟨10, _⟩ => ⟨S8x8192x64, .f32⟩
  | .hbm, ⟨11, _⟩ => ⟨S8x8192x128, .f32⟩
  | .hbm, ⟨12, _⟩ => ⟨S8x8192x3072, .f32⟩
  | .hbm, ⟨13, _⟩ => ⟨S8x8192x1536, .f32⟩
  | .hbm, ⟨14, _⟩ => ⟨S8x8192x1024, .f32⟩
  | .hbm, ⟨15, _⟩ => ⟨S8x8192x6272, .f32⟩
  | .hbm, ⟨16, _⟩ => ⟨S8x8192x6272, .bf16⟩
  | .hbm, ⟨17, _⟩ => ⟨S8x8192x512, .f32⟩
  | .hbm, ⟨18, _⟩ => ⟨S8x8192x128, .f32⟩
  | .hbm, ⟨19, _⟩ => ⟨S8x8192x640, .f32⟩
  | .hbm, ⟨20, _⟩ => ⟨S65536x640, .f32⟩
  | .hbm, ⟨21, _⟩ => ⟨S640x65536, .f32⟩
  | .hbm, ⟨22, _⟩ => ⟨S640x65536, .bf16⟩
  | .hbm, ⟨23, _⟩ => ⟨S3x8x384x128, .i32⟩
  | .hbm, ⟨24, _⟩ => ⟨S_, .i32⟩
  | .hbm, ⟨25, _⟩ => ⟨S3x8x384x128, .i32⟩
  | .hbm, ⟨26, _⟩ => ⟨S3x8x384x128, .i32⟩
  | .hbm, ⟨27, _⟩ => ⟨S3x8x384x128, .i32⟩
  | .hbm, ⟨28, _⟩ => ⟨S3x8x384x128, .i32⟩
  | .hbm, ⟨29, _⟩ => ⟨S3x8x384x128, .i32⟩
  | .hbm, ⟨30, _⟩ => ⟨S3x8x384x128, .i32⟩
  | .hbm, ⟨31, _⟩ => ⟨S3x8x384x128, .i32⟩
  | .hbm, ⟨32, _⟩ => ⟨S1x8x1x1, .f32⟩
  | .hbm, ⟨33, _⟩ => ⟨S1x8x1x1, .f32⟩
  | .hbm, ⟨34, _⟩ => ⟨S3x8x384x128, .f32⟩
  | .hbm, ⟨35, _⟩ => ⟨S3x8x384x128, .f32⟩
  | .hbm, ⟨36, _⟩ => ⟨S3x8x384x128, .f32⟩
  | .hbm, ⟨37, _⟩ => ⟨S_, .i32⟩
  | .hbm, ⟨38, _⟩ => ⟨S3x8x384x128, .i32⟩
  | .hbm, ⟨39, _⟩ => ⟨S3x8x384x128, .i1⟩
  | .hbm, ⟨40, _⟩ => ⟨S_, .f32⟩
  | .hbm, ⟨41, _⟩ => ⟨S_, .f32⟩
  | .hbm, ⟨42, _⟩ => ⟨S3x8x384x128, .f32⟩
  | .hbm, ⟨43, _⟩ => ⟨S3x8x384x128, .f32⟩
  | .hbm, ⟨44, _⟩ => ⟨S8x8192x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x8192x128, .bf16⟩
  | .local _ .vmem, ⟨3, _⟩ => ⟨S1x8192x128, .bf16⟩
  | .local _ .vmem, ⟨4, _⟩ => ⟨S128x8192, .bf16⟩
  | .local _ .vmem, ⟨5, _⟩ => ⟨S128x8192, .bf16⟩
  | .local _ .vmem, ⟨6, _⟩ => ⟨S1x8x384x128, .f32⟩
  | .local _ .vmem, ⟨7, _⟩ => ⟨S1x8x384x128, .f32⟩
  | .local _ .vmem, ⟨8, _⟩ => ⟨S1x8x384x128, .f32⟩
  | .local _ .vmem, ⟨9, _⟩ => ⟨S1x8x384x128, .f32⟩
  | .local _ .vmem, ⟨10, _⟩ => ⟨S1x8x384x128, .f32⟩
  | .local _ .vmem, ⟨11, _⟩ => ⟨S1x8x384x128, .f32⟩
  | .local _ .vmem, ⟨12, _⟩ => ⟨S1x8x384x128, .f32⟩
  | .local _ .vmem, ⟨13, _⟩ => ⟨S1x8x384x128, .f32⟩
  | .local _ .vmem, ⟨14, _⟩ => ⟨S1x512x512, .bf16⟩
  | .local _ .vmem, ⟨15, _⟩ => ⟨S1x512x512, .bf16⟩
  | .local _ .smem, ⟨0, _⟩ => ⟨S8, .f32⟩
  | _, _ => ⟨S8x8192x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_c : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_c_0 : Ref sig .tc := ⟨.hbm, 37, rfl⟩
abbrev main_v33 : Ref sig .tc := ⟨.hbm, 38, rfl⟩
abbrev main_v34 : Ref sig .tc := ⟨.hbm, 39, rfl⟩
abbrev main_cst_1 : Ref sig .tc := ⟨.hbm, 40, rfl⟩
abbrev main_call0_v0 : Ref sig .tc := ⟨.hbm, 41, rfl⟩
abbrev main_call0_v1 : Ref sig .tc := ⟨.hbm, 42, rfl⟩
abbrev main_v35 : Ref sig .tc := ⟨.hbm, 43, rfl⟩
abbrev main_v36 : Ref sig .tc := ⟨.hbm, 44, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let c7808_i32 : BitVec 32 := 7808#32
  let c0_i32_0 : BitVec 32 := 0#32
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c1_i32 : BitVec 32 := 1#32
  let v2 : BitVec 32 := Scalar.subi v1 c1_i32
  let c128_i32 : BitVec 32 := 128#32
  let v3 : BitVec 32 := Scalar.muli v2 c128_i32
  let v4 : BitVec 32 := Scalar.maxsi c0_i32_0 v3
  let v5 : BitVec 32 := Scalar.minsi c7808_i32 v4
  v5
def k0_off1 (i : grid0.Coords) (c0_i32 : BitVec 32) : Fin 3 → Nat :=
  let c0_3 : Index := 0#32
  let c7808_i32 : BitVec 32 := 7808#32
  let c0_i32_0 : BitVec 32 := 0#32
  let arg1 : BitVec 32 := BitVec.ofNat 32 (i 1).val
  let c4_i32 : BitVec 32 := 4#32
  let v0 : BitVec 32 := Scalar.muli arg1 c4_i32
  let v1 : BitVec 32 := Scalar.addi v0 c0_i32
  let c1_i32 : BitVec 32 := 1#32
  let v2 : BitVec 32 := Scalar.subi v1 c1_i32
  let c128_i32 : BitVec 32 := 128#32
  let v3 : BitVec 32 := Scalar.muli v2 c128_i32
  let v4 : BitVec 32 := Scalar.maxsi c0_i32_0 v3
  let v5 : BitVec 32 := Scalar.minsi c7808_i32 v4
  let v6 : BitVec 32 := v5
  let v13 : Index := Scalar.indexCast v6
  let c0_4 : Index := 0#32
  ![0, v13.toNat, 0]
def k0_off2 (i : grid0.Coords) (c0_i32 : BitVec 32) : Fin 2 → Nat :=
  let c0_5 : Index := 0#32
  let c7808_i32 : BitVec 32 := 7808#32
  let c0_i32_0 : BitVec 32 := 0#32
  let arg1 : BitVec 32 := BitVec.ofNat 32 (i 1).val
  let c4_i32 : BitVec 32 := 4#32
  let v0 : BitVec 32 := Scalar.muli arg1 c4_i32
  let v1 : BitVec 32 := Scalar.addi v0 c0_i32
  let c1_i32 : BitVec 32 := 1#32
  let v2 : BitVec 32 := Scalar.subi v1 c1_i32
  let c128_i32 : BitVec 32 := 128#32
  let v3 : BitVec 32 := Scalar.muli v2 c128_i32
  let v4 : BitVec 32 := Scalar.maxsi c0_i32_0 v3
  let v5 : BitVec 32 := Scalar.minsi c7808_i32 v4
  let v6 : BitVec 32 := v5
  let v16 : Index := Scalar.indexCast v6
  ![0, v16.toNat]
def k0_mult2 (i : grid0.Coords) : BitVec 32 :=
  let c7808_i32_87 : BitVec 32 := 7808#32
  let c0_i32_86 : BitVec 32 := 0#32
  let arg1 : BitVec 32 := BitVec.ofNat 32 (i 1).val
  let c4_i32_82 : BitVec 32 := 4#32
  let v243 : BitVec 32 := Scalar.muli arg1 c4_i32_82
  let c1_i32_83 : BitVec 32 := 1#32
  let v244 : BitVec 32 := Scalar.addi v243 c1_i32_83
  let c1_i32_84 : BitVec 32 := 1#32
  let v245 : BitVec 32 := Scalar.subi v244 c1_i32_84
  let c128_i32_85 : BitVec 32 := 128#32
  let v246 : BitVec 32 := Scalar.muli v245 c128_i32_85
  let v247 : BitVec 32 := Scalar.maxsi c0_i32_86 v246
  let v248 : BitVec 32 := Scalar.minsi c7808_i32_87 v247
  v248
def k0_mult3 (i : grid0.Coords) : BitVec 32 :=
  let c7808_i32_182 : BitVec 32 := 7808#32
  let c0_i32_181 : BitVec 32 := 0#32
  let arg1 : BitVec 32 := BitVec.ofNat 32 (i 1).val
  let c4_i32_178 : BitVec 32 := 4#32
  let v486 : BitVec 32 := Scalar.muli arg1 c4_i32_178
  let c2_i32 : BitVec 32 := 2#32
  let v487 : BitVec 32 := Scalar.addi v486 c2_i32
  let c1_i32_179 : BitVec 32 := 1#32
  let v488 : BitVec 32 := Scalar.subi v487 c1_i32_179
  let c128_i32_180 : BitVec 32 := 128#32
  let v489 : BitVec 32 := Scalar.muli v488 c128_i32_180
  let v490 : BitVec 32 := Scalar.maxsi c0_i32_181 v489
  let v491 : BitVec 32 := Scalar.minsi c7808_i32_182 v490
  v491
def k0_mult4 (i : grid0.Coords) : BitVec 32 :=
  let c7808_i32_277 : BitVec 32 := 7808#32
  let c0_i32_276 : BitVec 32 := 0#32
  let arg1 : BitVec 32 := BitVec.ofNat 32 (i 1).val
  let c4_i32_273 : BitVec 32 := 4#32
  let v729 : BitVec 32 := Scalar.muli arg1 c4_i32_273
  let c3_i32 : BitVec 32 := 3#32
  let v730 : BitVec 32 := Scalar.addi v729 c3_i32
  let c1_i32_274 : BitVec 32 := 1#32
  let v731 : BitVec 32 := Scalar.subi v730 c1_i32_274
  let c128_i32_275 : BitVec 32 := 128#32
  let v732 : BitVec 32 := Scalar.muli v731 c128_i32_275
  let v733 : BitVec 32 := Scalar.maxsi c0_i32_276 v732
  let v734 : BitVec 32 := Scalar.minsi c7808_i32_277 v733
  v734
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c48_i32 : BitVec 32 := 48#32
  let c0_i32_0 : BitVec 32 := 0#32
  ![arg0.toNat, c0_i32.toNat, c48_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![c4_i32.toNat, arg0.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c0_i32_0 : BitVec 32 := 0#32
  let v2 : BitVec 1 := Scalar.cmpi .eq v1 c0_i32_0
  let c63_i32 : BitVec 32 := 63#32
  let v3 : BitVec 1 := Scalar.cmpi .eq v1 c63_i32
  let c2_i32 : BitVec 32 := 2#32
  let c1_i32 : BitVec 32 := 1#32
  let v4 : BitVec 32 := Scalar.select v3 c2_i32 c1_i32
  let c0_i32_1 : BitVec 32 := 0#32
  let v5 : BitVec 32 := Scalar.select v2 c0_i32_1 v4
  let c0_i32_2 : BitVec 32 := 0#32
  let c0_i32_3 : BitVec 32 := 0#32
  let c0_i32_4 : BitVec 32 := 0#32
  let c0_i32_5 : BitVec 32 := 0#32
  ![v5.toNat, c0_i32_2.toNat, c0_i32_3.toNat, c0_i32_4.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c0_i32 : BitVec 32 := 0#32
  let v2 : BitVec 1 := Scalar.cmpi .eq v1 c0_i32
  let c63_i32 : BitVec 32 := 63#32
  let v3 : BitVec 1 := Scalar.cmpi .eq v1 c63_i32
  let c2_i32 : BitVec 32 := 2#32
  let c1_i32_0 : BitVec 32 := 1#32
  let v4 : BitVec 32 := Scalar.select v3 c2_i32 c1_i32_0
  let c0_i32_1 : BitVec 32 := 0#32
  let v5 : BitVec 32 := Scalar.select v2 c0_i32_1 v4
  let c0_i32_2 : BitVec 32 := 0#32
  let c0_i32_3 : BitVec 32 := 0#32
  let c0_i32_4 : BitVec 32 := 0#32
  let c0_i32_5 : BitVec 32 := 0#32
  ![v5.toNat, c0_i32_2.toNat, c0_i32_3.toNat, c0_i32_4.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c0_i32 : BitVec 32 := 0#32
  let v2 : BitVec 1 := Scalar.cmpi .eq v1 c0_i32
  let c63_i32 : BitVec 32 := 63#32
  let v3 : BitVec 1 := Scalar.cmpi .eq v1 c63_i32
  let c2_i32_0 : BitVec 32 := 2#32
  let c1_i32 : BitVec 32 := 1#32
  let v4 : BitVec 32 := Scalar.select v3 c2_i32_0 c1_i32
  let c0_i32_1 : BitVec 32 := 0#32
  let v5 : BitVec 32 := Scalar.select v2 c0_i32_1 v4
  let c0_i32_2 : BitVec 32 := 0#32
  let c0_i32_3 : BitVec 32 := 0#32
  let c0_i32_4 : BitVec 32 := 0#32
  let c0_i32_5 : BitVec 32 := 0#32
  ![v5.toNat, c0_i32_2.toNat, c0_i32_3.toNat, c0_i32_4.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c0_i32 : BitVec 32 := 0#32
  let v2 : BitVec 1 := Scalar.cmpi .eq v1 c0_i32
  let c63_i32 : BitVec 32 := 63#32
  let v3 : BitVec 1 := Scalar.cmpi .eq v1 c63_i32
  let c2_i32 : BitVec 32 := 2#32
  let c1_i32 : BitVec 32 := 1#32
  let v4 : BitVec 32 := Scalar.select v3 c2_i32 c1_i32
  let c0_i32_0 : BitVec 32 := 0#32
  let v5 : BitVec 32 := Scalar.select v2 c0_i32_0 v4
  let c0_i32_1 : BitVec 32 := 0#32
  let c0_i32_2 : BitVec 32 := 0#32
  let c0_i32_3 : BitVec 32 := 0#32
  let c0_i32_4 : BitVec 32 := 0#32
  ![v5.toNat, c0_i32_1.toNat, c0_i32_2.toNat, c0_i32_3.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x8x384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x8x384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x8x384x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | "qscale" => some ((8⁻¹ * (Real.log 2)⁻¹ : ℝ) : EReal)
  | _ => none
-- ==== ReferenceIdeal.lean ====
abbrev S8x8192x6912 : Shape := ⟨3, ![8, 8192, 6912]⟩
abbrev S8 : Shape := ⟨1, ![8]⟩
abbrev S8x8192x512 : Shape := ⟨3, ![8, 8192, 512]⟩
abbrev S8x8192x8x64 : Shape := ⟨4, ![8, 8192, 8, 64]⟩
abbrev S8x8192x128 : Shape := ⟨3, ![8, 8192, 128]⟩
abbrev S8x8192x2x64 : Shape := ⟨4, ![8, 8192, 2, 64]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x1x1 : Shape := ⟨3, ![8, 1, 1]⟩
abbrev S1x8192x8192 : Shape := ⟨3, ![1, 8192, 8192]⟩
abbrev S8x8192x8192 : Shape := ⟨3, ![8, 8192, 8192]⟩
abbrev S2x4x8192x8192 : Shape := ⟨4, ![2, 4, 8192, 8192]⟩
abbrev S2x4 : Shape := ⟨2, ![2, 4]⟩
abbrev S1x2x4x1x1 : Shape := ⟨5, ![1, 2, 4, 1, 1]⟩
abbrev S8x8192x2x4x64 : Shape := ⟨5, ![8, 8192, 2, 4, 64]⟩
abbrev S8x2x8192x8192x4 : Shape := ⟨5, ![8, 2, 8192, 8192, 4]⟩
abbrev S8x2x4x8192x8192 : Shape := ⟨5, ![8, 2, 4, 8192, 8192]⟩
abbrev S1x2x4x8192x8192 : Shape := ⟨5, ![1, 2, 4, 8192, 8192]⟩
abbrev S8x2x4x8192 : Shape := ⟨4, ![8, 2, 4, 8192]⟩
abbrev S8x2x4x8192x1 : Shape := ⟨5, ![8, 2, 4, 8192, 1]⟩
abbrev S8x2x64x4x8192 : Shape := ⟨5, ![8, 2, 64, 4, 8192]⟩

abbrev nBuf : Space → Nat
  | .hbm => 76
  | .vmem => 0
  | .smem => 0
  | _ => 0

abbrev bufTy : (tb : Table) → Fin (tcTables nBuf tb) → BufTy
  | .hbm, ⟨0, _⟩ => ⟨S8x8192x6912, .f32⟩
  | .hbm, ⟨1, _⟩ => ⟨S8, .f32⟩
  | .hbm, ⟨2, _⟩ => ⟨S8x8192x512, .f32⟩
  | .hbm, ⟨3, _⟩ => ⟨S8x8192x8x64, .f32⟩
  | .hbm, ⟨4, _⟩ => ⟨S8x8192x128, .f32⟩
  | .hbm, ⟨5, _⟩ => ⟨S8x8192x2x64, .f32⟩
  | .hbm, ⟨6, _⟩ => ⟨S8x8192x128, .f32⟩
  | .hbm, ⟨7, _⟩ => ⟨S8x8192x2x64, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S8192, .i32⟩
  | .hbm, ⟨22, _⟩ => ⟨S1x8192, .i32⟩
  | .hbm, ⟨23, _⟩ => ⟨S8192x1, .i32⟩
  | .hbm, ⟨24, _⟩ => ⟨S8192x8192, .i32⟩
  | .hbm, ⟨25, _⟩ => ⟨S8192x8192, .i32⟩
  | .hbm, ⟨26, _⟩ => ⟨S8192x8192, .i32⟩
  | .hbm, ⟨27, _⟩ => ⟨S8192x8192, .i32⟩
  | .hbm, ⟨28, _⟩ => ⟨S_, .i32⟩
  | .hbm, ⟨29, _⟩ => ⟨S8192x8192, .i32⟩
  | .hbm, ⟨30, _⟩ => ⟨S8192x8192, .i1⟩
  | .hbm, ⟨31, _⟩ => ⟨S8x1x1, .f32⟩
  | .hbm, ⟨32, _⟩ => ⟨S8x1x1, .f32⟩
  | .hbm, ⟨33, _⟩ => ⟨S8192x8192, .f32⟩
  | .hbm, ⟨34, _⟩ => ⟨S1x8192x8192, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S2x4x8192x8192, .f32⟩
  | .hbm, ⟨39, _⟩ => ⟨S2x4, .f32⟩
  | .hbm, ⟨40, _⟩ => ⟨S1x2x4x1x1, .f32⟩
  | .hbm, ⟨41, _⟩ => ⟨S8x8192x2x4x64, .f32⟩
  | .hbm, ⟨42, _⟩ => ⟨S8x2x8192x8192x4, .f32⟩
  | .hbm, ⟨43, _⟩ => ⟨S8x2x4x8192x8192, .f32⟩
  | .hbm, ⟨44, _⟩ => ⟨S_, .f32⟩
  | .hbm, ⟨45, _⟩ => ⟨S8x2x4x8192x8192, .f32⟩
  | .hbm, ⟨46, _⟩ => ⟨S8x2x4x8192x8192, .f32⟩
  | .hbm, ⟨47, _⟩ => ⟨S1x2x4x8192x8192, .f32⟩
  | .hbm, ⟨48, _⟩ => ⟨S8x2x4x8192x8192, .f32⟩
  | .hbm, ⟨49, _⟩ => ⟨S8x2x4x8192x8192, .f32⟩
  | .hbm, ⟨50, _⟩ => ⟨S_, .f32⟩
  | .hbm, ⟨51, _⟩ => ⟨S_, .f32⟩
  | .hbm, ⟨52, _⟩ => ⟨S8x2x4x8192x8192, .i1⟩
  | .hbm, ⟨53, _⟩ => ⟨S8x2x4x8192x8192, .f32⟩
  | .hbm, ⟨54, _⟩ => ⟨S8x2x4x8192x8192, .f32⟩
  | .hbm, ⟨55, _⟩ => ⟨S_, .f32⟩
  | .hbm, ⟨56, _⟩ => ⟨S8x2x4x8192, .f32⟩
  | .hbm, ⟨57, _⟩ => ⟨S8x2x4x8192x1, .f32⟩
  | .hbm, ⟨58, _⟩ => ⟨S8x2x4x8192x1, .f32⟩
  | .hbm, ⟨59, _⟩ => ⟨S8x2x4x8192x1, .f32⟩
  | .hbm, ⟨60, _⟩ => ⟨S8x2x4x8192x8192, .f32⟩
  | .hbm, ⟨61, _⟩ => ⟨S8x2x4x8192x8192, .f32⟩
  | .hbm, ⟨62, _⟩ => ⟨S8x2x4x8192x8192, .f32⟩
  | .hbm, ⟨63, _⟩ => ⟨S_, .f32⟩
  | .hbm, ⟨64, _⟩ => ⟨S8x2x4x8192, .f32⟩
  | .hbm, ⟨65, _⟩ => ⟨S8x2x4x8192x1, .f32⟩
  | .hbm, ⟨66, _⟩ => ⟨S8x2x4x8192x1, .f32⟩
  | .hbm, ⟨67, _⟩ => ⟨S8x2x4x8192x1, .f32⟩
  | .hbm, ⟨68, _⟩ => ⟨S8x2x4x8192x1, .f32⟩
  | .hbm, ⟨69, _⟩ => ⟨S8x2x4x8192x1, .f32⟩
  | .hbm, ⟨70, _⟩ => ⟨S8x2x4x8192x8192, .f32⟩
  | .hbm, ⟨71, _⟩ => ⟨S8x2x4x8192x8192, .f32⟩
  | .hbm, ⟨72, _⟩ => ⟨S8x2x64x4x8192, .f32⟩
  | .hbm, ⟨73, _⟩ => ⟨S8x8192x2x4x64, .f32⟩
  | .hbm, ⟨74, _⟩ => ⟨S8x8192x512, .f32⟩
  | .hbm, ⟨75, _⟩ => ⟨S8x8192x512, .bf16⟩
  | _, _ => ⟨S8x8192x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩

abbrev nD : Nat := 1
abbrev τ : Topo := Topo.v7x

variable {F : FTy → Type} [FloatOps F]
-- ==== Kernel2.lean ====
abbrev S65536x6272 : Shape := ⟨2, ![65536, 6272]⟩
abbrev S8x8192x512 : Shape := ⟨3, ![8, 8192, 512]⟩
abbrev S8x8192x1024 : Shape := ⟨3, ![8, 8192, 1024]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S1x1024 : Shape := ⟨2, ![1, 1024]⟩
abbrev S1x4096 : Shape := ⟨2, ![1, 4096]⟩
abbrev S65536x512 : Shape := ⟨2, ![65536, 512]⟩
abbrev S65536x1024 : Shape := ⟨2, ![65536, 1024]⟩
abbrev S512x3072 : Shape := ⟨2, ![512, 3072]⟩
abbrev S512x512 : Shape := ⟨2, ![512, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S512 : Shape := ⟨1, ![512]⟩
abbrev S512x1 : Shape := ⟨2, ![512, 1]⟩

abbrev nBuf : Space → Nat
  | .hbm => 34
  | .vmem => 24
  | .smem => 0
  | _ => 0

abbrev bufTy : (tb : Table) → Fin (tcTables nBuf tb) → BufTy
  | .hbm, ⟨0, _⟩ => ⟨S65536x6272, .bf16⟩
  | .hbm, ⟨1, _⟩ => ⟨S8x8192x512, .bf16⟩
  | .hbm, ⟨2, _⟩ => ⟨S8x8192x512, .bf16⟩
  | .hbm, ⟨3, _⟩ => ⟨S8x8192x512, .bf16⟩
  | .hbm, ⟨4, _⟩ => ⟨S8x8192x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x4096, .f32⟩
  | .hbm, ⟨12, _⟩ => ⟨S4096, .f32⟩
  | .hbm, ⟨13, _⟩ => ⟨S4096x1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S512x1024, .bf16⟩
  | .hbm, ⟨18, _⟩ => ⟨S512x1024, .bf16⟩
  | .hbm, ⟨19, _⟩ => ⟨S512x1024, .bf16⟩
  | .hbm, ⟨20, _⟩ => ⟨S1024x1024, .bf16⟩
  | .hbm, ⟨21, _⟩ => ⟨S1x1024, .f32⟩
  | .hbm, ⟨22, _⟩ => ⟨S1x1024, .f32⟩
  | .hbm, ⟨23, _⟩ => ⟨S1024x4096, .bf16⟩
  | .hbm, ⟨24, _⟩ => ⟨S1x4096, .f32⟩
  | .hbm, ⟨25, _⟩ => ⟨S4096x1024, .bf16⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S65536x512, .bf16⟩
  | .hbm, ⟨30, _⟩ => ⟨S65536x512, .bf16⟩
  | .hbm, ⟨31, _⟩ => ⟨S65536x512, .bf16⟩
  | .hbm, ⟨32, _⟩ => ⟨S65536x1024, .f32⟩
  | .hbm, ⟨33, _⟩ => ⟨S65536x1024, .f32⟩
  | .local _ .vmem, ⟨0, _⟩ => ⟨S512x3072, .bf16⟩
  | .local _ .vmem, ⟨1, _⟩ => ⟨S512x3072, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1024x4096, .bf16⟩
  | .local _ .vmem, ⟨17, _⟩ => ⟨S1x4096, .f32⟩
  | .local _ .vmem, ⟨18, _⟩ => ⟨S4096x1024, .bf16⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S65536x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference2Ideal.lean ====
abbrev S65536x6272 : Shape := ⟨2, ![65536, 6272]⟩
abbrev S8x8192x512 : Shape := ⟨3, ![8, 8192, 512]⟩
abbrev S8x8192x1024 : Shape := ⟨3, ![8, 8192, 1024]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S65536x3072 : Shape := ⟨2, ![65536, 3072]⟩
abbrev S8x8192x3x1024 : Shape := ⟨4, ![8, 8192, 3, 1024]⟩
abbrev S8x8192x1x1024 : Shape := ⟨4, ![8, 8192, 1, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4096 : Shape := ⟨3, ![8, 8192, 4096]⟩
abbrev S1x1x4096 : Shape := ⟨3, ![1, 1, 4096]⟩
abbrev S65536x1024 : Shape := ⟨2, ![65536, 1024]⟩

abbrev nBuf : Space → Nat
  | .hbm => 117
  | .vmem => 0
  | .smem => 0
  | _ => 0

abbrev bufTy : (tb : Table) → Fin (tcTables nBuf tb) → BufTy
  | .hbm, ⟨0, _⟩ => ⟨S65536x6272, .bf16⟩
  | .hbm, ⟨1, _⟩ => ⟨S8x8192x512, .bf16⟩
  | .hbm, ⟨2, _⟩ => ⟨S8x8192x512, .bf16⟩
  | .hbm, ⟨3, _⟩ => ⟨S8x8192x512, .bf16⟩
  | .hbm, ⟨4, _⟩ => ⟨S8x8192x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x4096, .f32⟩
  | .hbm, ⟨12, _⟩ => ⟨S4096, .f32⟩
  | .hbm, ⟨13, _⟩ => ⟨S4096x1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S65536x3072, .bf16⟩
  | .hbm, ⟨18, _⟩ => ⟨S65536x3072, .f32⟩
  | .hbm, ⟨19, _⟩ => ⟨S8x8192x3x1024, .f32⟩
  | .hbm, ⟨20, _⟩ => ⟨S8x8192x512, .f32⟩
  | .hbm, ⟨21, _⟩ => ⟨S8x8192x512, .f32⟩
  | .hbm, ⟨22, _⟩ => ⟨S8x8192x512, .f32⟩
  | .hbm, ⟨23, _⟩ => ⟨S8x8192x1x1024, .f32⟩
  | .hbm, ⟨24, _⟩ => ⟨S8x8192x1024, .f32⟩
  | .hbm, ⟨25, _⟩ => ⟨S8x8192x1024, .f32⟩
  | .hbm, ⟨26, _⟩ => ⟨S8x8192x1024, .f32⟩
  | .hbm, ⟨27, _⟩ => ⟨S8x8192x1x1024, .f32⟩
  | .hbm, ⟨28, _⟩ => ⟨S8x8192x1024, .f32⟩
  | .hbm, ⟨29, _⟩ => ⟨S8x8192x1024, .f32⟩
  | .hbm, ⟨30, _⟩ => ⟨S8x8192x1024, .f32⟩
  | .hbm, ⟨31, _⟩ => ⟨S8x8192x1024, .f32⟩
  | .hbm, ⟨32, _⟩ => ⟨S8x8192x1x1024, .f32⟩
  | .hbm, ⟨33, _⟩ => ⟨S8x8192x1024, .f32⟩
  | .hbm, ⟨34, _⟩ => ⟨S8x8192x1024, .f32⟩
  | .hbm, ⟨35, _⟩ => ⟨S8x8192x1024, .f32⟩
  | .hbm, ⟨36, _⟩ => ⟨S8x8192x1024, .f32⟩
  | .hbm, ⟨37, _⟩ => ⟨S8x8192x1024, .f32⟩
  | .hbm, ⟨38, _⟩ => ⟨S_, .f32⟩
  | .hbm, ⟨39, _⟩ => ⟨S8x8192x1024, .f32⟩
  | .hbm, ⟨40, _⟩ => ⟨S8x8192x1024, .f32⟩
  | .hbm, ⟨41, _⟩ => ⟨S8x8192x1024, .f32⟩
  | .hbm, ⟨42, _⟩ => ⟨S_, .f32⟩
  | .hbm, ⟨43, _⟩ => ⟨S8x8192, .f32⟩
  | .hbm, ⟨44, _⟩ => ⟨S8x8192x1, .f32⟩
  | .hbm, ⟨45, _⟩ => ⟨S_, .f32⟩
  | .hbm, ⟨46, _⟩ => ⟨S8x8192x1, .f32⟩
  | .hbm, ⟨47, _⟩ => ⟨S8x8192x1, .f32⟩
  | .hbm, ⟨48, _⟩ => ⟨S8x8192x1024, .f32⟩
  | .hbm, ⟨49, _⟩ => ⟨S8x8192x1024, .f32⟩
  | .hbm, ⟨50, _⟩ => ⟨S8x8192x1024, .f32⟩
  | .hbm, ⟨51, _⟩ => ⟨S_, .f32⟩
  | .hbm, ⟨52, _⟩ => ⟨S8x8192, .f32⟩
  | .hbm, ⟨53, _⟩ => ⟨S8x8192x1, .f32⟩
  | .hbm, ⟨54, _⟩ => ⟨S_, .f32⟩
  | .hbm, ⟨55, _⟩ => ⟨S8x8192x1, .f32⟩
  | .hbm, ⟨56, _⟩ => ⟨S8x8192x1, .f32⟩
  | .hbm, ⟨57, _⟩ => ⟨S8x8192x1024, .f32⟩
  | .hbm, ⟨58, _⟩ => ⟨S8x8192x1024, .f32⟩
  | .hbm, ⟨59, _⟩ => ⟨S_, .f32⟩
  | .hbm, ⟨60, _⟩ => ⟨S8x8192x1, .f32⟩
  | .hbm, ⟨61, _⟩ => ⟨S8x8192x1, .f32⟩
  | .hbm, ⟨62, _⟩ => ⟨S8x8192x1, .f32⟩
  | .hbm, ⟨63, _⟩ => ⟨S8x8192x1024, .f32⟩
  | .hbm, ⟨64, _⟩ => ⟨S8x8192x1024, .f32⟩
  | .hbm, ⟨65, _⟩ => ⟨S1x1x1024, .f32⟩
  | .hbm, ⟨66, _⟩ => ⟨S8x8192x1024, .f32⟩
  | .hbm, ⟨67, _⟩ => ⟨S8x8192x1024, .f32⟩
  | .hbm, ⟨68, _⟩ => ⟨S1x1x1024, .f32⟩
  | .hbm, ⟨69, _⟩ => ⟨S8x8192x1024, .f32⟩
  | .hbm, ⟨70, _⟩ => ⟨S8x8192x1024, .f32⟩
  | .hbm, ⟨71, _⟩ => ⟨S8x8192x4096, .f32⟩
  | .hbm, ⟨72, _⟩ => ⟨S1x1x4096, .f32⟩
  | .hbm, ⟨73, _⟩ => ⟨S8x8192x4096, .f32⟩
  | .hbm, ⟨74, _⟩ => ⟨S8x8192x4096, .f32⟩
  | .hbm, ⟨75, _⟩ => ⟨S_, .f32⟩
  | .hbm, ⟨76, _⟩ => ⟨S8x8192x4096, .f32⟩
  | .hbm, ⟨77, _⟩ => ⟨S8x8192x4096, .f32⟩
  | .hbm, ⟨78, _⟩ => ⟨S8x8192x4096, .f32⟩
  | .hbm, ⟨79, _⟩ => ⟨S8x8192x1024, .f32⟩
  | .hbm, ⟨80, _⟩ => ⟨S1x1x1024, .f32⟩
  | .hbm, ⟨81, _⟩ => ⟨S8x8192x1024, .f32⟩
  | .hbm, ⟨82, _⟩ => ⟨S8x8192x1024, .f32⟩
  | .hbm, ⟨83, _⟩ => ⟨S_, .f32⟩
  | .hbm, ⟨84, _⟩ => ⟨S8x8192x1024, .f32⟩
  | .hbm, ⟨85, _⟩ => ⟨S8x8192x1024, .f32⟩
  | .hbm, ⟨86, _⟩ => ⟨S8x8192x1024, .f32⟩
  | .hbm, ⟨87, _⟩ => ⟨S_, .f32⟩
  | .hbm, ⟨88, _⟩ => ⟨S8x8192, .f32⟩
  | .hbm, ⟨89, _⟩ => ⟨S8x8192x1, .f32⟩
  | .hbm, ⟨90, _⟩ => ⟨S_, .f32⟩
  | .hbm, ⟨91, _⟩ => ⟨S8x8192x1, .f32⟩
  | .hbm, ⟨92, _⟩ => ⟨S8x8192x1, .f32⟩
  | .hbm, ⟨93, _⟩ => ⟨S8x8192x1024, .f32⟩
  | .hbm, ⟨94, _⟩ => ⟨S8x8192x1024, .f32⟩
  | .hbm, ⟨95, _⟩ => ⟨S8x8192x1024, .f32⟩
  | .hbm, ⟨96, _⟩ => ⟨S_, .f32⟩
  | .hbm, ⟨97, _⟩ => ⟨S8x8192, .f32⟩
  | .hbm, ⟨98, _⟩ => ⟨S8x8192x1, .f32⟩
  | .hbm, ⟨99, _⟩ => ⟨S_, .f32⟩
  | .hbm, ⟨100, _⟩ => ⟨S8x8192x1, .f32⟩
  | .hbm, ⟨101, _⟩ => ⟨S8x8192x1, .f32⟩
  | .hbm, ⟨102, _⟩ => ⟨S8x8192x1024, .f32⟩
  | .hbm, ⟨103, _⟩ => ⟨S8x8192x1024, .f32⟩
  | .hbm, ⟨104, _⟩ => ⟨S_, .f32⟩
  | .hbm, ⟨105, _⟩ => ⟨S8x8192x1, .f32⟩
  | .hbm, ⟨106, _⟩ => ⟨S8x8192x1, .f32⟩
  | .hbm, ⟨107, _⟩ => ⟨S8x8192x1, .f32⟩
  | .hbm, ⟨108, _⟩ => ⟨S8x8192x1024, .f32⟩
  | .hbm, ⟨109, _⟩ => ⟨S8x8192x1024, .f32⟩
  | .hbm, ⟨110, _⟩ => ⟨S1x1x1024, .f32⟩
  | .hbm, ⟨111, _⟩ => ⟨S8x8192x1024, .f32⟩
  | .hbm, ⟨112, _⟩ => ⟨S8x8192x1024, .f32⟩
  | .hbm, ⟨113, _⟩ => ⟨S1x1x1024, .f32⟩
  | .hbm, ⟨114, _⟩ => ⟨S8x8192x1024, .f32⟩
  | .hbm, ⟨115, _⟩ => ⟨S8x8192x1024, .f32⟩
  | .hbm, ⟨116, _⟩ => ⟨S65536x1024, .f32⟩
  | _, _ => ⟨S65536x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_0 : Ref sig .tc := ⟨.hbm, 42, rfl⟩
abbrev main_v24 : Ref sig .tc := ⟨.hbm, 43, rfl⟩
abbrev main_v25 : Ref sig .tc := ⟨.hbm, 44, rfl⟩
abbrev main_cst_1 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_2 : Ref sig .tc := ⟨.hbm, 51, rfl⟩
abbrev main_v31 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_4 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call0_cst : Ref sig .tc := ⟨.hbm, 75, rfl⟩
abbrev main_call0_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_5 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_6 : Ref sig .tc := ⟨.hbm, 87, rfl⟩
abbrev main_v61 : Ref sig .tc := ⟨.hbm, 88, rfl⟩
abbrev main_v62 : Ref sig .tc := ⟨.hbm, 89, rfl⟩
abbrev main_cst_7 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_8 : Ref sig .tc := ⟨.hbm, 96, rfl⟩
abbrev main_v68 : Ref sig .tc := ⟨.hbm, 97, rfl⟩
abbrev main_v69 : Ref sig .tc := ⟨.hbm, 98, rfl⟩
abbrev main_cst_9 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_10 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩

abbrev nD : Nat := 1
abbrev τ : Topo := Topo.v7x

variable {F : FTy → Type} [FloatOps F]
-- ==== Kernel3.lean ====
abbrev S8x8192x1024 : Shape := ⟨3, ![8, 8192, 1024]⟩
abbrev S1024x6912 : Shape := ⟨2, ![1024, 6912]⟩
abbrev S6912 : Shape := ⟨1, ![6912]⟩
abbrev S65536x1024 : Shape := ⟨2, ![65536, 1024]⟩
abbrev S1024x64 : Shape := ⟨2, ![1024, 64]⟩
abbrev S1024x128 : Shape := ⟨2, ![1024, 128]⟩
abbrev S1024x3072 : Shape := ⟨2, ![1024, 3072]⟩
abbrev S1024x1536 : Shape := ⟨2, ![1024, 1536]⟩
abbrev S1024x1024 : Shape := ⟨2, ![1024, 1024]⟩
abbrev S1024x6272 : Shape := ⟨2, ![1024, 6272]⟩
abbrev S64 : Shape := ⟨1, ![64]⟩
abbrev S128 : Shape := ⟨1, ![128]⟩
abbrev S3072 : Shape := ⟨1, ![3072]⟩
abbrev S1536 : Shape := ⟨1, ![1536]⟩
abbrev S1024 : Shape := ⟨1, ![1024]⟩
abbrev S6272 : Shape := ⟨1, ![6272]⟩
abbrev S1x6272 : Shape := ⟨2, ![1, 6272]⟩
abbrev S1024x512 : Shape := ⟨2, ![1024, 512]⟩
abbrev S1024x640 : Shape := ⟨2, ![1024, 640]⟩
abbrev S640x1024 : Shape := ⟨2, ![640, 1024]⟩
abbrev S512 : Shape := ⟨1, ![512]⟩
abbrev S640 : Shape := ⟨1, ![640]⟩
abbrev S640x1 : Shape := ⟨2, ![640, 1]⟩
abbrev S65536x6272 : Shape := ⟨2, ![65536, 6272]⟩
abbrev S640x65536 : Shape := ⟨2, ![640, 65536]⟩
abbrev S512x1024 : Shape := ⟨2, ![512, 1024]⟩
abbrev S512x6272 : Shape := ⟨2, ![512, 6272]⟩
abbrev S640x512 : Shape := ⟨2, ![640, 512]⟩
abbrev S1024x768 : Shape := ⟨2, ![1024, 768]⟩
abbrev S512x768 : Shape := ⟨2, ![512, 768]⟩
abbrev S1x768 : Shape := ⟨2, ![1, 768]⟩
abbrev S512x128 : Shape := ⟨2, ![512, 128]⟩
abbrev S1x128 : Shape := ⟨2, ![1, 128]⟩

abbrev nBuf : Space → Nat
  | .hbm => 43
  | .vmem => 10
  | .smem => 0
  | _ => 0

abbrev bufTy : (tb : Table) → Fin (tcTables nBuf tb) → BufTy
  | .hbm, ⟨0, _⟩ => ⟨S8x8192x1024, .f32⟩
  | .hbm, ⟨1, _⟩ => ⟨S1024x6912, .f32⟩
  | .hbm, ⟨2, _⟩ => ⟨S6912, .f32⟩
  | .hbm, ⟨3, _⟩ => ⟨S65536x1024, .f32⟩
  | .hbm, ⟨4, _⟩ => ⟨S1024x64, .f32⟩
  | .hbm, ⟨5, _⟩ => ⟨S1024x64, .f32⟩
  | .hbm, ⟨6, _⟩ => ⟨S1024x64, .f32⟩
  | .hbm, ⟨7, _⟩ => ⟨S1024x64, .f32⟩
  | .hbm, ⟨8, _⟩ => ⟨S1024x64, .f32⟩
  | .hbm, ⟨9, _⟩ => ⟨S1024x64, .f32⟩
  | .hbm, ⟨10, _⟩ => ⟨S1024x64, .f32⟩
  | .hbm, ⟨11, _⟩ => ⟨S1024x64, .f32⟩
  | .hbm, ⟨12, _⟩ => ⟨S1024x128, .f32⟩
  | .hbm, ⟨13, _⟩ => ⟨S1024x3072, .f32⟩
  | .hbm, ⟨14, _⟩ => ⟨S1024x1536, .f32⟩
  | .hbm, ⟨15, _⟩ => ⟨S1024x1024, .f32⟩
  | .hbm, ⟨16, _⟩ => ⟨S1024x6272, .f32⟩
  | .hbm, ⟨17, _⟩ => ⟨S1024x6272, .bf16⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S128, .f32⟩
  | .hbm, ⟨27, _⟩ => ⟨S3072, .f32⟩
  | .hbm, ⟨28, _⟩ => ⟨S1536, .f32⟩
  | .hbm, ⟨29, _⟩ => ⟨S1024, .f32⟩
  | .hbm, ⟨30, _⟩ => ⟨S6272, .f32⟩
  | .hbm, ⟨31, _⟩ => ⟨S1x6272, .f32⟩
  | .hbm, ⟨32, _⟩ => ⟨S1024x512, .f32⟩
  | .hbm, ⟨33, _⟩ => ⟨S1024x128, .f32⟩
  | .hbm, ⟨34, _⟩ => ⟨S1024x640, .f32⟩
  | .hbm, ⟨35, _⟩ => ⟨S640x1024, .f32⟩
  | .hbm, ⟨36, _⟩ => ⟨S640x1024, .bf16⟩
  | .hbm, ⟨37, _⟩ => ⟨S512, .f32⟩
  | .hbm, ⟨38, _⟩ => ⟨S128, .f32⟩
  | .hbm, ⟨39, _⟩ => ⟨S640, .f32⟩
  | .hbm, ⟨40, _⟩ => ⟨S640x1, .f32⟩
  | .hbm, ⟨41, _⟩ => ⟨S65536x6272, .bf16⟩
  | .hbm, ⟨42, _⟩ => ⟨S640x65536, .bf16⟩
  | .local _ .vmem, ⟨0, _⟩ => ⟨S512x1024, .f32⟩
  | .local _ .vmem, ⟨1, _⟩ => ⟨S512x1024, .f32⟩
  | .local _ .vmem, ⟨2, _⟩ => ⟨S1024x6272, .bf16⟩
  | .local _ .vmem, ⟨3, _⟩ => ⟨S1x6272, .f32⟩
  | .local _ .vmem, ⟨4, _⟩ => ⟨S640x1024, .bf16⟩
  | .local _ .vmem, ⟨5, _⟩ => ⟨S640x1, .f32⟩
  | .local _ .vmem, ⟨6, _⟩ => ⟨S512x6272, .bf16⟩
  | .local _ .vmem, ⟨7, _⟩ => ⟨S512x6272, .bf16⟩
  | .local _ .vmem, ⟨8, _⟩ => ⟨S640x512, .bf16⟩
  | .local _ .vmem, ⟨9, _⟩ => ⟨S640x512, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38_0 : Ref sig .tc := ⟨.hbm, 41, rfl⟩
abbrev main_v38_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6272 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6272 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S640x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S640x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x6272 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8x8192x1024 : Shape := ⟨3, ![8, 8192, 1024]⟩
abbrev S1024x6912 : Shape := ⟨2, ![1024, 6912]⟩
abbrev S6912 : Shape := ⟨1, ![6912]⟩
abbrev S8x8192x6912 : Shape := ⟨3, ![8, 8192, 6912]⟩
abbrev S1x1x6912 : Shape := ⟨3, ![1, 1, 6912]⟩
abbrev S8x8192x512 : Shape := ⟨3, ![8, 8192, 512]⟩
abbrev S8x8192x1536 : Shape := ⟨3, ![8, 8192, 1536]⟩
abbrev S8x8192x128 : Shape := ⟨3, ![8, 8192, 128]⟩
abbrev S8x8192x3072 : Shape := ⟨3, ![8, 8192, 3072]⟩
abbrev S_ : Shape := ⟨0, ![]⟩
abbrev S8x8192x2x4x64 : Shape := ⟨5, ![8, 8192, 2, 4, 64]⟩
abbrev S8x8192x4x2x64 : Shape := ⟨5, ![8, 8192, 4, 2, 64]⟩
abbrev S8x8192x6272 : Shape := ⟨3, ![8, 8192, 6272]⟩
abbrev S8x8192x640 : Shape := ⟨3, ![8, 8192, 640]⟩
abbrev S65536x6272 : Shape := ⟨2, ![65536, 6272]⟩
abbrev S65536x640 : Shape := ⟨2, ![65536, 640]⟩
abbrev S640x65536 : Shape := ⟨2, ![640, 65536]⟩

abbrev nBuf : Space → Nat
  | .hbm => 33
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024x6912, .f32⟩
  | .hbm, ⟨2, _⟩ => ⟨S6912, .f32⟩
  | .hbm, ⟨3, _⟩ => ⟨S8x8192x6912, .f32⟩
  | .hbm, ⟨4, _⟩ => ⟨S1x1x6912, .f32⟩
  | .hbm, ⟨5, _⟩ => ⟨S8x8192x6912, .f32⟩
  | .hbm, ⟨6, _⟩ => ⟨S8x8192x6912, .f32⟩
  | .hbm, ⟨7, _⟩ => ⟨S8x8192x512, .f32⟩
  | .hbm, ⟨8, _⟩ => ⟨S8x8192x512, .f32⟩
  | .hbm, ⟨9, _⟩ => ⟨S8x8192x512, .f32⟩
  | .hbm, ⟨10, _⟩ => ⟨S8x8192x1536, .f32⟩
  | .hbm, ⟨11, _⟩ => ⟨S8x8192x512, .f32⟩
  | .hbm, ⟨12, _⟩ => ⟨S8x8192x128, .f32⟩
  | .hbm, ⟨13, _⟩ => ⟨S8x8192x128, .f32⟩
  | .hbm, ⟨14, _⟩ => ⟨S8x8192x3072, .f32⟩
  | .hbm, ⟨15, _⟩ => ⟨S8x8192x3072, .f32⟩
  | .hbm, ⟨16, _⟩ => ⟨S8x8192x3072, .f32⟩
  | .hbm, ⟨17, _⟩ => ⟨S_, .f32⟩
  | .hbm, ⟨18, _⟩ => ⟨S8x8192x3072, .f32⟩
  | .hbm, ⟨19, _⟩ => ⟨S8x8192x3072, .f32⟩
  | .hbm, ⟨20, _⟩ => ⟨S_, .f32⟩
  | .hbm, ⟨21, _⟩ => ⟨S8x8192x3072, .f32⟩
  | .hbm, ⟨22, _⟩ => ⟨S8x8192x3072, .f32⟩
  | .hbm, ⟨23, _⟩ => ⟨S8x8192x2x4x64, .f32⟩
  | .hbm, ⟨24, _⟩ => ⟨S8x8192x4x2x64, .f32⟩
  | .hbm, ⟨25, _⟩ => ⟨S8x8192x512, .f32⟩
  | .hbm, ⟨26, _⟩ => ⟨S8x8192x6272, .f32⟩
  | .hbm, ⟨27, _⟩ => ⟨S8x8192x640, .f32⟩
  | .hbm, ⟨28, _⟩ => ⟨S65536x6272, .f32⟩
  | .hbm, ⟨29, _⟩ => ⟨S65536x6272, .bf16⟩
  | .hbm, ⟨30, _⟩ => ⟨S65536x640, .f32⟩
  | .hbm, ⟨31, _⟩ => ⟨S640x65536, .f32⟩
  | .hbm, ⟨32, _⟩ => ⟨S640x65536, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== Kernel4.lean ====
abbrev S8x8192x6912 : Shape := ⟨3, ![8, 8192, 6912]⟩
abbrev S8x15x31 : Shape := ⟨3, ![8, 15, 31]⟩
abbrev S64x64 : Shape := ⟨2, ![64, 64]⟩
abbrev S1x1x1x64x64 : Shape := ⟨5, ![1, 1, 1, 64, 64]⟩
abbrev S8x8192x64 : Shape := ⟨3, ![8, 8192, 64]⟩
abbrev S8x8192x128 : Shape := ⟨3, ![8, 8192, 128]⟩
abbrev S8x8192x3072 : Shape := ⟨3, ![8, 8192, 3072]⟩
abbrev S8x8192x1536 : Shape := ⟨3, ![8, 8192, 1536]⟩
abbrev S8x8192x1024 : Shape := ⟨3, ![8, 8192, 1024]⟩
abbrev S8x8192x6272 : Shape := ⟨3, ![8, 8192, 6272]⟩
abbrev S8x8192x512 : Shape := ⟨3, ![8, 8192, 512]⟩
abbrev S8x8192x640 : Shape := ⟨3, ![8, 8192, 640]⟩
abbrev S65536x640 : Shape := ⟨2, ![65536, 640]⟩
abbrev S640x65536 : Shape := ⟨2, ![640, 65536]⟩
abbrev S_ : Shape := ⟨0, ![]⟩
abbrev S8x15x127 : Shape := ⟨3, ![8, 15, 127]⟩
abbrev S8x15x64 : Shape := ⟨3, ![8, 15, 64]⟩
abbrev S8x15x1x64 : Shape := ⟨4, ![8, 15, 1, 64]⟩
abbrev S8x15x16x64 : Shape := ⟨4, ![8, 15, 16, 64]⟩
abbrev S8x15x64x64 : Shape := ⟨4, ![8, 15, 64, 64]⟩
abbrev S8x8x64x64 : Shape := ⟨4, ![8, 8, 64, 64]⟩
abbrev S1x8x8x64x64 : Shape := ⟨5, ![1, 8, 8, 64, 64]⟩
abbrev S8x8x8x64x64 : Shape := ⟨5, ![8, 8, 8, 64, 64]⟩
abbrev S8x8x512x64 : Shape := ⟨4, ![8, 8, 512, 64]⟩
abbrev S1x8x512x64 : Shape := ⟨4, ![1, 8, 512, 64]⟩
abbrev S8x512x64 : Shape := ⟨3, ![8, 512, 64]⟩
abbrev S8x640x64 : Shape := ⟨3, ![8, 640, 64]⟩
abbrev S8x640x128 : Shape := ⟨3, ![8, 640, 128]⟩
abbrev S1x8x640x128 : Shape := ⟨4, ![1, 8, 640, 128]⟩
abbrev S5x8x640x128 : Shape := ⟨4, ![5, 8, 640, 128]⟩
abbrev S1x512x512 : Shape := ⟨3, ![1, 512, 512]⟩
abbrev S1x8192x512 : Shape := ⟨3, ![1, 8192, 512]⟩
abbrev S512x8192 : Shape := ⟨2, ![512, 8192]⟩
abbrev S1x128x512 : Shape := ⟨3, ![1, 128, 512]⟩
abbrev S128x512 : Shape := ⟨2, ![128, 512]⟩
abbrev S1x640x512 : Shape := ⟨3, ![1, 640, 512]⟩
abbrev S640x512 : Shape := ⟨2, ![640, 512]⟩
abbrev S512x640 : Shape := ⟨2, ![512, 640]⟩
abbrev S640x128 : Shape := ⟨2, ![640, 128]⟩
abbrev S128x128 : Shape := ⟨2, ![128, 128]⟩
abbrev S1x128 : Shape := ⟨2, ![1, 128]⟩
abbrev S256x128 : Shape := ⟨2, ![256, 128]⟩
abbrev S640x256 : Shape := ⟨2, ![640, 256]⟩
abbrev S64x640 : Shape := ⟨2, ![64, 640]⟩
abbrev S1x1x640x128 : Shape := ⟨4, ![1, 1, 640, 128]⟩
abbrev S128 : Shape := ⟨1, ![128]⟩
abbrev S16x640 : Shape := ⟨2, ![16, 640]⟩
abbrev S80x640 : Shape := ⟨2, ![80, 640]⟩
abbrev S80x128 : Shape := ⟨2, ![80, 128]⟩
abbrev S64x128 : Shape := ⟨2, ![64, 128]⟩
abbrev S512x128 : Shape := ⟨2, ![512, 128]⟩

abbrev nBuf : Space → Nat
  | .hbm => 246
  | .vmem => 14
  | .smem => 0
  | _ => 0

abbrev hbmTy0_0 (i : Nat) : BufTy := match i % 128 with
  | 0 => ⟨S8x8192x6912, .f32⟩
  | 1 => ⟨S8x15x31, .f32⟩
  | 2 => ⟨S64x64, .i1⟩
  | 3 => ⟨S1x1x1x64x64, .i1⟩
  | 4 => ⟨S8x8192x64, .f32⟩
  | 5 => ⟨S8x8192x64, .f32⟩
  | 6 => ⟨S8x8192x64, .f32⟩
  | 7 => ⟨S8x8192x64, .f32⟩
  | 8 => ⟨S8x8192x64, .f32⟩
  | 9 => ⟨S8x8192x64, .f32⟩
  | 10 => ⟨S8x8192x64, .f32⟩
  | 11 => ⟨S8x8192x64, .f32⟩
  | 12 => ⟨S8x8192x128, .f32⟩
  | 13 => ⟨S8x8192x3072, .f32⟩
  | 14 => ⟨S8x8192x1536, .f32⟩
  | 15 => ⟨S8x8192x1024, .f32⟩
  | 16 => ⟨S8x8192x6272, .f32⟩
  | 17 => ⟨S8x8192x6272, .bf16⟩
  | 18 => ⟨S8x8192x512, .f32⟩
  | 19 => ⟨S8x8192x128, .f32⟩
  | 20 => ⟨S8x8192x640, .f32⟩
  | 21 => ⟨S65536x640, .f32⟩
  | 22 => ⟨S640x65536, .f32⟩
  | 23 => ⟨S640x65536, .bf16⟩
  | 24 => ⟨S_, .i32⟩
  | 25 => ⟨S_, .f32⟩
  | 26 => ⟨S8x15x127, .f32⟩
  | 27 => ⟨S8x15x64, .f32⟩
  | 28 => ⟨S8x15x64, .f32⟩
  | 29 => ⟨S8x15x64, .f32⟩
  | 30 => ⟨S8x15x64, .f32⟩
  | 31 => ⟨S8x15x64, .f32⟩
  | 32 => ⟨S8x15x64, .f32⟩
  | 33 => ⟨S8x15x64, .f32⟩
  | 34 => ⟨S8x15x64, .f32⟩
  | 35 => ⟨S8x15x64, .f32⟩
  | 36 => ⟨S8x15x64, .f32⟩
  | 37 => ⟨S8x15x64, .f32⟩
  | 38 => ⟨S8x15x64, .f32⟩
  | 39 => ⟨S8x15x64, .f32⟩
  | 40 => ⟨S8x15x64, .f32⟩
  | 41 => ⟨S8x15x64, .f32⟩
  | 42 => ⟨S8x15x64, .f32⟩
  | 43 => ⟨S8x15x64, .f32⟩
  | 44 => ⟨S8x15x64, .f32⟩
  | 45 => ⟨S8x15x64, .f32⟩
  | 46 => ⟨S8x15x64, .f32⟩
  | 47 => ⟨S8x15x64, .f32⟩
  | 48 => ⟨S8x15x64, .f32⟩
  | 49 => ⟨S8x15x64, .f32⟩
  | 50 => ⟨S8x15x64, .f32⟩
  | 51 => ⟨S8x15x64, .f32⟩
  | 52 => ⟨S8x15x64, .f32⟩
  | 53 => ⟨S8x15x64, .f32⟩
  | 54 => ⟨S8x15x64, .f32⟩
  | 55 => ⟨S8x15x64, .f32⟩
  | 56 => ⟨S8x15x64, .f32⟩
  | 57 => ⟨S8x15x64, .f32⟩
  | 58 => ⟨S8x15x64, .f32⟩
  | 59 => ⟨S8x15x64, .f32⟩
  | 60 => ⟨S8x15x64, .f32⟩
  | 61 => ⟨S8x15x64, .f32⟩
  | 62 => ⟨S8x15x64, .f32⟩
  | 63 => ⟨S8x15x64, .f32⟩
  | 64 => ⟨S8x15x64, .f32⟩
  | 65 => ⟨S8x15x64, .f32⟩
  | 66 => ⟨S8x15x64, .f32⟩
  | 67 => ⟨S8x15x64, .f32⟩
  | 68 => ⟨S8x15x64, .f32⟩
  | 69 => ⟨S8x15x64, .f32⟩
  | 70 => ⟨S8x15x64, .f32⟩
  | 71 => ⟨S8x15x64, .f32⟩
  | 72 => ⟨S8x15x64, .f32⟩
  | 73 => ⟨S8x15x64, .f32⟩
  | 74 => ⟨S8x15x64, .f32⟩
  | 75 => ⟨S8x15x64, .f32⟩
  | 76 => ⟨S8x15x64, .f32⟩
  | 77 => ⟨S8x15x64, .f32⟩
  | 78 => ⟨S8x15x64, .f32⟩
  | 79 => ⟨S8x15x64, .f32⟩
  | 80 => ⟨S8x15x64, .f32⟩
  | 81 => ⟨S8x15x64, .f32⟩
  | 82 => ⟨S8x15x64, .f32⟩
  | 83 => ⟨S8x15x64, .f32⟩
  | 84 => ⟨S8x15x64, .f32⟩
  | 85 => ⟨S8x15x64, .f32⟩
  | 86 => ⟨S8x15x64, .f32⟩
  | 87 => ⟨S8x15x64, .f32⟩
  | 88 => ⟨S8x15x64, .f32⟩
  | 89 => ⟨S8x15x64, .f32⟩
  | 90 => ⟨S8x15x64, .f32⟩
  | 91 => ⟨S8x15x1x64, .f32⟩
  | 92 => ⟨S8x15x1x64, .f32⟩
  | 93 => ⟨S8x15x1x64, .f32⟩
  | 94 => ⟨S8x15x1x64, .f32⟩
  | 95 => ⟨S8x15x1x64, .f32⟩
  | 96 => ⟨S8x15x1x64, .f32⟩
  | 97 => ⟨S8x15x1x64, .f32⟩
  | 98 => ⟨S8x15x1x64, .f32⟩
  | 99 => ⟨S8x15x1x64, .f32⟩
  | 100 => ⟨S8x15x1x64, .f32⟩
  | 101 => ⟨S8x15x1x64, .f32⟩
  | 102 => ⟨S8x15x1x64, .f32⟩
  | 103 => ⟨S8x15x1x64, .f32⟩
  | 104 => ⟨S8x15x1x64, .f32⟩
  | 105 => ⟨S8x15x1x64, .f32⟩
  | 106 => ⟨S8x15x1x64, .f32⟩
  | 107 => ⟨S8x15x1x64, .f32⟩
  | 108 => ⟨S8x15x1x64, .f32⟩
  | 109 => ⟨S8x15x1x64, .f32⟩
  | 110 => ⟨S8x15x1x64, .f32⟩
  | 111 => ⟨S8x15x1x64, .f32⟩
  | 112 => ⟨S8x15x1x64, .f32⟩
  | 113 => ⟨S8x15x1x64, .f32⟩
  | 114 => ⟨S8x15x1x64, .f32⟩
  | 115 => ⟨S8x15x1x64, .f32⟩
  | 116 => ⟨S8x15x1x64, .f32⟩
  | 117 => ⟨S8x15x1x64, .f32⟩
  | 118 => ⟨S8x15x1x64, .f32⟩
  | 119 => ⟨S8x15x1x64, .f32⟩
  | 120 => ⟨S8x15x1x64, .f32⟩
  | 121 => ⟨S8x15x1x64, .f32⟩
  | 122 => ⟨S8x15x1x64, .f32⟩
  | 123 => ⟨S8x15x1x64, .f32⟩
  | 124 => ⟨S8x15x1x64, .f32⟩
  | 125 => ⟨S8x15x1x64, .f32⟩
  | 126 => ⟨S8x15x1x64, .f32⟩
  | 127 => ⟨S8x15x1x64, .f32⟩
  | _ => ⟨S8x8192x6912, .f32⟩

abbrev hbmTy0_1 (i : Nat) : BufTy := match i % 128 with
  | 0 => ⟨S8x15x1x64, .f32⟩
  | 1 => ⟨S8x15x1x64, .f32⟩
  | 2 => ⟨S8x15x1x64, .f32⟩
  | 3 => ⟨S8x15x1x64, .f32⟩
  | 4 => ⟨S8x15x1x64, .f32⟩
  | 5 => ⟨S8x15x1x64, .f32⟩
  | 6 => ⟨S8x15x1x64, .f32⟩
  | 7 => ⟨S8x15x1x64, .f32⟩
  | 8 => ⟨S8x15x1x64, .f32⟩
  | 9 => ⟨S8x15x1x64, .f32⟩
  | 10 => ⟨S8x15x1x64, .f32⟩
  | 11 => ⟨S8x15x1x64, .f32⟩
  | 12 => ⟨S8x15x1x64, .f32⟩
  | 13 => ⟨S8x15x1x64, .f32⟩
  | 14 => ⟨S8x15x1x64, .f32⟩
  | 15 => ⟨S8x15x1x64, .f32⟩
  | 16 => ⟨S8x15x1x64, .f32⟩
  | 17 => ⟨S8x15x1x64, .f32⟩
  | 18 => ⟨S8x15x1x64, .f32⟩
  | 19 => ⟨S8x15x1x64, .f32⟩
  | 20 => ⟨S8x15x1x64, .f32⟩
  | 21 => ⟨S8x15x1x64, .f32⟩
  | 22 => ⟨S8x15x1x64, .f32⟩
  | 23 => ⟨S8x15x1x64, .f32⟩
  | 24 => ⟨S8x15x1x64, .f32⟩
  | 25 => ⟨S8x15x1x64, .f32⟩
  | 26 => ⟨S8x15x1x64, .f32⟩
  | 27 => ⟨S8x15x16x64, .f32⟩
  | 28 => ⟨S8x15x16x64, .f32⟩
  | 29 => ⟨S8x15x16x64, .f32⟩
  | 30 => ⟨S8x15x16x64, .f32⟩
  | 31 => ⟨S8x15x64x64, .f32⟩
  | 32 => ⟨S8x8x64x64, .f32⟩
  | 33 => ⟨S8x8x64x64, .f32⟩
  | 34 => ⟨S8x8x64x64, .f32⟩
  | 35 => ⟨S8x8x64x64, .f32⟩
  | 36 => ⟨S8x8x64x64, .f32⟩
  | 37 => ⟨S8x8x64x64, .f32⟩
  | 38 => ⟨S8x8x64x64, .f32⟩
  | 39 => ⟨S8x8x64x64, .f32⟩
  | 40 => ⟨S1x8x8x64x64, .f32⟩
  | 41 => ⟨S1x8x8x64x64, .f32⟩
  | 42 => ⟨S1x8x8x64x64, .f32⟩
  | 43 => ⟨S1x8x8x64x64, .f32⟩
  | 44 => ⟨S1x8x8x64x64, .f32⟩
  | 45 => ⟨S1x8x8x64x64, .f32⟩
  | 46 => ⟨S1x8x8x64x64, .f32⟩
  | 47 => ⟨S1x8x8x64x64, .f32⟩
  | 48 => ⟨S8x8x8x64x64, .f32⟩
  | 49 => ⟨S_, .f32⟩
  | 50 => ⟨S_, .f32⟩
  | 51 => ⟨S8x8x8x64x64, .i1⟩
  | 52 => ⟨S8x8x8x64x64, .f32⟩
  | 53 => ⟨S8x8x8x64x64, .f32⟩
  | 54 => ⟨S8x8x8x64x64, .f32⟩
  | 55 => ⟨S8x8x512x64, .f32⟩
  | 56 => ⟨S1x8x512x64, .f32⟩
  | 57 => ⟨S8x512x64, .f32⟩
  | 58 => ⟨S_, .f32⟩
  | 59 => ⟨S_, .f32⟩
  | 60 => ⟨S8x640x64, .f32⟩
  | 61 => ⟨S1x8x512x64, .f32⟩
  | 62 => ⟨S8x512x64, .f32⟩
  | 63 => ⟨S_, .f32⟩
  | 64 => ⟨S_, .f32⟩
  | 65 => ⟨S8x640x64, .f32⟩
  | 66 => ⟨S8x640x128, .f32⟩
  | 67 => ⟨S1x8x512x64, .f32⟩
  | 68 => ⟨S8x512x64, .f32⟩
  | 69 => ⟨S_, .f32⟩
  | 70 => ⟨S_, .f32⟩
  | 71 => ⟨S8x640x64, .f32⟩
  | 72 => ⟨S1x8x512x64, .f32⟩
  | 73 => ⟨S8x512x64, .f32⟩
  | 74 => ⟨S_, .f32⟩
  | 75 => ⟨S_, .f32⟩
  | 76 => ⟨S8x640x64, .f32⟩
  | 77 => ⟨S8x640x128, .f32⟩
  | 78 => ⟨S1x8x512x64, .f32⟩
  | 79 => ⟨S8x512x64, .f32⟩
  | 80 => ⟨S_, .f32⟩
  | 81 => ⟨S_, .f32⟩
  | 82 => ⟨S8x640x64, .f32⟩
  | 83 => ⟨S1x8x512x64, .f32⟩
  | 84 => ⟨S8x512x64, .f32⟩
  | 85 => ⟨S_, .f32⟩
  | 86 => ⟨S_, .f32⟩
  | 87 => ⟨S8x640x64, .f32⟩
  | 88 => ⟨S8x640x128, .f32⟩
  | 89 => ⟨S1x8x512x64, .f32⟩
  | 90 => ⟨S8x512x64, .f32⟩
  | 91 => ⟨S_, .f32⟩
  | 92 => ⟨S_, .f32⟩
  | 93 => ⟨S8x640x64, .f32⟩
  | 94 => ⟨S1x8x512x64, .f32⟩
  | 95 => ⟨S8x512x64, .f32⟩
  | 96 => ⟨S_, .f32⟩
  | 97 => ⟨S_, .f32⟩
  | 98 => ⟨S8x640x64, .f32⟩
  | 99 => ⟨S8x640x128, .f32⟩
  | 100 => ⟨S1x8x512x64, .f32⟩
  | 101 => ⟨S8x512x64, .f32⟩
  | 102 => ⟨S_, .f32⟩
  | 103 => ⟨S_, .f32⟩
  | 104 => ⟨S8x640x64, .f32⟩
  | 105 => ⟨S1x8x512x64, .f32⟩
  | 106 => ⟨S8x512x64, .f32⟩
  | 107 => ⟨S_, .f32⟩
  | 108 => ⟨S_, .f32⟩
  | 109 => ⟨S8x640x64, .f32⟩
  | 110 => ⟨S8x640x128, .f32⟩
  | 111 => ⟨S1x8x640x128, .f32⟩
  | 112 => ⟨S1x8x640x128, .f32⟩
  | 113 => ⟨S1x8x640x128, .f32⟩
  | 114 => ⟨S1x8x640x128, .f32⟩
  | 115 => ⟨S1x8x640x128, .f32⟩
  | 116 => ⟨S5x8x640x128, .f32⟩
  | 117 => ⟨S8x8192x512, .bf16⟩
  | _ => ⟨S8x8192x6912, .f32⟩

abbrev hbmTy (i : Nat) : BufTy := match i / 128 with
  | 0 => hbmTy0_0 i
  | 1 => hbmTy0_1 i
  | _ => ⟨S8x8192x6912, .f32⟩

abbrev bufTy : (tb : Table) → Fin (tcTables nBuf tb) → BufTy
  | .hbm, ⟨i, _⟩ => hbmTy i
  | .local _ .vmem, ⟨0, _⟩ => ⟨S1x512x512, .bf16⟩
  | .local _ .vmem, ⟨1, _⟩ => ⟨S1x512x512, .bf16⟩
  | .local _ .vmem, ⟨2, _⟩ => ⟨S1x8192x512, .bf16⟩
  | .local _ .vmem, ⟨3, _⟩ => ⟨S512x8192, .bf16⟩
  | .local _ .vmem, ⟨4, _⟩ => ⟨S1x8x640x128, .f32⟩
  | .local _ .vmem, ⟨5, _⟩ => ⟨S1x8x640x128, .f32⟩
  | .local _ .vmem, ⟨6, _⟩ => ⟨S1x8x640x128, .f32⟩
  | .local _ .vmem, ⟨7, _⟩ => ⟨S1x8x640x128, .f32⟩
  | .local _ .vmem, ⟨8, _⟩ => ⟨S1x8x640x128, .f32⟩
  | .local _ .vmem, ⟨9, _⟩ => ⟨S1x8x640x128, .f32⟩
  | .local _ .vmem, ⟨10, _⟩ => ⟨S1x8x640x128, .f32⟩
  | .local _ .vmem, ⟨11, _⟩ => ⟨S1x8x640x128, .f32⟩
  | .local _ .vmem, ⟨12, _⟩ => ⟨S1x512x512, .bf16⟩
  | .local _ .vmem, ⟨13, _⟩ => ⟨S1x512x512, .bf16⟩
  | _, _ => ⟨S8x8192x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_c_0 : Ref sig .tc := ⟨.hbm, 24, rfl⟩
abbrev main_call0_v0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩
abbrev main_v152 : Ref sig .tc := ⟨.hbm, 157, rfl⟩
abbrev main_v153 : Ref sig .tc := ⟨.hbm, 158, rfl⟩
abbrev main_v154 : Ref sig .tc := ⟨.hbm, 159, rfl⟩
abbrev main_v155 : Ref sig .tc := ⟨.hbm, 160, rfl⟩
abbrev main_v156 : Ref sig .tc := ⟨.hbm, 161, rfl⟩
abbrev main_v157 : Ref sig .tc := ⟨.hbm, 162, rfl⟩
abbrev main_v158 : Ref sig .tc := ⟨.hbm, 163, rfl⟩
abbrev main_v159 : Ref sig .tc := ⟨.hbm, 164, rfl⟩
abbrev main_v160 : Ref sig .tc := ⟨.hbm, 165, rfl⟩
abbrev main_v161 : Ref sig .tc := ⟨.hbm, 166, rfl⟩
abbrev main_v162 : Ref sig .tc := ⟨.hbm, 167, rfl⟩
abbrev main_v163 : Ref sig .tc := ⟨.hbm, 168, rfl⟩
abbrev main_v164 : Ref sig .tc := ⟨.hbm, 169, rfl⟩
abbrev main_v165 : Ref sig .tc := ⟨.hbm, 170, rfl⟩
abbrev main_v166 : Ref sig .tc := ⟨.hbm, 171, rfl⟩
abbrev main_v167 : Ref sig .tc := ⟨.hbm, 172, rfl⟩
abbrev main_v168 : Ref sig .tc := ⟨.hbm, 173, rfl⟩
abbrev main_v169 : Ref sig .tc := ⟨.hbm, 174, rfl⟩
abbrev main_v170 : Ref sig .tc := ⟨.hbm, 175, rfl⟩
abbrev main_v171 : Ref sig .tc := ⟨.hbm, 176, rfl⟩
abbrev main_cst : Ref sig .tc := ⟨.hbm, 177, rfl⟩
abbrev main_call1_v0 : Ref sig .tc := ⟨.hbm, 178, rfl⟩
abbrev main_call1_v1 : Ref sig .tc := ⟨.hbm, 179, rfl⟩
abbrev main_call1_v2 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_cst_1 : Ref sig .tc := ⟨.hbm, 186, rfl⟩
abbrev main_call2_v0 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_cst_2 : Ref sig .tc := ⟨.hbm, 191, rfl⟩
abbrev main_call3_v0 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_cst_3 : Ref sig .tc := ⟨.hbm, 197, rfl⟩
abbrev main_call4_v0 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_cst_4 : Ref sig .tc := ⟨.hbm, 202, rfl⟩
abbrev main_call5_v0 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_cst_5 : Ref sig .tc := ⟨.hbm, 208, rfl⟩
abbrev main_call6_v0 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_cst_6 : Ref sig .tc := ⟨.hbm, 213, rfl⟩
abbrev main_call7_v0 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_cst_7 : Ref sig .tc := ⟨.hbm, 219, rfl⟩
abbrev main_call8_v0 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_cst_8 : Ref sig .tc := ⟨.hbm, 224, rfl⟩
abbrev main_call9_v0 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_cst_9 : Ref sig .tc := ⟨.hbm, 230, rfl⟩
abbrev main_call10_v0 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_cst_10 : Ref sig .tc := ⟨.hbm, 235, rfl⟩
abbrev main_call11_v0 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let c118_i32 : BitVec 32 := 118#32
  let c0_i32_1 : BitVec 32 := 0#32
  let c2_i32 : BitVec 32 := 2#32
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let v2 : BitVec 32 := Scalar.muli c2_i32 v1
  let c4_i32_0 : BitVec 32 := 4#32
  let v3 : BitVec 32 := Scalar.subi v2 c4_i32_0
  let v4 : BitVec 32 := Scalar.maxsi c0_i32_1 v3
  let v5 : BitVec 32 := Scalar.minsi c118_i32 v4
  let c64_i32 : BitVec 32 := 64#32
  let v6 : BitVec 32 := Scalar.muli v5 c64_i32
  v6
def k0_off1 (i : grid0.Coords) (c0_i32 : BitVec 32) : Fin 3 → Nat :=
  let c0_4 : Index := 0#32
  let c118_i32 : BitVec 32 := 118#32
  let c0_i32_1 : BitVec 32 := 0#32
  let c2_i32 : BitVec 32 := 2#32
  let arg1 : BitVec 32 := BitVec.ofNat 32 (i 1).val
  let c4_i32 : BitVec 32 := 4#32
  let v0 : BitVec 32 := Scalar.muli arg1 c4_i32
  let v1 : BitVec 32 := Scalar.addi v0 c0_i32
  let v2 : BitVec 32 := Scalar.muli c2_i32 v1
  let c4_i32_0 : BitVec 32 := 4#32
  let v3 : BitVec 32 := Scalar.subi v2 c4_i32_0
  let v4 : BitVec 32 := Scalar.maxsi c0_i32_1 v3
  let v5 : BitVec 32 := Scalar.minsi c118_i32 v4
  let c64_i32 : BitVec 32 := 64#32
  let v6 : BitVec 32 := Scalar.muli v5 c64_i32
  let v7 : BitVec 32 := v6
  let v14 : Index := Scalar.indexCast v7
  let c0_5 : Index := 0#32
  ![0, v14.toNat, 0]
def k0_off2 (i : grid0.Coords) (c0_i32 : BitVec 32) : Fin 2 → Nat :=
  let c0_6 : Index := 0#32
  let c118_i32 : BitVec 32 := 118#32
  let c0_i32_1 : BitVec 32 := 0#32
  let c2_i32 : BitVec 32 := 2#32
  let arg1 : BitVec 32 := BitVec.ofNat 32 (i 1).val
  let c4_i32 : BitVec 32 := 4#32
  let v0 : BitVec 32 := Scalar.muli arg1 c4_i32
  let v1 : BitVec 32 := Scalar.addi v0 c0_i32
  let v2 : BitVec 32 := Scalar.muli c2_i32 v1
  let c4_i32_0 : BitVec 32 := 4#32
  let v3 : BitVec 32 := Scalar.subi v2 c4_i32_0
  let v4 : BitVec 32 := Scalar.maxsi c0_i32_1 v3
  let v5 : BitVec 32 := Scalar.minsi c118_i32 v4
  let c64_i32 : BitVec 32 := 64#32
  let v6 : BitVec 32 := Scalar.muli v5 c64_i32
  let v7 : BitVec 32 := v6
  let v17 : Index := Scalar.indexCast v7
  ![0, v17.toNat]
def k0_mult2 (i : grid0.Coords) : BitVec 32 :=
  let c118_i32_72 : BitVec 32 := 118#32
  let c0_i32_71 : BitVec 32 := 0#32
  let c2_i32_69 : BitVec 32 := 2#32
  let arg1 : BitVec 32 := BitVec.ofNat 32 (i 1).val
  let c4_i32_68 : BitVec 32 := 4#32
  let v192 : BitVec 32 := Scalar.muli arg1 c4_i32_68
  let c1_i32 : BitVec 32 := 1#32
  let v193 : BitVec 32 := Scalar.addi v192 c1_i32
  let v194 : BitVec 32 := Scalar.muli c2_i32_69 v193
  let c4_i32_70 : BitVec 32 := 4#32
  let v195 : BitVec 32 := Scalar.subi v194 c4_i32_70
  let v196 : BitVec 32 := Scalar.maxsi c0_i32_71 v195
  let v197 : BitVec 32 := Scalar.minsi c118_i32_72 v196
  let c64_i32_73 : BitVec 32 := 64#32
  let v198 : BitVec 32 := Scalar.muli v197 c64_i32_73
  v198
def k0_mult3 (i : grid0.Coords) : BitVec 32 :=
  let c118_i32_153 : BitVec 32 := 118#32
  let c0_i32_152 : BitVec 32 := 0#32
  let c2_i32_150 : BitVec 32 := 2#32
  let arg1 : BitVec 32 := BitVec.ofNat 32 (i 1).val
  let c4_i32_148 : BitVec 32 := 4#32
  let v384 : BitVec 32 := Scalar.muli arg1 c4_i32_148
  let c2_i32_149 : BitVec 32 := 2#32
  let v385 : BitVec 32 := Scalar.addi v384 c2_i32_149
  let v386 : BitVec 32 := Scalar.muli c2_i32_150 v385
  let c4_i32_151 : BitVec 32 := 4#32
  let v387 : BitVec 32 := Scalar.subi v386 c4_i32_151
  let v388 : BitVec 32 := Scalar.maxsi c0_i32_152 v387
  let v389 : BitVec 32 := Scalar.minsi c118_i32_153 v388
  let c64_i32_154 : BitVec 32 := 64#32
  let v390 : BitVec 32 := Scalar.muli v389 c64_i32_154
  v390
def k0_mult4 (i : grid0.Coords) : BitVec 32 :=
  let c118_i32_233 : BitVec 32 := 118#32
  let c0_i32_232 : BitVec 32 := 0#32
  let c2_i32_230 : BitVec 32 := 2#32
  let arg1 : BitVec 32 := BitVec.ofNat 32 (i 1).val
  let c4_i32_229 : BitVec 32 := 4#32
  let v576 : BitVec 32 := Scalar.muli arg1 c4_i32_229
  let c3_i32 : BitVec 32 := 3#32
  let v577 : BitVec 32 := Scalar.addi v576 c3_i32
  let v578 : BitVec 32 := Scalar.muli c2_i32_230 v577
  let c4_i32_231 : BitVec 32 := 4#32
  let v579 : BitVec 32 := Scalar.subi v578 c4_i32_231
  let v580 : BitVec 32 := Scalar.maxsi c0_i32_232 v579
  let v581 : BitVec 32 := Scalar.minsi c118_i32_233 v580
  let c64_i32_234 : BitVec 32 := 64#32
  let v582 : BitVec 32 := Scalar.muli v581 c64_i32_234
  v582
def cc0_transform_0 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c10_i32 : BitVec 32 := 10#32
  let c0_i32_0 : BitVec 32 := 0#32
  ![arg0.toNat, c0_i32.toNat, c10_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c2_i32 : BitVec 32 := 2#32
  let v2 : BitVec 1 := Scalar.cmpi .slt v1 c2_i32
  let c61_i32 : BitVec 32 := 61#32
  let v3 : BitVec 1 := Scalar.cmpi .sgt v1 c61_i32
  let c59_i32 : BitVec 32 := 59#32
  let v4 : BitVec 32 := Scalar.subi v1 c59_i32
  let c2_i32_0 : BitVec 32 := 2#32
  let v5 : BitVec 32 := Scalar.select v3 v4 c2_i32_0
  let v6 : BitVec 32 := Scalar.select v2 v1 v5
  let c0_i32_1 : BitVec 32 := 0#32
  let c0_i32_2 : BitVec 32 := 0#32
  let c0_i32_3 : BitVec 32 := 0#32
  let c0_i32_4 : BitVec 32 := 0#32
  ![v6.toNat, c0_i32_1.toNat, c0_i32_2.toNat, c0_i32_3.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c2_i32 : BitVec 32 := 2#32
  let v2 : BitVec 1 := Scalar.cmpi .slt v1 c2_i32
  let c61_i32 : BitVec 32 := 61#32
  let v3 : BitVec 1 := Scalar.cmpi .sgt v1 c61_i32
  let c59_i32 : BitVec 32 := 59#32
  let v4 : BitVec 32 := Scalar.subi v1 c59_i32
  let c2_i32_0 : BitVec 32 := 2#32
  let v5 : BitVec 32 := Scalar.select v3 v4 c2_i32_0
  let v6 : BitVec 32 := Scalar.select v2 v1 v5
  let c0_i32 : BitVec 32 := 0#32
  let c0_i32_1 : BitVec 32 := 0#32
  let c0_i32_2 : BitVec 32 := 0#32
  let c0_i32_3 : BitVec 32 := 0#32
  ![v6.toNat, c0_i32.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c2_i32_0 : BitVec 32 := 2#32
  let v2 : BitVec 1 := Scalar.cmpi .slt v1 c2_i32_0
  let c61_i32 : BitVec 32 := 61#32
  let v3 : BitVec 1 := Scalar.cmpi .sgt v1 c61_i32
  let c59_i32 : BitVec 32 := 59#32
  let v4 : BitVec 32 := Scalar.subi v1 c59_i32
  let c2_i32_1 : BitVec 32 := 2#32
  let v5 : BitVec 32 := Scalar.select v3 v4 c2_i32_1
  let v6 : BitVec 32 := Scalar.select v2 v1 v5
  let c0_i32 : BitVec 32 := 0#32
  let c0_i32_2 : BitVec 32 := 0#32
  let c0_i32_3 : BitVec 32 := 0#32
  let c0_i32_4 : BitVec 32 := 0#32
  ![v6.toNat, c0_i32.toNat, c0_i32_2.toNat, c0_i32_3.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c2_i32 : BitVec 32 := 2#32
  let v2 : BitVec 1 := Scalar.cmpi .slt v1 c2_i32
  let c61_i32 : BitVec 32 := 61#32
  let v3 : BitVec 1 := Scalar.cmpi .sgt v1 c61_i32
  let c59_i32 : BitVec 32 := 59#32
  let v4 : BitVec 32 := Scalar.subi v1 c59_i32
  let c2_i32_0 : BitVec 32 := 2#32
  let v5 : BitVec 32 := Scalar.select v3 v4 c2_i32_0
  let v6 : BitVec 32 := Scalar.select v2 v1 v5
  let c0_i32 : BitVec 32 := 0#32
  let c0_i32_1 : BitVec 32 := 0#32
  let c0_i32_2 : BitVec 32 := 0#32
  let c0_i32_3 : BitVec 32 := 0#32
  ![v6.toNat, c0_i32.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x8x640x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x8x640x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x8x640x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x8x640x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel4Ideal.lean ====
variable {F : FTy → Type} [FloatOps F] [Named F]
def κ : String → Option EReal := fun
  | "log2e" => some (((Real.log 2)⁻¹ : ℝ) : EReal)
  | "qscale" => some ((8⁻¹ * (Real.log 2)⁻¹ : ℝ) : EReal)
  | _ => none
-- ==== Reference4Ideal.lean ====
abbrev S8x8192x6912 : Shape := ⟨3, ![8, 8192, 6912]⟩
abbrev S8x15x31 : Shape := ⟨3, ![8, 15, 31]⟩
abbrev S8x8192x512 : Shape := ⟨3, ![8, 8192, 512]⟩
abbrev S8x8192x8x64 : Shape := ⟨4, ![8, 8192, 8, 64]⟩
abbrev S128x64 : Shape := ⟨2, ![128, 64]⟩
abbrev S8192 : Shape := ⟨1, ![8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S8192x8192x1 : Shape := ⟨3, ![8192, 8192, 1]⟩
abbrev S8192x8192x2 : Shape := ⟨3, ![8192, 8192, 2]⟩
abbrev S8x8192x8192 : Shape := ⟨3, ![8, 8192, 8192]⟩
abbrev S8x8x8192x8192 : Shape := ⟨4, ![8, 8, 8192, 8192]⟩
abbrev S1x8x8192x8192 : Shape := ⟨4, ![1, 8, 8192, 8192]⟩
abbrev S8x8x8192 : Shape := ⟨3, ![8, 8, 8192]⟩
abbrev S8x8x8192x1 : Shape := ⟨4, ![8, 8, 8192, 1]⟩
abbrev S8x8x64x8192 : Shape := ⟨4, ![8, 8, 64, 8192]⟩

abbrev nBuf : Space → Nat
  | .hbm => 139
  | .vmem => 0
  | .smem => 0
  | _ => 0

abbrev hbmTy0_0 (i : Nat) : BufTy := match i % 128 with
  | 0 => ⟨S8x8192x6912, .f32⟩
  | 1 => ⟨S8x15x31, .f32⟩
  | 2 => ⟨S8x8192x512, .f32⟩
  | 3 => ⟨S8x8192x8x64, .f32⟩
  | 4 => ⟨S8x8192x512, .f32⟩
  | 5 => ⟨S8x8192x8x64, .f32⟩
  | 6 => ⟨S8x8192x512, .f32⟩
  | 7 => ⟨S8x8192x8x64, .f32⟩
  | 8 => ⟨S128x64, .i32⟩
  | 9 => ⟨S8192, .i32⟩
  | 10 => ⟨S128x64, .i32⟩
  | 11 => ⟨S8192, .i32⟩
  | 12 => ⟨S_, .i32⟩
  | 13 => ⟨S8192, .i32⟩
  | 14 => ⟨S8192, .i32⟩
  | 15 => ⟨S_, .i32⟩
  | 16 => ⟨S_, .i32⟩
  | 17 => ⟨S_, .i32⟩
  | 18 => ⟨S8192, .i32⟩
  | 19 => ⟨S8192, .i32⟩
  | 20 => ⟨S_, .i32⟩
  | 21 => ⟨S8192, .i32⟩
  | 22 => ⟨S8192, .i32⟩
  | 23 => ⟨S_, .i32⟩
  | 24 => ⟨S8192, .i32⟩
  | 25 => ⟨S8192, .i32⟩
  | 26 => ⟨S_, .i32⟩
  | 27 => ⟨S_, .i32⟩
  | 28 => ⟨S_, .i32⟩
  | 29 => ⟨S8192, .i32⟩
  | 30 => ⟨S8192, .i32⟩
  | 31 => ⟨S_, .i32⟩
  | 32 => ⟨S8192, .i32⟩
  | 33 => ⟨S8192, .i32⟩
  | 34 => ⟨S1x8192, .i32⟩
  | 35 => ⟨S8192x1, .i32⟩
  | 36 => ⟨S8192x8192, .i32⟩
  | 37 => ⟨S8192x8192, .i32⟩
  | 38 => ⟨S8192x8192, .i32⟩
  | 39 => ⟨S1x8192, .i32⟩
  | 40 => ⟨S8192x1, .i32⟩
  | 41 => ⟨S8192x8192, .i32⟩
  | 42 => ⟨S8192x8192, .i32⟩
  | 43 => ⟨S8192x8192, .i32⟩
  | 44 => ⟨S_, .i32⟩
  | 45 => ⟨S8192x8192, .i32⟩
  | 46 => ⟨S8192x8192, .i1⟩
  | 47 => ⟨S_, .i32⟩
  | 48 => ⟨S8192x8192, .i32⟩
  | 49 => ⟨S8192x8192, .i1⟩
  | 50 => ⟨S8192x8192, .i1⟩
  | 51 => ⟨S_, .i32⟩
  | 52 => ⟨S8192x8192, .i32⟩
  | 53 => ⟨S8192x8192, .i1⟩
  | 54 => ⟨S8192x8192, .i1⟩
  | 55 => ⟨S_, .i32⟩
  | 56 => ⟨S8192x8192, .i32⟩
  | 57 => ⟨S8192x8192, .i1⟩
  | 58 => ⟨S8192x8192, .i1⟩
  | 59 => ⟨S1x8192, .i32⟩
  | 60 => ⟨S8192x1, .i32⟩
  | 61 => ⟨S8192x8192, .i32⟩
  | 62 => ⟨S8192x8192, .i32⟩
  | 63 => ⟨S8192x8192, .i32⟩
  | 64 => ⟨S_, .i32⟩
  | 65 => ⟨S8192x8192, .i32⟩
  | 66 => ⟨S8192x8192, .i32⟩
  | 67 => ⟨S_, .i32⟩
  | 68 => ⟨S_, .i32⟩
  | 69 => ⟨S_, .i32⟩
  | 70 => ⟨S8192x8192, .i32⟩
  | 71 => ⟨S8192x8192, .i32⟩
  | 72 => ⟨S_, .i32⟩
  | 73 => ⟨S8192x8192, .i32⟩
  | 74 => ⟨S8192x8192, .i32⟩
  | 75 => ⟨S1x8192, .i32⟩
  | 76 => ⟨S8192x1, .i32⟩
  | 77 => ⟨S8192x8192, .i32⟩
  | 78 => ⟨S8192x8192, .i32⟩
  | 79 => ⟨S8192x8192, .i32⟩
  | 80 => ⟨S_, .i32⟩
  | 81 => ⟨S8192x8192, .i32⟩
  | 82 => ⟨S8192x8192, .i32⟩
  | 83 => ⟨S_, .i32⟩
  | 84 => ⟨S_, .i32⟩
  | 85 => ⟨S_, .i32⟩
  | 86 => ⟨S8192x8192, .i32⟩
  | 87 => ⟨S8192x8192, .i32⟩
  | 88 => ⟨S_, .i32⟩
  | 89 => ⟨S8192x8192, .i32⟩
  | 90 => ⟨S8192x8192, .i32⟩
  | 91 => ⟨S_, .i32⟩
  | 92 => ⟨S8192x8192, .i32⟩
  | 93 => ⟨S8192x8192, .i1⟩
  | 94 => ⟨S_, .i32⟩
  | 95 => ⟨S8192x8192, .i32⟩
  | 96 => ⟨S8192x8192, .i32⟩
  | 97 => ⟨S8192x8192, .i32⟩
  | 98 => ⟨S_, .i32⟩
  | 99 => ⟨S8192x8192, .i32⟩
  | 100 => ⟨S8192x8192, .i1⟩
  | 101 => ⟨S_, .i32⟩
  | 102 => ⟨S8192x8192, .i32⟩
  | 103 => ⟨S8192x8192, .i32⟩
  | 104 => ⟨S8192x8192, .i32⟩
  | 105 => ⟨S8192x8192x1, .i32⟩
  | 106 => ⟨S8192x8192x1, .i32⟩
  | 107 => ⟨S8192x8192x2, .i32⟩
  | 108 => ⟨S8x8192x8192, .f32⟩
  | 109 => ⟨S8x8x8192x8192, .f32⟩
  | 110 => ⟨S_, .f32⟩
  | 111 => ⟨S8x8x8192x8192, .f32⟩
  | 112 => ⟨S8x8x8192x8192, .f32⟩
  | 113 => ⟨S1x8x8192x8192, .f32⟩
  | 114 => ⟨S8x8x8192x8192, .f32⟩
  | 115 => ⟨S8x8x8192x8192, .f32⟩
  | 116 => ⟨S_, .f32⟩
  | 117 => ⟨S_, .f32⟩
  | 118 => ⟨S8x8x8192x8192, .i1⟩
  | 119 => ⟨S8x8x8192x8192, .f32⟩
  | 120 => ⟨S8x8x8192x8192, .f32⟩
  | 121 => ⟨S_, .f32⟩
  | 122 => ⟨S8x8x8192, .f32⟩
  | 123 => ⟨S_, .f32⟩
  | 124 => ⟨S8x8x8192, .f32⟩
  | 125 => ⟨S8x8x8192, .f32⟩
  | 126 => ⟨S8x8x8192x1, .f32⟩
  | 127 => ⟨S8x8x8192x8192, .f32⟩
  | _ => ⟨S8x8192x6912, .f32⟩

abbrev hbmTy0_1 (i : Nat) : BufTy := match i % 128 with
  | 0 => ⟨S8x8x8192x8192, .f32⟩
  | 1 => ⟨S8x8x8192x8192, .f32⟩
  | 2 => ⟨S_, .f32⟩
  | 3 => ⟨S8x8x8192, .f32⟩
  | 4 => ⟨S8x8x8192x1, .f32⟩
  | 5 => ⟨S8x8x8192x8192, .f32⟩
  | 6 => ⟨S8x8x8192x8192, .f32⟩
  | 7 => ⟨S8x8x64x8192, .f32⟩
  | 8 => ⟨S8x8192x8x64, .f32⟩
  | 9 => ⟨S8x8192x512, .f32⟩
  | 10 => ⟨S8x8192x512, .bf16⟩
  | _ => ⟨S8x8192x6912, .f32⟩

abbrev hbmTy (i : Nat) : BufTy := match i / 128 with
  | 0 => hbmTy0_0 i
  | 1 => hbmTy0_1 i
  | _ => ⟨S8x8192x6912, .f32⟩

abbrev bufTy : (tb : Table) → Fin (tcTables nBuf tb) → BufTy
  | .hbm, ⟨i, _⟩ => hbmTy i
  | _, _ => ⟨S8x8192x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_v10 : Ref sig .tc := ⟨.hbm, 13, rfl⟩
abbrev main_v11 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_c_4 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_9 : Ref sig .tc := ⟨.hbm, 64, rfl⟩
abbrev main_v42 : Ref sig .tc := ⟨.hbm, 65, rfl⟩
abbrev main_v43 : Ref sig .tc := ⟨.hbm, 66, rfl⟩
abbrev main_c_10 : Ref sig .tc := ⟨.hbm, 67, rfl⟩
abbrev main_c_11 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_12 : Ref sig .tc := ⟨.hbm, 80, rfl⟩
abbrev main_v50 : Ref sig .tc := ⟨.hbm, 81, rfl⟩
abbrev main_v51 : Ref sig .tc := ⟨.hbm, 82, rfl⟩
abbrev main_c_13 : Ref sig .tc := ⟨.hbm, 83, rfl⟩
abbrev main_c_14 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_v52 : Ref sig .tc := ⟨.hbm, 90, rfl⟩
abbrev main_c_15 : Ref sig .tc := ⟨.hbm, 91, rfl⟩
abbrev main_v53 : Ref sig .tc := ⟨.hbm, 92, rfl⟩
abbrev main_v54 : Ref sig .tc := ⟨.hbm, 93, rfl⟩
abbrev main_c_16 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_c_17 : Ref sig .tc := ⟨.hbm, 98, rfl⟩
abbrev main_v58 : Ref sig .tc := ⟨.hbm, 99, rfl⟩
abbrev main_v59 : Ref sig .tc := ⟨.hbm, 100, rfl⟩
abbrev main_c_18 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_cst : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_19 : Ref sig .tc := ⟨.hbm, 116, rfl⟩
abbrev main_call4_v0 : Ref sig .tc := ⟨.hbm, 117, rfl⟩
abbrev main_call4_v1 : Ref sig .tc := ⟨.hbm, 118, rfl⟩
abbrev main_call4_v2 : Ref sig .tc := ⟨.hbm, 119, rfl⟩
abbrev main_v73 : Ref sig .tc := ⟨.hbm, 120, rfl⟩
abbrev main_cst_20 : Ref sig .tc := ⟨.hbm, 121, rfl⟩
abbrev main_v74 : Ref sig .tc := ⟨.hbm, 122, rfl⟩
abbrev main_cst_21 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_cst_22 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩

abbrev nD : Nat := 1
abbrev τ : Topo := Topo.v7x

variable {F : FTy → Type} [FloatOps F]
-- ==== Proof.Block.lean ====
/- What the attention kernel's body leaves in its output block: four blocks of 128 rows, each the same function
   (`rowsOut`) of 128 query rows, the 384 keys and values its window reads, the bias table and the sinks. -/
module

public import proofs.«01_k».proof.Proof.Gen.KernelIdeal.Value
public import Idealize.ShloMosaic.Lib.Pipeline.Value
public import Idealize.ShloMosaic.Lib.Pointwise

@[expose] public section

noncomputable section

namespace Cert.KernelIdeal.Block

open Cert.KernelIdeal Cert.KernelIdeal.Gen Idealize.ShloMosaic Idealize.ShloMosaic.TcCoe Idealize.SL.Sem
open Idealize.ShloMosaic.Pipeline (Dat)

variable {F : FTy → Type} [FloatOps F] [Named F]

/-- The queries of a block, scaled. -/
def scaled (q : Vec F S1x128x512 .bf16) : FVec F S128x512 .bf16 :=
  truncf .bf16 (mulf (extf .f32 (shapeCast S128x512 q shapeCasts_S1x128x512_S128x512) bitsLt_bf16_f32)
    (broadcast S128x512 (Named.named κ "qscale" 0x3E38AA3B#32))) bitsLt_bf16_f32

/-- Two heads' queries one under the other: of 128 lanes the first keeps the lower half, the second the upper half. -/
def twoHeads (x : FVec F S128x128 .bf16) : FVec F S256x128 .bf16 :=
  concatenate S256x128 0
    [⟨S128x128, select (broadcastTo S128x128 (shapeCast S1x128
        (cmpi .slt (iota .tc S1x128 32 [1] iota_S1x128_d1_w32) (broadcast S1x128 64#32)) shapeCasts_S1x128_S1x128)
        broadcasts_S1x128_S128x128) x (broadcast S128x128 (Scalar.ofBits .bf16 0x0000#16))⟩,
     ⟨S128x128, select (broadcastTo S128x128 (shapeCast S1x128
        (cmpi .sge (iota .tc S1x128 32 [1] iota_S1x128_d1_w32) (broadcast S1x128 64#32)) shapeCasts_S1x128_S1x128)
        broadcasts_S1x128_S128x128) x (broadcast S128x128 (Scalar.ofBits .bf16 0x0000#16))⟩]
    concatenates_S128x128_S128x128_S256x128_d0

/-- The products of the keys with the queries of two heads: 384 keys by twice 128 queries. -/
def products (k : FVec F S384x128 .bf16) (x : FVec F S128x128 .bf16) : FVec F S384x256 .f32 :=
  matmul dot_S384x128_S256x128_S384x256_1_1_0_0_n_n none k (twoHeads x) (constant S384x256 .f32 0x00000000#32)

/-- The scores of one head in units of one binary digit. -/
def scores (s : FVec F S384x128 .f32) (tab : Vec F S1x1x384x128 .f32) : FVec F S384x128 .f32 :=
  addf s (mulf (shapeCast S384x128 tab shapeCasts_S1x1x384x128_S384x128)
    (broadcast S384x128 (Named.named κ "log2e" 0x3FB8AA3B#32)))

/-- The sink of one head, in the same units. -/
def sinkBits (σ : Elt F .f32) : F .f32 := Scalar.mulf σ (Named.named κ "log2e" 0x3FB8AA3B#32)

/-- The greatest score of each query, the sink among them. -/
def greatest (s : FVec F S384x128 .f32) (σ : F .f32) : FVec F S1x128 .f32 :=
  maximumf (shapeCast S1x128 (multiReduction .maximumf [0] S128 s 0xFF800000#32 reduces_S384x128_S128 (.inl rfl) rfl)
    shapeCasts_S128_S1x128) (broadcast S1x128 σ)

/-- The weights of the keys, not yet divided by their total. -/
def weights (s : FVec F S384x128 .f32) (σ : F .f32) : FVec F S384x128 .bf16 :=
  truncf .bf16 (exp2 (subf s (broadcastTo S384x128 (greatest s σ) broadcasts_S1x128_S384x128))) bitsLt_bf16_f32

/-- The weight of the sink. -/
def sinkWeight (s : FVec F S384x128 .f32) (σ : F .f32) : FVec F S1x128 .f32 :=
  exp2 (subf (broadcast S1x128 σ) (greatest s σ))

/-- The weighted values, and under them the weights' total. -/
def weighed (v : FVec F S64x384 .bf16) (p : FVec F S384x128 .bf16) : FVec F S80x128 .f32 :=
  matmul dot_S80x384_S384x128_S80x128_1_0_0_1_n_n none
    (concatenate S80x384 0 [⟨S64x384, v⟩, ⟨S16x384, broadcast S16x384 (Scalar.ofBits .bf16 0x3F80#16)⟩]
      concatenates_S64x384_S16x384_S80x384_d0) p (constant S80x128 .f32 0x00000000#32)

/-- One head's result, transposed. -/
def headOut (v : FVec F S64x384 .bf16) (s : FVec F S384x128 .f32) (σ : F .f32) : FVec F S64x128 .f32 :=
  divf (extractStridedSlice S64x128 ![0, 0] (weighed v (weights s σ)) slices_S80x128_o0_0_S64x128)
    (broadcastTo S64x128 (addf (extractStridedSlice S1x128 ![64, 0] (weighed v (weights s σ)) slices_S80x128_o64_0_S1x128)
      (sinkWeight s σ)) broadcasts_S1x128_S64x128)

/-- The heads' queries by lane group. -/
def group0 (q : Vec F S1x128x512 .bf16) : FVec F S128x128 .bf16 :=
  extractStridedSlice S128x128 ![0, 0] (scaled q) slices_S128x512_o0_0_S128x128
def group1 (q : Vec F S1x128x512 .bf16) : FVec F S128x128 .bf16 :=
  extractStridedSlice S128x128 ![0, 128] (scaled q) slices_S128x512_o0_128_S128x128
def group2 (q : Vec F S1x128x512 .bf16) : FVec F S128x128 .bf16 :=
  extractStridedSlice S128x128 ![0, 256] (scaled q) slices_S128x512_o0_256_S128x128
def group3 (q : Vec F S1x128x512 .bf16) : FVec F S128x128 .bf16 :=
  extractStridedSlice S128x128 ![0, 384] (scaled q) slices_S128x512_o0_384_S128x128

/-- A head that reads the first key-value head. -/
def lowHead (x : FVec F S128x128 .bf16) (k : Vec F S1x384x128 .bf16) (v : Vec F S128x384 .bf16) (tab : Vec F S1x1x384x128 .f32)
    (σ : Elt F .f32) : FVec F S64x128 .f32 :=
  headOut (extractStridedSlice S64x384 ![0, 0] (shapeCast S128x384 v shapeCasts_S128x384_S128x384) slices_S128x384_o0_0_S64x384)
    (scores (extractStridedSlice S384x128 ![0, 0] (products (shapeCast S384x128 k shapeCasts_S1x384x128_S384x128) x)
      slices_S384x256_o0_0_S384x128) tab) (sinkBits σ)

/-- A head that reads the second key-value head. -/
def highHead (x : FVec F S128x128 .bf16) (k : Vec F S1x384x128 .bf16) (v : Vec F S128x384 .bf16) (tab : Vec F S1x1x384x128 .f32)
    (σ : Elt F .f32) : FVec F S64x128 .f32 :=
  headOut (extractStridedSlice S64x384 ![64, 0] (shapeCast S128x384 v shapeCasts_S128x384_S128x384) slices_S128x384_o64_0_S64x384)
    (scores (extractStridedSlice S384x128 ![0, 128] (products (shapeCast S384x128 k shapeCasts_S1x384x128_S384x128) x)
      slices_S384x256_o0_128_S384x128) tab) (sinkBits σ)

/-- The 128 rows of the result that one block of queries gives. -/
def rowsOut (q : Vec F S1x128x512 .bf16) (k : Vec F S1x384x128 .bf16) (v : Vec F S128x384 .bf16)
    (tab : Fin 8 → Vec F S1x1x384x128 .f32) (σ : Fin 8 → Elt F .f32) : FVec F S1x128x512 .bf16 :=
  shapeCast S1x128x512 (truncf .bf16 (transpose S128x512 [1, 0] (concatenate S512x128 0
    [⟨S64x128, lowHead (group0 q) k v (tab 0) (σ 0)⟩, ⟨S64x128, lowHead (group1 q) k v (tab 1) (σ 1)⟩,
     ⟨S64x128, lowHead (group2 q) k v (tab 2) (σ 2)⟩, ⟨S64x128, lowHead (group3 q) k v (tab 3) (σ 3)⟩,
     ⟨S64x128, highHead (group0 q) k v (tab 4) (σ 4)⟩, ⟨S64x128, highHead (group1 q) k v (tab 5) (σ 5)⟩,
     ⟨S64x128, highHead (group2 q) k v (tab 6) (σ 6)⟩, ⟨S64x128, highHead (group3 q) k v (tab 7) (σ 7)⟩]
    concatenates_S64x128_S64x128_S64x128_S64x128_S64x128_S64x128_S64x128_S64x128_S512x128_d0)
    transposes_S512x128_p1_0_S128x512) bitsLt_bf16_f32) shapeCasts_S128x512_S1x128x512

/-- Boxes that lie inside their buffers: one head's table, one sink, 384 keys, 384 values, 128 rows. -/
theorem tab_inb (h : Fin 8) (a : Fin 4) : (![0, h.val, 0, 0] : Fin 4 → Nat) a + S1x1x384x128.size a ≤ S1x8x384x128.size a :=
  match a with
  | ⟨0, _⟩ => Nat.le_refl 1
  | ⟨1, _⟩ => by show h.val + 1 ≤ 8; omega
  | ⟨2, _⟩ => Nat.le_refl 384
  | ⟨3, _⟩ => Nat.le_refl 128
theorem sink_inb (h : Fin 8) (a : Fin 1) : (![h.val] : Fin 1 → Nat) a + S1.size a ≤ S8.size a :=
  match a with
  | ⟨0, _⟩ => by show h.val + 1 ≤ 8; omega
theorem keys_inb {s : Nat} (hs : s + 384 ≤ 8192) (a : Fin 3) :
    (![0, s, 0] : Fin 3 → Nat) a + S1x384x128.size a ≤ S1x8192x128.size a :=
  match a with
  | ⟨0, _⟩ => Nat.le_refl 1
  | ⟨1, _⟩ => hs
  | ⟨2, _⟩ => Nat.le_refl 128
theorem values_inb {s : Nat} (hs : s + 384 ≤ 8192) (a : Fin 2) :
    (![0, s] : Fin 2 → Nat) a + S128x384.size a ≤ S128x8192.size a :=
  match a with
  | ⟨0, _⟩ => Nat.le_refl 128
  | ⟨1, _⟩ => hs
theorem rows_inb (o : Nat) (ho : o + 128 ≤ 512) (a : Fin 3) :
    (![0, o, 0] : Fin 3 → Nat) a + S1x128x512.size a ≤ S1x512x512.size a :=
  match a with
  | ⟨0, _⟩ => Nat.le_refl 1
  | ⟨1, _⟩ => ho
  | ⟨2, _⟩ => Nat.le_refl 512

/-- The bias table of head `h` within the block of tables a window holds. -/
def tabOf (x : Vec F S1x8x384x128 .f32) (h : Fin 8) : Vec F S1x1x384x128 .f32 :=
  View.ld x (Rect.unit ![0, h.val, 0, 0] S1x1x384x128.size (tab_inb h))

/-- The sink of head `h`. -/
def sinkOf (x : Vec F S8 .f32) (h : Fin 8) : Elt F .f32 :=
  View.ld x (Rect.unit ![h.val] S1.size (sink_inb h)) (Shape.Idx.first (s := S1) (by decide))

/-- The word the kernel computes for the first key position of block `u` of grid point `i`. -/
def startWord (i : Nat) (u : BitVec 32) : Nat :=
  BitVec.toNat (Scalar.indexCast (Scalar.minsi 7808#32 (Scalar.maxsi 0#32 (Scalar.muli (Scalar.subi (Scalar.addi
    (Scalar.muli (BitVec.ofNat 32 i) 4#32) u) 1#32) 128#32))))

/-- That position never leaves less than 384 keys. -/
theorem startWord_le (i : Fin 16) (u : Fin 4) : startWord i.val (BitVec.ofNat 32 u.val) + 384 ≤ 8192 := by
  revert i u; decide +kernel

/-- The keys of block `u`. -/
def keysOf (x : Vec F S1x8192x128 .bf16) (s : Nat) (hs : s + 384 ≤ 8192) : Vec F S1x384x128 .bf16 :=
  View.ld x (Rect.unit ![0, s, 0] S1x384x128.size (keys_inb hs))

/-- The values of block `u`, transposed. -/
def valuesOf (x : Vec F S128x8192 .bf16) (s : Nat) (hs : s + 384 ≤ 8192) : Vec F S128x384 .bf16 :=
  View.ld x (Rect.unit ![0, s] S128x384.size (values_inb hs))

/-- Row block `o` of the query window. -/
def queriesOf (x : Vec F S1x512x512 .bf16) (o : Nat) (ho : o + 128 ≤ 512) : Vec F S1x128x512 .bf16 :=
  View.ld x (Rect.unit ![0, o, 0] S1x128x512.size (rows_inb o ho))

variable (m : (ℓ : Loc nD τ sig) → Buf (Elt F) ℓ)

/-- The rows one block of grid point `t` gives: `o` its first row in the point's block, `w` its number there, with the
    table window it reads. -/
def blockOut (c : Dev nD) (t : Fin cfg0.N) (o : Nat) (ho : o + 128 ≤ 512) (w : BitVec 32)
    (hw : startWord (grid0.coords t 1) w + 384 ≤ 8192) (tab : Vec F S1x8x384x128 .f32) : FVec F S1x128x512 .bf16 :=
  rowsOut (queriesOf (X0_1 m c t) o ho) (keysOf (iblk m c 2 t) (startWord (grid0.coords t 1) w) hw)
    (valuesOf (iblk m c 3 t) (startWord (grid0.coords t 1) w) hw) (tabOf tab) (sinkOf (iblk m c 0 t))

/-- The boxes the body reads, by the names above. -/
theorem ld_queries (x : Vec F S1x512x512 .bf16) (o : Nat) (h) :
    View.ld x (Rect.unit ![0, o, 0] ![1, 128, 512] h) = queriesOf x o (h 1) := rfl
theorem ld_keys (x : Vec F S1x8192x128 .bf16) (s : Nat) (h) :
    View.ld x (Rect.unit ![0, s, 0] ![1, 384, 128] h) = keysOf x s (h 1) := rfl
theorem ld_values (x : Vec F S128x8192 .bf16) (s : Nat) (h) :
    View.ld x (Rect.unit ![0, s] ![128, 384] h) = valuesOf x s (h 1) := rfl
theorem ld_tab0 (x : Vec F S1x8x384x128 .f32) (h) : View.ld x (Rect.unit ![0, 0, 0, 0] ![1, 1, 384, 128] h) = tabOf x 0 := rfl
theorem ld_sink0 (x : Vec F S8 .f32) (h) (h') :
    View.ld x (Rect.unit ![0] ![1] h) (Shape.Idx.first (s := (Rect.unit (s := S8) ![0] ![1] h).toLoadRect.shape) h') = sinkOf x 0 := rfl
theorem ld_tab1 (x : Vec F S1x8x384x128 .f32) (h) : View.ld x (Rect.unit ![0, 1, 0, 0] ![1, 1, 384, 128] h) = tabOf x 1 := rfl
theorem ld_sink1 (x : Vec F S8 .f32) (h) (h') :
    View.ld x (Rect.unit ![1] ![1] h) (Shape.Idx.first (s := (Rect.unit (s := S8) ![1] ![1] h).toLoadRect.shape) h') = sinkOf x 1 := rfl
theorem ld_tab2 (x : Vec F S1x8x384x128 .f32) (h) : View.ld x (Rect.unit ![0, 2, 0, 0] ![1, 1, 384, 128] h) = tabOf x 2 := rfl
theorem ld_sink2 (x : Vec F S8 .f32) (h) (h') :
    View.ld x (Rect.unit ![2] ![1] h) (Shape.Idx.first (s := (Rect.unit (s := S8) ![2] ![1] h).toLoadRect.shape) h') = sinkOf x 2 := rfl
theorem ld_tab3 (x : Vec F S1x8x384x128 .f32) (h) : View.ld x (Rect.unit ![0, 3, 0, 0] ![1, 1, 384, 128] h) = tabOf x 3 := rfl
theorem ld_sink3 (x : Vec F S8 .f32) (h) (h') :
    View.ld x (Rect.unit ![3] ![1] h) (Shape.Idx.first (s := (Rect.unit (s := S8) ![3] ![1] h).toLoadRect.shape) h') = sinkOf x 3 := rfl
theorem ld_tab4 (x : Vec F S1x8x384x128 .f32) (h) : View.ld x (Rect.unit ![0, 4, 0, 0] ![1, 1, 384, 128] h) = tabOf x 4 := rfl
theorem ld_sink4 (x : Vec F S8 .f32) (h) (h') :
    View.ld x (Rect.unit ![4] ![1] h) (Shape.Idx.first (s := (Rect.unit (s := S8) ![4] ![1] h).toLoadRect.shape) h') = sinkOf x 4 := rfl
theorem ld_tab5 (x : Vec F S1x8x384x128 .f32) (h) : View.ld x (Rect.unit ![0, 5, 0, 0] ![1, 1, 384, 128] h) = tabOf x 5 := rfl
theorem ld_sink5 (x : Vec F S8 .f32) (h) (h') :
    View.ld x (Rect.unit ![5] ![1] h) (Shape.Idx.first (s := (Rect.unit (s := S8) ![5] ![1] h).toLoadRect.shape) h') = sinkOf x 5 := rfl
theorem ld_tab6 (x : Vec F S1x8x384x128 .f32) (h) : View.ld x (Rect.unit ![0, 6, 0, 0] ![1, 1, 384, 128] h) = tabOf x 6 := rfl
theorem ld_sink6 (x : Vec F S8 .f32) (h) (h') :
    View.ld x (Rect.unit ![6] ![1] h) (Shape.Idx.first (s := (Rect.unit (s := S8) ![6] ![1] h).toLoadRect.shape) h') = sinkOf x 6 := rfl
theorem ld_tab7 (x : Vec F S1x8x384x128 .f32) (h) : View.ld x (Rect.unit ![0, 7, 0, 0] ![1, 1, 384, 128] h) = tabOf x 7 := rfl
theorem ld_sink7 (x : Vec F S8 .f32) (h) (h') :
    View.ld x (Rect.unit ![7] ![1] h) (Shape.Idx.first (s := (Rect.unit (s := S8) ![7] ![1] h).toLoadRect.shape) h') = sinkOf x 7 := rfl

attribute [local irreducible] queriesOf keysOf valuesOf tabOf sinkOf

/-- Four stores' contents agree where their payloads do. -/
theorem canon4_congr {r0 r1 r2 r3 : Rect S1x512x512} {p0 q0 : r0.shape.Idx → Elt F .bf16} {p1 q1 : r1.shape.Idx → Elt F .bf16}
    {p2 q2 : r2.shape.Idx → Elt F .bf16} {p3 q3 : r3.shape.Idx → Elt F .bf16} (h0 : p0 = q0) (h1 : p1 = q1) (h2 : p2 = q2) (h3 : p3 = q3) :
    View.canon [(⟨r0, p0⟩ : View.Piece (Elt F) S1x512x512 .bf16), ⟨r1, p1⟩, ⟨r2, p2⟩, ⟨r3, p3⟩]
      = View.canon [(⟨r0, q0⟩ : View.Piece (Elt F) S1x512x512 .bf16), ⟨r1, q1⟩, ⟨r2, q2⟩, ⟨r3, q3⟩] := by
  subst h0 h1 h2 h3; rfl

set_option maxRecDepth 65536 in
set_option maxHeartbeats 2000000 in
/-- What grid point `t` leaves in the output's block: its four blocks of rows. -/
theorem outs_eq (c : Dev nD) (t : Fin cfg0.N) :
    outsAt0 m c t = View.canon [
      (⟨Rect.unit ![0, 384, 0] S1x128x512.size (rows_inb 384 (by decide)),
        blockOut m c t 384 (by decide) 3#32 (startWord_le (grid0.coords t 1) 3) (iblk m c 7 t)⟩ : View.Piece (Elt F) S1x512x512 .bf16),
      (⟨Rect.unit ![0, 256, 0] S1x128x512.size (rows_inb 256 (by decide)),
        blockOut m c t 256 (by decide) 2#32 (startWord_le (grid0.coords t 1) 2) (iblk m c 6 t)⟩ : View.Piece (Elt F) S1x512x512 .bf16),
      (⟨Rect.unit ![0, 128, 0] S1x128x512.size (rows_inb 128 (by decide)),
        blockOut m c t 128 (by decide) 1#32 (startWord_le (grid0.coords t 1) 1) (iblk m c 5 t)⟩ : View.Piece (Elt F) S1x512x512 .bf16),
      (⟨Rect.unit ![0, 0, 0] S1x128x512.size (rows_inb 0 (by decide)),
        blockOut m c t 0 (by decide) 0#32 (startWord_le (grid0.coords t 1) 0) (iblk m c 4 t)⟩ : View.Piece (Elt F) S1x512x512 .bf16)] := by
  unfold outsAt0 out0_A_8
  rw [View.read_writes_eq_canon _ _ _ (cover0_A_8 _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread]
  refine canon4_congr ?_ ?_ ?_ ?_
  all_goals
    simp only [ld_queries, ld_values, ld_tab0, ld_tab1, ld_tab2, ld_tab3, ld_tab4, ld_tab5, ld_tab6, ld_tab7]
    erw [(hs0_3 t).read_unread, ld_keys, ld_values]
    rw [ld_sink0, ld_sink1, ld_sink2, ld_sink3, ld_sink4, ld_sink5, ld_sink6, ld_sink7]
    unfold_payloads
    dsimp only [blockOut, startWord, rowsOut, lowHead, highHead, headOut, weighed, sinkWeight, weights, greatest, sinkBits, scores,
      products, twoHeads, group0, group1, group2, group3, scaled]

end Cert.KernelIdeal.Block

end
-- ==== Proof.Host.lean ====
/- The arrays the kernel's windows read, element by element, in terms of the arguments. -/
module

public import proofs.«01_k».proof.Proof.Block

@[expose] public section

noncomputable section

namespace Cert.KernelIdeal.Host

open Cert.KernelIdeal Cert.KernelIdeal.Gen Idealize.ShloMosaic Idealize.ShloMosaic.TcCoe Idealize.SL.Sem

set_option maxRecDepth 16384

/-- The projection with its columns in the order the windows want: gates, the two other branches, queries by lane group,
    keys. -/
def ordered (x : FVec Ideal S8x8192x6912 .f32) : FVec Ideal S8x8192x6272 .bf16 :=
  truncf (F := Ideal) .bf16 (concatenate S8x8192x6272 2
    [⟨S8x8192x3072, extractStridedSlice S8x8192x3072 ![0, 0, 3840] x slices_S8x8192x6912_S8x8192x3072_0_0_3840⟩,
     ⟨S8x8192x1536, extractStridedSlice S8x8192x1536 ![0, 0, 1536] x slices_S8x8192x6912_S8x8192x1536_0_0_1536⟩,
     ⟨S8x8192x1024, extractStridedSlice S8x8192x1024 ![0, 0, 0] x slices_S8x8192x6912_S8x8192x1024_0_0_0⟩,
     ⟨S8x8192x64, extractStridedSlice S8x8192x64 ![0, 0, 3072] x slices_S8x8192x6912_S8x8192x64_0_0_3072⟩,
     ⟨S8x8192x64, extractStridedSlice S8x8192x64 ![0, 0, 3328] x slices_S8x8192x6912_S8x8192x64_0_0_3328⟩,
     ⟨S8x8192x64, extractStridedSlice S8x8192x64 ![0, 0, 3136] x slices_S8x8192x6912_S8x8192x64_0_0_3136⟩,
     ⟨S8x8192x64, extractStridedSlice S8x8192x64 ![0, 0, 3392] x slices_S8x8192x6912_S8x8192x64_0_0_3392⟩,
     ⟨S8x8192x64, extractStridedSlice S8x8192x64 ![0, 0, 3200] x slices_S8x8192x6912_S8x8192x64_0_0_3200⟩,
     ⟨S8x8192x64, extractStridedSlice S8x8192x64 ![0, 0, 3456] x slices_S8x8192x6912_S8x8192x64_0_0_3456⟩,
     ⟨S8x8192x64, extractStridedSlice S8x8192x64 ![0, 0, 3264] x slices_S8x8192x6912_S8x8192x64_0_0_3264⟩,
     ⟨S8x8192x64, extractStridedSlice S8x8192x64 ![0, 0, 3520] x slices_S8x8192x6912_S8x8192x64_0_0_3520⟩,
     ⟨S8x8192x128, extractStridedSlice S8x8192x128 ![0, 0, 3584] x slices_S8x8192x6912_S8x8192x128_0_0_3584⟩]
    concatenates_S8x8192x3072_S8x8192x1536_S8x8192x1024_S8x8192x64_S8x8192x64_S8x8192x64_S8x8192x64_S8x8192x64_S8x8192x64_S8x8192x64_S8x8192x64_S8x8192x128_S8x8192x6272_d2) bitsLt_bf16_f32

/-- The value columns, transposed: one row per column, the batches side by side. -/
def valueRows (x : FVec Ideal S8x8192x6912 .f32) : FVec Ideal S640x65536 .bf16 :=
  truncf (F := Ideal) .bf16 (transpose S640x65536 [1, 0] (shapeCast S65536x640 (concatenate S8x8192x640 2
    [⟨S8x8192x512, extractStridedSlice S8x8192x512 ![0, 0, 1024] x slices_S8x8192x6912_S8x8192x512_0_0_1024⟩,
     ⟨S8x8192x128, extractStridedSlice S8x8192x128 ![0, 0, 3712] x slices_S8x8192x6912_S8x8192x128_0_0_3712⟩]
    concatenates_S8x8192x512_S8x8192x128_S8x8192x640_d2) shapeCasts_S8x8192x640_S65536x640)
    transposes_S65536x640_S640x65536_1_0) bitsLt_bf16_f32

/-- The distance between a key and a query of a window, by the number of blocks between them. -/
def distance : IVec S3x8x384x128 32 :=
  absi (subi (subi (iotaInDim S3x8x384x128 32 2)
    (muli (broadcastInDim S3x8x384x128 ![] bcast_S_S3x8x384x128 (constantI S_ 32 128#32)) (iotaInDim S3x8x384x128 32 0)))
    (iotaInDim S3x8x384x128 32 3))

/-- The bias tables: a head's slope times the distance, and minus infinity out of the window. -/
def biases : FVec Ideal S3x8x384x128 .f32 :=
  select (cmpi .sle distance (broadcastInDim S3x8x384x128 ![] bcast_S_S3x8x384x128 (constantI S_ 32 128#32)))
    (mulf (F := Ideal) (broadcastInDim S3x8x384x128 ![0, 1, 2, 3] bcast_S1x8x1x1_S3x8x384x128_0_1_2_3 (Host.negf (F := Ideal) (φ := .f32)
        (broadcastInDim S1x8x1x1 ![1] bcast_S8_S1x8x1x1_1 (fun i : S8.Idx => FloatOps.ofBits (F := Ideal) .f32 (lit0 (S8.rowMajor i))))))
      (sitofp (F := Ideal) .f32 distance))
    (broadcastInDim S3x8x384x128 ![] bcast_S_S3x8x384x128 (constant (F := Ideal) S_ .f32 0xFF800000#32))

variable (m : (ℓ : Loc nD τ sig) → Buf (Elt Ideal) ℓ)

theorem ordered_eq (c : Dev nD) : V m c main_v13 = ordered (m ((c : Thread nD τ).loc main_arg0)) := by
  simp only [V, hostOps0, hostOps0_1, List.flatten_cons, List.flatten_nil, List.append_nil, List.cons_append, List.nil_append]
  after_results
  rfl
theorem valueRows_eq (c : Dev nD) : V m c main_v19 = valueRows (m ((c : Thread nD τ).loc main_arg0)) := by
  simp only [V, hostOps0, hostOps0_1, List.flatten_cons, List.flatten_nil, List.append_nil, List.cons_append, List.nil_append]
  after_results
  rfl
theorem biases_eq (c : Dev nD) : V m c main_v35 = biases := by
  simp only [V, hostOps0, hostOps0_1, List.flatten_cons, List.flatten_nil, List.append_nil, List.cons_append, List.nil_append]
  after_results
  rfl

set_option maxHeartbeats 1000000 in
/-- Query column `e` of head `h`: lane group `h mod 4`, half `h / 4`. -/
theorem ordered_query (x : FVec Ideal S8x8192x6912 .f32) (b : Fin 8) (n : Fin 8192) (h : Fin 8) (e : Fin 64) :
    ordered x (ix3 b n ⟨5632 + (128 * (h.val % 4) + (64 * (h.val / 4) + e.val)), by omega⟩)
      = x (ix3 b n ⟨3072 + (64 * h.val + e.val), by omega⟩) := by
  pointwise [ordered]
  fin_vals h with hh
  all_goals obtain rfl : h = ⟨_, by decide⟩ := Fin.ext hh
  all_goals dsimp only
  · rw [dif_neg (by omega), dif_neg (by omega), dif_neg (by omega), dif_pos (by omega)]
    exact congrArg (fun i => x (ix3 b n i)) (Fin.ext (by dsimp only <;> omega))
  · rw [dif_neg (by omega), dif_neg (by omega), dif_neg (by omega), dif_neg (by omega), dif_neg (by omega), dif_pos (by omega)]
    exact congrArg (fun i => x (ix3 b n i)) (Fin.ext (by dsimp only <;> omega))
  · rw [dif_neg (by omega), dif_neg (by omega), dif_neg (by omega), dif_neg (by omega), dif_neg (by omega), dif_neg (by omega), dif_neg (by omega), dif_pos (by omega)]
    exact congrArg (fun i => x (ix3 b n i)) (Fin.ext (by dsimp only <;> omega))
  · rw [dif_neg (by omega), dif_neg (by omega), dif_neg (by omega), dif_neg (by omega), dif_neg (by omega), dif_neg (by omega), dif_neg (by omega), dif_neg (by omega), dif_neg (by omega), dif_pos (by omega)]
    exact congrArg (fun i => x (ix3 b n i)) (Fin.ext (by dsimp only <;> omega))
  · rw [dif_neg (by omega), dif_neg (by omega), dif_neg (by omega), dif_neg (by omega), dif_pos (by omega)]
    exact congrArg (fun i => x (ix3 b n i)) (Fin.ext (by dsimp only <;> omega))
  · rw [dif_neg (by omega), dif_neg (by omega), dif_neg (by omega), dif_neg (by omega), dif_neg (by omega), dif_neg (by omega), dif_pos (by omega)]
    exact congrArg (fun i => x (ix3 b n i)) (Fin.ext (by dsimp only <;> omega))
  · rw [dif_neg (by omega), dif_neg (by omega), dif_neg (by omega), dif_neg (by omega), dif_neg (by omega), dif_neg (by omega), dif_neg (by omega), dif_neg (by omega), dif_pos (by omega)]
    exact congrArg (fun i => x (ix3 b n i)) (Fin.ext (by dsimp only <;> omega))
  · rw [dif_neg (by omega), dif_neg (by omega), dif_neg (by omega), dif_neg (by omega), dif_neg (by omega), dif_neg (by omega), dif_neg (by omega), dif_neg (by omega), dif_neg (by omega), dif_neg (by omega), dif_pos (by omega)]
    exact congrArg (fun i => x (ix3 b n i)) (Fin.ext (by dsimp only <;> omega))

theorem ordered_key (x : FVec Ideal S8x8192x6912 .f32) (b : Fin 8) (n : Fin 8192) (l : Fin 128) :
    ordered x (ix3 b n ⟨6144 + l.val, by omega⟩) = x (ix3 b n ⟨3584 + l.val, by omega⟩) := by
  pointwise [ordered]
  rw [dif_neg (by omega), dif_neg (by omega), dif_neg (by omega), dif_neg (by omega), dif_neg (by omega), dif_neg (by omega), dif_neg (by omega), dif_neg (by omega), dif_neg (by omega), dif_neg (by omega), dif_neg (by omega)]
  exact congrArg (fun i => x (ix3 b n i)) (Fin.ext (by dsimp only <;> omega))

theorem valueRows_apply (x : FVec Ideal S8x8192x6912 .f32) (b : Fin 8) (n : Fin 8192) (l : Fin 128) :
    valueRows x (ix2 ⟨512 + l.val, by omega⟩ ⟨8192 * b.val + n.val, by omega⟩) = x (ix3 b n ⟨3712 + l.val, by omega⟩) := by
  pointwise [valueRows]

/-- A relative position inside a window: window position `kk` against row `t`, the window starting `128 w` before the rows. -/
def relative (w kk t : Nat) : BitVec 32 :=
  IntOp.absi (IntOp.subi (IntOp.subi (BitVec.ofNat 32 kk) (IntOp.muli 128#32 (BitVec.ofNat 32 w))) (BitVec.ofNat 32 t))

theorem biases_apply (w : Fin 3) (h : Fin 8) (kk : Fin 384) (t : Fin 128) : biases (ix4 w h kk t)
    = Scalar.select (IntOp.cmpi .sle (relative w.val kk.val t.val) 128#32)
        (-Ideal.ofBits .f32 (lit0 (S8.rowMajor (ix1 h))) * FloatOps.sitofp (F := Ideal) .f32 (relative w.val kk.val t.val))
        (Ideal.ofBits .f32 0xFF800000#32) := by
  pointwise [biases, distance]
  rfl

end Cert.KernelIdeal.Host

end
-- ==== Proof.Rows.lean ====
/- The rows of one block, element by element: each is a weighted mean of the values the window reads (`mean`). -/
module

public import proofs.«01_k».proof.Proof.Block

@[expose] public section

noncomputable section

namespace Cert.KernelIdeal.Rows

open Cert.KernelIdeal Cert.KernelIdeal.Gen Cert.KernelIdeal.Block Idealize.ShloMosaic Idealize.ShloMosaic.TcCoe Idealize.SL.Sem

set_option maxRecDepth 16384

/-- The greatest of the scores `s` and of `τ`. -/
def top (s : Fin 384 → EReal) (τ : EReal) : EReal :=
  max (Finset.fold max (Ideal.ofBits .f32 0xFF800000#32) s Finset.univ) τ

/-- The mean of the values `v` with weights `2 ^ s`, a further weight `2 ^ τ` counting in the total alone. -/
def mean (v s : Fin 384 → EReal) (τ : EReal) : EReal :=
  Ideal.div (∑ x, v x * FloatOps.exp2 (F := Ideal) (φ := .f32) (s x - top s τ))
    (∑ x, FloatOps.exp2 (F := Ideal) (φ := .f32) (s x - top s τ) + FloatOps.exp2 (F := Ideal) (φ := .f32) (τ - top s τ))

/-- The score of a key `k` for a query `q`, with bias `b`. -/
def score (q k : Fin 64 → EReal) (b : EReal) : EReal :=
  ∑ e, k e * (q e * Named.named (F := Ideal) κ "qscale" (φ := .f32) 0x3E38AA3B#32)
    + b * Named.named (F := Ideal) κ "log2e" (φ := .f32) 0x3FB8AA3B#32

theorem headOut_apply (v : FVec Ideal S64x384 .bf16) (s : FVec Ideal S384x128 .f32) (σ : Ideal .f32) (d : Fin 64) (t : Fin 128) :
    headOut v s σ (ix2 d t) = mean (fun x => v (ix2 d x)) (fun x => s (ix2 x t)) σ := by
  pointwise [headOut, weighed, weights, greatest, sinkWeight]
  rfl

/-- A sum that keeps the lower lanes only, and one that keeps the upper ones. -/
theorem sum_low (f : Fin 128 → EReal) :
    ∑ l : Fin 128, Scalar.select (IntOp.cmpi .slt (BitVec.ofNat 32 l.val) 64#32) (f l) 0 = ∑ e : Fin 64, f ⟨e.val, by omega⟩ := by
  have lo : ∀ e : Fin 64, IntOp.cmpi .slt (BitVec.ofNat 32 e.val) 64#32 = 1#1 := by decide
  have hi : ∀ e : Fin 64, IntOp.cmpi .slt (BitVec.ofNat 32 (64 + e.val)) 64#32 = 0#1 := by decide
  rw [Fin.sum_univ_two_halves 64 64 rfl]
  simp [lo, hi, Scalar.select]
theorem sum_high (f : Fin 128 → EReal) :
    ∑ l : Fin 128, Scalar.select (IntOp.cmpi .sge (BitVec.ofNat 32 l.val) 64#32) (f l) 0 = ∑ e : Fin 64, f ⟨64 + e.val, by omega⟩ := by
  have lo : ∀ e : Fin 64, IntOp.cmpi .sge (BitVec.ofNat 32 e.val) 64#32 = 0#1 := by decide
  have hi : ∀ e : Fin 64, IntOp.cmpi .sge (BitVec.ofNat 32 (64 + e.val)) 64#32 = 1#1 := by decide
  rw [Fin.sum_univ_two_halves 64 64 rfl]
  simp [lo, hi, Scalar.select]

theorem lowHead_apply (x : FVec Ideal S128x128 .bf16) (k : Vec Ideal S1x384x128 .bf16) (v : Vec Ideal S128x384 .bf16)
    (tab : Vec Ideal S1x1x384x128 .f32) (σ : Elt Ideal .f32) (d : Fin 64) (t : Fin 128) :
    lowHead x k v tab σ (ix2 d t) = mean (fun j => v (ix2 ⟨d.val, by omega⟩ j))
      (fun j => (∑ e : Fin 64, k (ix3 0 j ⟨e.val, by omega⟩) * x (ix2 t ⟨e.val, by omega⟩))
        + tab (ix4 0 0 j t) * Named.named (F := Ideal) κ "log2e" (φ := .f32) 0x3FB8AA3B#32)
      (σ * Named.named (F := Ideal) κ "log2e" (φ := .f32) 0x3FB8AA3B#32) := by
  rw [lowHead, headOut_apply]
  congr 1
  · funext j; pointwise []
  · funext j
    pointwise [scores, products, twoHeads]
    rw [sum_low (fun l => k (ix3 0 j l) * x (ix2 t l))]

theorem highHead_apply (x : FVec Ideal S128x128 .bf16) (k : Vec Ideal S1x384x128 .bf16) (v : Vec Ideal S128x384 .bf16)
    (tab : Vec Ideal S1x1x384x128 .f32) (σ : Elt Ideal .f32) (d : Fin 64) (t : Fin 128) :
    highHead x k v tab σ (ix2 d t) = mean (fun j => v (ix2 ⟨64 + d.val, by omega⟩ j))
      (fun j => (∑ e : Fin 64, k (ix3 0 j ⟨64 + e.val, by omega⟩) * x (ix2 t ⟨64 + e.val, by omega⟩))
        + tab (ix4 0 0 j t) * Named.named (F := Ideal) κ "log2e" (φ := .f32) 0x3FB8AA3B#32)
      (σ * Named.named (F := Ideal) κ "log2e" (φ := .f32) 0x3FB8AA3B#32) := by
  rw [highHead, headOut_apply]
  congr 1
  · funext j; pointwise []
  · funext j
    pointwise [scores, products, twoHeads]
    rw [sum_high (fun l => k (ix3 0 j l) * x (ix2 t l))]

/-- Column `64 h + d` of row `r`: head `h`, whose queries lie in lane group `h mod 4` and which reads key-value head `h / 4`. -/
theorem rowsOut_apply (q : Vec Ideal S1x128x512 .bf16) (k : Vec Ideal S1x384x128 .bf16) (v : Vec Ideal S128x384 .bf16)
    (tab : Fin 8 → Vec Ideal S1x1x384x128 .f32) (σ : Fin 8 → Elt Ideal .f32) (r : Fin 128) (h : Fin 8) (d : Fin 64) :
    rowsOut q k v tab σ (ix3 0 r ⟨64 * h.val + d.val, by omega⟩)
      = mean (fun j => v (ix2 ⟨64 * (h.val / 4) + d.val, by omega⟩ j))
          (fun j => score (fun e => q (ix3 0 r ⟨128 * (h.val % 4) + (64 * (h.val / 4) + e.val), by omega⟩))
            (fun e => k (ix3 0 j ⟨64 * (h.val / 4) + e.val, by omega⟩)) (tab h (ix4 0 0 j r)))
          (σ h * Named.named (F := Ideal) κ "log2e" (φ := .f32) 0x3FB8AA3B#32) := by
  pointwise [rowsOut]
  obtain ⟨d, hd⟩ := d
  fin_vals h with hh
  all_goals obtain rfl : h = ⟨_, by decide⟩ := Fin.ext hh
  all_goals dsimp only
  · rw [dif_pos (by omega)]; rw [lowHead_apply]
    refine congr (congr (congrArg mean (funext fun j => ?_)) (funext fun j => ?_)) rfl
    · exact congrArg (fun i => v (ix2 i j)) (Fin.ext (by dsimp only <;> omega))
    · refine congrArg₂ (· + ·) (Finset.sum_congr rfl fun e _ => ?_) rfl
      pointwise [group0, scaled]
  · rw [dif_neg (by omega), dif_pos (by omega)]; rw [lowHead_apply]
    refine congr (congr (congrArg mean (funext fun j => ?_)) (funext fun j => ?_)) rfl
    · exact congrArg (fun i => v (ix2 i j)) (Fin.ext (by dsimp only <;> omega))
    · refine congrArg₂ (· + ·) (Finset.sum_congr rfl fun e _ => ?_) rfl
      pointwise [group1, scaled]
  · rw [dif_neg (by omega), dif_neg (by omega), dif_pos (by omega)]; rw [lowHead_apply]
    refine congr (congr (congrArg mean (funext fun j => ?_)) (funext fun j => ?_)) rfl
    · exact congrArg (fun i => v (ix2 i j)) (Fin.ext (by dsimp only <;> omega))
    · refine congrArg₂ (· + ·) (Finset.sum_congr rfl fun e _ => ?_) rfl
      pointwise [group2, scaled]
  · rw [dif_neg (by omega), dif_neg (by omega), dif_neg (by omega), dif_pos (by omega)]; rw [lowHead_apply]
    refine congr (congr (congrArg mean (funext fun j => ?_)) (funext fun j => ?_)) rfl
    · exact congrArg (fun i => v (ix2 i j)) (Fin.ext (by dsimp only <;> omega))
    · refine congrArg₂ (· + ·) (Finset.sum_congr rfl fun e _ => ?_) rfl
      pointwise [group3, scaled]
  · rw [dif_neg (by omega), dif_neg (by omega), dif_neg (by omega), dif_neg (by omega), dif_pos (by omega)]; rw [highHead_apply]
    refine congr (congr (congrArg mean (funext fun j => ?_)) (funext fun j => ?_)) rfl
    · exact congrArg (fun i => v (ix2 i j)) (Fin.ext (by dsimp only <;> omega))
    · refine congrArg₂ (· + ·) (Finset.sum_congr rfl fun e _ => ?_) rfl
      pointwise [group0, scaled]
  · rw [dif_neg (by omega), dif_neg (by omega), dif_neg (by omega), dif_neg (by omega), dif_neg (by omega), dif_pos (by omega)]; rw [highHead_apply]
    refine congr (congr (congrArg mean (funext fun j => ?_)) (funext fun j => ?_)) rfl
    · exact congrArg (fun i => v (ix2 i j)) (Fin.ext (by dsimp only <;> omega))
    · refine congrArg₂ (· + ·) (Finset.sum_congr rfl fun e _ => ?_) rfl
      pointwise [group1, scaled]
  · rw [dif_neg (by omega), dif_neg (by omega), dif_neg (by omega), dif_neg (by omega), dif_neg (by omega), dif_neg (by omega), dif_pos (by omega)]; rw [highHead_apply]
    refine congr (congr (congrArg mean (funext fun j => ?_)) (funext fun j => ?_)) rfl
    · exact congrArg (fun i => v (ix2 i j)) (Fin.ext (by dsimp only <;> omega))
    · refine congrArg₂ (· + ·) (Finset.sum_congr rfl fun e _ => ?_) rfl
      pointwise [group2, scaled]
  · rw [dif_neg (by omega), dif_neg (by omega), dif_neg (by omega), dif_neg (by omega), dif_neg (by omega), dif_neg (by omega), dif_neg (by omega)]; rw [highHead_apply]
    refine congr (congr (congrArg mean (funext fun j => ?_)) (funext fun j => ?_)) rfl
    · exact congrArg (fun i => v (ix2 i j)) (Fin.ext (by dsimp only <;> omega))
    · refine congrArg₂ (· + ·) (Finset.sum_congr rfl fun e _ => ?_) rfl
      pointwise [group3, scaled]

end Cert.KernelIdeal.Rows
-- ==== Proof.Ref.lean ====
/- The reference's result, element by element. -/
module

public import proofs.«01_k».proof.Proof.Gen.ReferenceIdeal.Read
public import Idealize.ShloMosaic.Lib.Pointwise

@[expose] public section

noncomputable section

namespace Cert.ReferenceIdeal.Rows

open Cert.ReferenceIdeal Cert.ReferenceIdeal.Read Idealize.ShloMosaic Idealize.ShloMosaic.TcCoe Idealize.SL.Sem

set_option maxRecDepth 16384

/-- A head's slope as the reference computes it. -/
theorem slope_apply (h : Fin 8) : val_main_v14 (F := Ideal) (ix1 h)
    = Ideal.pow (Ideal.ofBits .f32 0x40000000#32) (Ideal.div (Ideal.ofBits .f32 0xC1000000#32
        * (FloatOps.sitofp (F := Ideal) .f32 (BitVec.ofNat 32 h.val) + 1)) (Ideal.ofBits .f32 0x41000000#32)) := by
  pointwise [val_main_v14, val_main_v13, val_main_v12, val_main_v11, val_main_v10, val_main_v9, val_main_v8, val_main_v7, val_main_v6,
    val_main_cst, val_main_cst_0, val_main_cst_1, val_main_cst_2]

/-- The distance of query `q` and key `k`, as a word. -/
def dist (q k : Nat) : BitVec 32 := IntOp.absi (IntOp.subi (BitVec.ofNat 32 k) (BitVec.ofNat 32 q))

variable (x : FVec Ideal S8x8192x6912 .f32) (s : FVec Ideal S8 .f32) (b : Fin 8) (g : Fin 2) (j : Fin 4) (q : Fin 8192)

theorem dot_apply (k : Fin 8192) : val_main_v35 (F := Ideal) x (ix5 b g k q j)
    = ∑ e : Fin 64, x (ix3 b k ⟨3584 + (g.val * 64 + e.val), by omega⟩) * x (ix3 b q ⟨3072 + (g.val * 256 + j.val * 64 + e.val), by omega⟩) := by
  pointwise [val_main_v35, val_main_v34, val_main_v0, val_main_v1, val_main_v2, val_main_v3]

theorem alibi_apply (k : Fin 8192) : val_main_v31 (F := Ideal) (ix4 g j q k)
    = -val_main_v14 (F := Ideal) (ix1 ⟨g.val * 4 + j.val, by omega⟩) * FloatOps.sitofp (F := Ideal) .f32 (dist q.val k.val) := by
  pointwise [val_main_v31, val_main_v30, val_main_v29, val_main_v28, val_main_v27, val_main_v26, val_main_v25, val_main_v24, val_main_v21,
    val_main_v20, val_main_v19, val_main_v18, val_main_v17, val_main_v16, val_main_v15]
  rfl

theorem mask_apply (k : Fin 8192) : val_main_v23 (F := Ideal) (ix2 q k) = IntOp.cmpi .sle (dist q.val k.val) 128#32 := by
  pointwise [val_main_v23, val_main_v22, val_main_v21, val_main_v20, val_main_v19, val_main_v18, val_main_v17, val_main_v16,
    val_main_v15, val_main_c]
  rfl

theorem masked_apply (k : Fin 8192) : val_main_v42 (F := Ideal) x (ix5 b g j q k)
    = Scalar.select (val_main_v23 (F := Ideal) (ix2 q k))
        (val_main_v35 (F := Ideal) x (ix5 b g k q j) * Ideal.ofBits .f32 0x3E000000#32 + val_main_v31 (F := Ideal) (ix4 g j q k))
        (Ideal.ofBits .f32 0xFF800000#32) := by
  pointwise [val_main_v42, val_main_v41, val_main_v40, val_main_v39, val_main_v38, val_main_v37, val_main_v36, val_main_cst_3,
    val_main_cst_4, val_main_call0_v1, val_main_call0_v2, val_main_call0_v0]
  rfl

theorem max_apply : val_main_v43 (F := Ideal) x (ix4 b g j q)
    = Finset.fold max (Ideal.ofBits .f32 0xFF800000#32) (fun k => val_main_v42 (F := Ideal) x (ix5 b g j q k)) Finset.univ := by
  pointwise [val_main_v43, val_main_cst_5]

theorem column_apply : val_main_v44 (F := Ideal) x (ix5 b g j q 0) = val_main_v43 (F := Ideal) x (ix4 b g j q) := by
  pointwise [val_main_v44]

theorem sink_apply : val_main_v45 (F := Ideal) s (ix5 b g j q 0) = s (ix1 ⟨g.val * 4 + j.val, by omega⟩) := by
  pointwise [val_main_v45, val_main_v33, val_main_v32]

theorem top_apply : val_main_v46 (F := Ideal) x s (ix5 b g j q 0)
    = max (val_main_v43 (F := Ideal) x (ix4 b g j q)) (s (ix1 ⟨g.val * 4 + j.val, by omega⟩)) := by
  rw [val_main_v46_apply, column_apply, sink_apply, Ideal.maximumf_def]

theorem weight_apply (k : Fin 8192) : val_main_v49 (F := Ideal) x s (ix5 b g j q k)
    = Ideal.exp (val_main_v42 (F := Ideal) x (ix5 b g j q k) - val_main_v46 (F := Ideal) x s (ix5 b g j q 0)) := by
  pointwise [val_main_v49, val_main_v48, val_main_v47]

theorem sum_apply : val_main_v50 (F := Ideal) x s (ix4 b g j q) = ∑ k : Fin 8192, val_main_v49 (F := Ideal) x s (ix5 b g j q k) := by
  pointwise [val_main_v50, val_main_cst_6]

theorem total_apply : val_main_v55 (F := Ideal) x s (ix5 b g j q 0) = val_main_v50 (F := Ideal) x s (ix4 b g j q)
    + Ideal.exp (s (ix1 ⟨g.val * 4 + j.val, by omega⟩) - val_main_v46 (F := Ideal) x s (ix5 b g j q 0)) := by
  pointwise [val_main_v55, val_main_v54, val_main_v53, val_main_v52, val_main_v51, val_main_v33, val_main_v32]

theorem share_apply (k : Fin 8192) : val_main_v57 (F := Ideal) x s (ix5 b g j q k)
    = Ideal.div (val_main_v49 (F := Ideal) x s (ix5 b g j q k)) (val_main_v55 (F := Ideal) x s (ix5 b g j q 0)) := by
  pointwise [val_main_v57, val_main_v56]

theorem result_apply (d : Fin 64) : val_main_v61 (F := Ideal) x s (ix3 b q ⟨g.val * 256 + j.val * 64 + d.val, by omega⟩)
    = ∑ k : Fin 8192, x (ix3 b k ⟨3712 + (g.val * 64 + d.val), by omega⟩) * val_main_v57 (F := Ideal) x s (ix5 b g j q k) := by
  pointwise [val_main_v61, val_main_v60, val_main_v59, val_main_v58, val_main_v5, val_main_v4]

/-- The score of key `k` for query `q` of a head with queries `u`, keys `w` and slope `a`. -/
def score (a : EReal) (u : Fin 64 → EReal) (w : Fin 8192 → Fin 64 → EReal) (q k : Fin 8192) : EReal :=
  Scalar.select (IntOp.cmpi .sle (dist q.val k.val) 128#32)
    ((∑ e, w k e * u e) * Ideal.ofBits .f32 0x3E000000#32 + -a * FloatOps.sitofp (F := Ideal) .f32 (dist q.val k.val))
    (Ideal.ofBits .f32 0xFF800000#32)

/-- The greatest of the scores `z` and of the sink. -/
def top (z : Fin 8192 → EReal) (σ : EReal) : EReal := max (Finset.fold max (Ideal.ofBits .f32 0xFF800000#32) z Finset.univ) σ

/-- The mean of `v` with the weights `exp z`, the sink counting in the total. -/
def mean (v z : Fin 8192 → EReal) (σ : EReal) : EReal :=
  ∑ k, v k * Ideal.div (Ideal.exp (z k - top z σ)) (∑ k, Ideal.exp (z k - top z σ) + Ideal.exp (σ - top z σ))

/-- One element of the reference's result. -/
theorem element (d : Fin 64) : val_main_v61 (F := Ideal) x s (ix3 b q ⟨g.val * 256 + j.val * 64 + d.val, by omega⟩)
    = mean (fun k => x (ix3 b k ⟨3712 + (g.val * 64 + d.val), by omega⟩))
        (fun k => score (val_main_v14 (F := Ideal) (ix1 ⟨g.val * 4 + j.val, by omega⟩))
          (fun e => x (ix3 b q ⟨3072 + (g.val * 256 + j.val * 64 + e.val), by omega⟩))
          (fun k e => x (ix3 b k ⟨3584 + (g.val * 64 + e.val), by omega⟩)) q k)
        (s (ix1 ⟨g.val * 4 + j.val, by omega⟩)) := by
  simp only [result_apply, share_apply, total_apply, sum_apply, weight_apply, top_apply, max_apply, masked_apply, mask_apply,
    alibi_apply, dot_apply]
  rfl

end Cert.ReferenceIdeal.Rows

end
-- ==== Proof.Words.lean ====
/- The words and constants of the two programs: distances of positions, the heads' slopes, the scalings. -/
module

public import proofs.«01_k».proof.Proof.Host
public import proofs.«01_k».proof.Proof.Rows
public import proofs.«01_k».proof.Proof.Ref

@[expose] public section

noncomputable section

namespace Cert.Words

open Idealize.ShloMosaic Cert.ReferenceIdeal Cert.ReferenceIdeal.Rows

/-- A key the mask lets through lies within 128 positions of the query. -/
theorem near (q k : Nat) (hq : q < 8192) (hk : k < 8192) (h : IntOp.cmpi .sle (Rows.dist q k) 128#32 = 1#1) :
    k ≤ q + 128 ∧ q ≤ k + 128 := by
  have h' : (Rows.dist q k).sle 128#32 = true := by
    cases e : (Rows.dist q k).sle 128#32
    · rw [IntOp.cmpi, e] at h
      exact absurd h (by decide)
    · rfl
  rw [BitVec.sle_iff_toInt_le] at h'
  have e : (BitVec.ofNat 32 k - BitVec.ofNat 32 q).toInt = (k : Int) - q := by
    rw [BitVec.toInt_sub, BitVec.toInt_ofNat', BitVec.toInt_ofNat']
    simp only [Int.bmod_def]
    omega
  have e128 : (128#32 : BitVec 32).toInt = 128 := by decide
  rw [e128] at h'
  unfold Rows.dist IntOp.absi IntOp.subi at h'
  split at h'
  · rename_i hm
    rw [BitVec.toInt_neg, e, Int.bmod_def] at h'
    rw [BitVec.msb_eq_toInt, e] at hm
    simp only [decide_eq_true_eq] at hm
    omega
  · rename_i hm
    rw [e] at h'
    rw [BitVec.msb_eq_toInt, e] at hm
    simp only [decide_eq_true_eq] at hm
    omega

theorem rearrange (K C T J Q : BitVec 32) (e : K + C + T = J + Q) : J - C - T = K - Q := by
  have hJ : J = K + C + T + -Q := by rw [e, BitVec.add_assoc, BitVec.add_right_neg, BitVec.add_zero]
  rw [hJ, BitVec.sub_eq_add_neg, BitVec.sub_eq_add_neg, BitVec.sub_eq_add_neg]
  calc K + C + T + -Q + -C + -T = K + -Q + (C + -C) + (T + -T) := by ac_rfl
    _ = K + -Q := by rw [BitVec.add_right_neg, BitVec.add_right_neg, BitVec.add_zero, BitVec.add_zero]

/-- A relative position inside a window is the distance of the positions. -/
theorem relative (w kk t q k : Nat) (h : k + 128 * w + t = kk + q) :
    Cert.KernelIdeal.Host.relative w kk t = Rows.dist q k := by
  have e : BitVec.ofNat 32 k + 128#32 * BitVec.ofNat 32 w + BitVec.ofNat 32 t = BitVec.ofNat 32 kk + BitVec.ofNat 32 q := by
    rw [show (128#32 : BitVec 32) = BitVec.ofNat 32 128 from rfl, ← BitVec.ofNat_mul, ← BitVec.ofNat_add, ← BitVec.ofNat_add,
      ← BitVec.ofNat_add, h]
  unfold Cert.KernelIdeal.Host.relative Rows.dist IntOp.absi IntOp.subi IntOp.muli
  rw [show BitVec.ofNat 32 kk - 128#32 * BitVec.ofNat 32 w - BitVec.ofNat 32 t = BitVec.ofNat 32 k - BitVec.ofNat 32 q by
    generalize BitVec.ofNat 32 k = K at e ⊢
    generalize BitVec.ofNat 32 w = W at e ⊢
    generalize BitVec.ofNat 32 t = T at e ⊢
    generalize BitVec.ofNat 32 kk = J at e ⊢
    generalize BitVec.ofNat 32 q = Q at e ⊢
    exact rearrange _ _ _ _ _ e]

theorem bits_ninf : Ideal.ofBits .f32 0xFF800000#32 = ⊥ := by
  simp [Ideal.ofBits, Ideal.ieee]

theorem bits_pinf : Ideal.ofBits .f32 0x7F800000#32 = ⊤ := by
  simp [Ideal.ofBits, Ideal.ieee]

theorem bits_eighth : Ideal.ofBits .f32 0x3E000000#32 = ((8⁻¹ : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_eight : Ideal.ofBits .f32 0x41000000#32 = ((8 : ℝ) : EReal) := by
  simp [Ideal.ofBits, Ideal.ieee, -EReal.coe_mul]; norm_num

theorem bits_minus_eight : Ideal.ofBits .f32 0xC1000000#32 = ((-8 : ℝ) : EReal) := by
  simp [Ideal.ofBits, Ideal.ieee, -EReal.coe_mul, -EReal.coe_neg]; norm_num

theorem log2e_eq : Named.named (F := Ideal) Cert.KernelIdeal.κ "log2e" (φ := .f32) 0x3FB8AA3B#32 = (((Real.log 2)⁻¹ : ℝ) : EReal) := rfl

theorem qscale_eq : Named.named (F := Ideal) Cert.KernelIdeal.κ "qscale" (φ := .f32) 0x3E38AA3B#32
    = ((8⁻¹ * (Real.log 2)⁻¹ : ℝ) : EReal) := rfl

/-- The slope of head `h`. -/
def slope (h : Fin 8) : ℝ := 2 ^ (-((h.val : ℝ) + 1))

/-- The reference's slope. -/
theorem slope_reference (h : Fin 8) : Cert.ReferenceIdeal.Read.val_main_v14 (F := Ideal) (ix1 h) = ((slope h : ℝ) : EReal) := by
  rw [slope_apply, bits_two, bits_eight, bits_minus_eight]
  have e : FloatOps.sitofp (F := Ideal) .f32 (BitVec.ofNat 32 h.val) = ((h.val : ℝ) : EReal) := by
    show (((BitVec.ofNat 32 h.val).toInt : ℝ) : EReal) = _
    rw [show (BitVec.ofNat 32 h.val).toInt = (h.val : Int) by
      fin_cases h <;> rfl]
    simp
  rw [e, show (1 : EReal) = ((1 : ℝ) : EReal) from rfl, ← EReal.coe_add, ← EReal.coe_mul]
  rw [Ideal.div, if_neg (by norm_num), ← EReal.coe_inv, ← EReal.coe_mul]
  show ((Real.rpow 2 _ : ℝ) : EReal) = _
  rw [slope]
  congr 1
  show (2 : ℝ) ^ (-8 * ((h.val : ℝ) + 1) * 8⁻¹ : ℝ) = _
  congr 1
  ring

/-- The kernel's slope. -/
theorem slope_kernel (h : Fin 8) : Ideal.ofBits .f32 (Cert.KernelIdeal.lit0 (Cert.KernelIdeal.S8.rowMajor (ix1 h))) = ((slope h : ℝ) : EReal) := by
  have value : ∀ (b : BitVec 32) (n : Nat), Ideal.ofBits .f32 b = (((2 : ℝ) ^ (n + 1))⁻¹ : ℝ) → n = h.val →
      Ideal.ofBits .f32 b = ((slope h : ℝ) : EReal) := by
    intro b n hb hn
    rw [hb, slope, Real.rpow_neg (by norm_num), ← hn, show ((n : ℝ) + 1) = ((n + 1 : ℕ) : ℝ) by push_cast; ring, Real.rpow_natCast]
  fin_cases h
  · refine value 0x3F000000#32 0 ?_ rfl; simp [Ideal.ofBits, Ideal.ieee, -EReal.coe_mul]; norm_num
  · refine value 0x3E800000#32 1 ?_ rfl; simp [Ideal.ofBits, Ideal.ieee, -EReal.coe_mul]; norm_num
  · refine value 0x3E000000#32 2 ?_ rfl; simp [Ideal.ofBits, Ideal.ieee, -EReal.coe_mul]; norm_num
  · refine value 0x3D800000#32 3 ?_ rfl; simp [Ideal.ofBits, Ideal.ieee, -EReal.coe_mul]; norm_num
  · refine value 0x3D000000#32 4 ?_ rfl; simp [Ideal.ofBits, Ideal.ieee, -EReal.coe_mul]; norm_num
  · refine value 0x3C800000#32 5 ?_ rfl; simp [Ideal.ofBits, Ideal.ieee, -EReal.coe_mul]; norm_num
  · refine value 0x3C000000#32 6 ?_ rfl; simp [Ideal.ofBits, Ideal.ieee, -EReal.coe_mul]; norm_num
  · refine value 0x3B800000#32 7 ?_ rfl; simp [Ideal.ofBits, Ideal.ieee, -EReal.coe_mul]; norm_num

end Cert.Words

end
-- ==== Proof.Array.lean ====
/- What each window holds at a grid point, element by element, in terms of the arguments. -/
module

public import proofs.«01_k».proof.Proof.Words

@[expose] public section

noncomputable section

namespace Cert.KernelIdeal.Array

open Cert.KernelIdeal Cert.KernelIdeal.Gen Cert.KernelIdeal.Block Idealize.ShloMosaic Idealize.ShloMosaic.TcCoe Idealize.SL.Sem

set_option maxRecDepth 16384

/-- The table variant a row block reads: the first block's, the last block's, or the others'. -/
def variant (n : Nat) : Nat := if n = 0 then 0 else if n = 63 then 2 else 1

theorem variant_lt (n : Nat) : variant n < 3 := by unfold variant; split_ifs <;> omega

/-- The first key of row block `n`. -/
def first (n : Nat) : Nat := min 7808 (128 * n - 128)

theorem lt (t : Fin cfg0.N) : t.val < 128 := t.isLt.trans_eq (by decide)

theorem coords_row : ∀ t : Fin cfg0.N, (grid0.coords t 1).val = t.val % 16 := (by decide +kernel : ∀ t : Fin grid0.N, _)

theorem startWord_eq : ∀ (i : Fin 16) (u : Fin 4), startWord i.val (BitVec.ofNat 32 u.val) = first (4 * i.val + u.val) := by
  decide +kernel

theorem idx0 : ∀ t : Fin cfg0.N, win0_0.index t (0 : Fin 1) = 0 := (by decide +kernel : ∀ t : Fin grid0.N, _)
theorem idx1 : ∀ t : Fin cfg0.N, win0_1.index t (0 : Fin 3) = t.val / 16 ∧ win0_1.index t (1 : Fin 3) = t.val % 16
    ∧ win0_1.index t (2 : Fin 3) = 11 := (by decide +kernel : ∀ t : Fin grid0.N, _)
theorem idx2 : ∀ t : Fin cfg0.N, win0_2.index t (0 : Fin 3) = t.val / 16 ∧ win0_2.index t (1 : Fin 3) = 0
    ∧ win0_2.index t (2 : Fin 3) = 48 := (by decide +kernel : ∀ t : Fin grid0.N, _)
theorem idx3 : ∀ t : Fin cfg0.N, win0_3.index t (0 : Fin 2) = 4 ∧ win0_3.index t (1 : Fin 2) = t.val / 16 :=
  (by decide +kernel : ∀ t : Fin grid0.N, _)
theorem idx4 : ∀ t : Fin cfg0.N, win0_4.index t (0 : Fin 4) = variant (4 * (t.val % 16)) ∧ win0_4.index t (1 : Fin 4) = 0
    ∧ win0_4.index t (2 : Fin 4) = 0 ∧ win0_4.index t (3 : Fin 4) = 0 := (by decide +kernel : ∀ t : Fin grid0.N, _)
theorem idx5 : ∀ t : Fin cfg0.N, win0_5.index t (0 : Fin 4) = variant (4 * (t.val % 16) + 1) ∧ win0_5.index t (1 : Fin 4) = 0
    ∧ win0_5.index t (2 : Fin 4) = 0 ∧ win0_5.index t (3 : Fin 4) = 0 := (by decide +kernel : ∀ t : Fin grid0.N, _)
theorem idx6 : ∀ t : Fin cfg0.N, win0_6.index t (0 : Fin 4) = variant (4 * (t.val % 16) + 2) ∧ win0_6.index t (1 : Fin 4) = 0
    ∧ win0_6.index t (2 : Fin 4) = 0 ∧ win0_6.index t (3 : Fin 4) = 0 := (by decide +kernel : ∀ t : Fin grid0.N, _)
theorem idx7 : ∀ t : Fin cfg0.N, win0_7.index t (0 : Fin 4) = variant (4 * (t.val % 16) + 3) ∧ win0_7.index t (1 : Fin 4) = 0
    ∧ win0_7.index t (2 : Fin 4) = 0 ∧ win0_7.index t (3 : Fin 4) = 0 := (by decide +kernel : ∀ t : Fin grid0.N, _)
theorem idx8 : ∀ t : Fin cfg0.N, win0_8.index t (0 : Fin 3) = t.val / 16 ∧ win0_8.index t (1 : Fin 3) = t.val % 16
    ∧ win0_8.index t (2 : Fin 3) = 0 := (by decide +kernel : ∀ t : Fin grid0.N, _)

variable {F : FTy → Type} [FloatOps F] [Named F] (m : (ℓ : Loc nD τ sig) → Buf (Elt F) ℓ) (c : Dev nD) (t : Fin cfg0.N)

theorem window1 (j : S1x512x512.Idx) : X0_1 m c t j = V m c main_v13
    (ix3 ⟨t.val / 16, by have := lt t; omega⟩ ⟨512 * (t.val % 16) + (j 1).val, by have : (j 1).val < 512 := (j 1).isLt; omega⟩
      ⟨5632 + (j 2).val, by have : (j 2).val < 512 := (j 2).isLt; omega⟩) := by
  unfold X0_1 Pipeline.Window.fill
  rw [dif_pos (moved0_1 t j)]
  refine congrArg (V m c main_v13) (funext fun a => Fin.ext ?_)
  obtain ⟨e0, e1, e2⟩ := idx1 t
  match a with
  | ⟨0, _⟩ => show win0_1.index t (0 : Fin 3) * 1 + 1 * (j 0).val = t.val / 16; have : (j 0).val < 1 := (j 0).isLt; omega
  | ⟨1, _⟩ => show win0_1.index t (1 : Fin 3) * 512 + 1 * (j 1).val = 512 * (t.val % 16) + (j 1).val; omega
  | ⟨2, _⟩ => show win0_1.index t (2 : Fin 3) * 512 + 1 * (j 2).val = 5632 + (j 2).val; omega

theorem queries (o : Nat) (ho : o + 128 ≤ 512) (r : Fin 128) (l : Fin 512) : queriesOf (X0_1 m c t) o ho (ix3 0 r l) = V m c main_v13
    (ix3 ⟨t.val / 16, by have := lt t; omega⟩ ⟨512 * (t.val % 16) + (o + r.val), by omega⟩ ⟨5632 + l.val, by omega⟩) := by
  refine (window1 m c t _).trans (congrArg (V m c main_v13) (funext fun a => Fin.ext ?_))
  match a with
  | ⟨0, _⟩ => rfl
  | ⟨1, _⟩ => show 512 * (t.val % 16) + (o + 1 * r.val) = 512 * (t.val % 16) + (o + r.val); omega
  | ⟨2, _⟩ => show 5632 + (0 + 1 * l.val) = 5632 + l.val; omega

theorem keys (s : Nat) (hs : s + 384 ≤ 8192) (n : Fin 384) (l : Fin 128) : keysOf (iblk m c 2 t) s hs (ix3 0 n l) = V m c main_v13
    (ix3 ⟨t.val / 16, by have := lt t; omega⟩ ⟨s + n.val, by omega⟩ ⟨6144 + l.val, by omega⟩) := by
  refine congrArg (V m c main_v13) (funext fun a => Fin.ext ?_)
  obtain ⟨e0, e1, e2⟩ := idx2 t
  match a with
  | ⟨0, _⟩ => show win0_2.index t (0 : Fin 3) * 1 + 1 * (0 + 1 * 0) = t.val / 16; omega
  | ⟨1, _⟩ => show win0_2.index t (1 : Fin 3) * 8192 + 1 * (s + 1 * n.val) = s + n.val; omega
  | ⟨2, _⟩ => show win0_2.index t (2 : Fin 3) * 128 + 1 * (0 + 1 * l.val) = 6144 + l.val; omega

theorem values (s : Nat) (hs : s + 384 ≤ 8192) (l : Fin 128) (n : Fin 384) : valuesOf (iblk m c 3 t) s hs (ix2 l n) = V m c main_v19
    (ix2 ⟨512 + l.val, by omega⟩ ⟨8192 * (t.val / 16) + (s + n.val), by have := lt t; omega⟩) := by
  refine congrArg (V m c main_v19) (funext fun a => Fin.ext ?_)
  obtain ⟨e0, e1⟩ := idx3 t
  match a with
  | ⟨0, _⟩ => show win0_3.index t (0 : Fin 2) * 128 + 1 * (0 + 1 * l.val) = 512 + l.val; omega
  | ⟨1, _⟩ => show win0_3.index t (1 : Fin 2) * 8192 + 1 * (s + 1 * n.val) = 8192 * (t.val / 16) + (s + n.val); omega

theorem sink (h : Fin 8) : sinkOf (iblk m c 0 t) h = V m c main_arg1 (ix1 h) := by
  refine congrArg (V m c main_arg1) (funext fun a => Fin.ext ?_)
  have e0 := idx0 t
  match a with
  | ⟨0, _⟩ => show win0_0.index t (0 : Fin 1) * 8 + 1 * (h.val + 1 * 0) = h.val; omega

theorem table4 (h : Fin 8) (k : Fin 384) (r : Fin 128) : tabOf (iblk m c 4 t) h (ix4 0 0 k r)
    = V m c main_v35 (ix4 ⟨variant (4 * (t.val % 16)), variant_lt _⟩ h k r) := by
  refine congrArg (V m c main_v35) (funext fun a => Fin.ext ?_)
  obtain ⟨e0, e1, e2, e3⟩ := idx4 t
  match a with
  | ⟨0, _⟩ => show win0_4.index t (0 : Fin 4) * 1 + 1 * (0 + 1 * 0) = variant (4 * (t.val % 16)); omega
  | ⟨1, _⟩ => show win0_4.index t (1 : Fin 4) * 8 + 1 * (h.val + 1 * 0) = h.val; omega
  | ⟨2, _⟩ => show win0_4.index t (2 : Fin 4) * 384 + 1 * (0 + 1 * k.val) = k.val; omega
  | ⟨3, _⟩ => show win0_4.index t (3 : Fin 4) * 128 + 1 * (0 + 1 * r.val) = r.val; omega

theorem table5 (h : Fin 8) (k : Fin 384) (r : Fin 128) : tabOf (iblk m c 5 t) h (ix4 0 0 k r)
    = V m c main_v35 (ix4 ⟨variant (4 * (t.val % 16) + 1), variant_lt _⟩ h k r) := by
  refine congrArg (V m c main_v35) (funext fun a => Fin.ext ?_)
  obtain ⟨e0, e1, e2, e3⟩ := idx5 t
  match a with
  | ⟨0, _⟩ => show win0_5.index t (0 : Fin 4) * 1 + 1 * (0 + 1 * 0) = variant (4 * (t.val % 16) + 1); omega
  | ⟨1, _⟩ => show win0_5.index t (1 : Fin 4) * 8 + 1 * (h.val + 1 * 0) = h.val; omega
  | ⟨2, _⟩ => show win0_5.index t (2 : Fin 4) * 384 + 1 * (0 + 1 * k.val) = k.val; omega
  | ⟨3, _⟩ => show win0_5.index t (3 : Fin 4) * 128 + 1 * (0 + 1 * r.val) = r.val; omega

theorem table6 (h : Fin 8) (k : Fin 384) (r : Fin 128) : tabOf (iblk m c 6 t) h (ix4 0 0 k r)
    = V m c main_v35 (ix4 ⟨variant (4 * (t.val % 16) + 2), variant_lt _⟩ h k r) := by
  refine congrArg (V m c main_v35) (funext fun a => Fin.ext ?_)
  obtain ⟨e0, e1, e2, e3⟩ := idx6 t
  match a with
  | ⟨0, _⟩ => show win0_6.index t (0 : Fin 4) * 1 + 1 * (0 + 1 * 0) = variant (4 * (t.val % 16) + 2); omega
  | ⟨1, _⟩ => show win0_6.index t (1 : Fin 4) * 8 + 1 * (h.val + 1 * 0) = h.val; omega
  | ⟨2, _⟩ => show win0_6.index t (2 : Fin 4) * 384 + 1 * (0 + 1 * k.val) = k.val; omega
  | ⟨3, _⟩ => show win0_6.index t (3 : Fin 4) * 128 + 1 * (0 + 1 * r.val) = r.val; omega

theorem table7 (h : Fin 8) (k : Fin 384) (r : Fin 128) : tabOf (iblk m c 7 t) h (ix4 0 0 k r)
    = V m c main_v35 (ix4 ⟨variant (4 * (t.val % 16) + 3), variant_lt _⟩ h k r) := by
  refine congrArg (V m c main_v35) (funext fun a => Fin.ext ?_)
  obtain ⟨e0, e1, e2, e3⟩ := idx7 t
  match a with
  | ⟨0, _⟩ => show win0_7.index t (0 : Fin 4) * 1 + 1 * (0 + 1 * 0) = variant (4 * (t.val % 16) + 3); omega
  | ⟨1, _⟩ => show win0_7.index t (1 : Fin 4) * 8 + 1 * (h.val + 1 * 0) = h.val; omega
  | ⟨2, _⟩ => show win0_7.index t (2 : Fin 4) * 384 + 1 * (0 + 1 * k.val) = k.val; omega
  | ⟨3, _⟩ => show win0_7.index t (3 : Fin 4) * 128 + 1 * (0 + 1 * r.val) = r.val; omega

end Cert.KernelIdeal.Array

end
-- ==== Proof.Mean.lean ====
/- Weighted means of extended reals: the same mean by powers of two over a window, and by exponentials over all keys. -/
module

public import Idealize.ShloMosaic.Lib.Pointwise

@[expose] public section

noncomputable section

namespace Cert.Mean

open Idealize.ShloMosaic

/-- A sum of reals, read as an extended real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- A nonnegative real factor goes into a sum. -/
theorem sum_mul {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s h ih =>
    rw [Finset.sum_insert h, Finset.sum_insert h,
      EReal.right_distrib_of_nonneg_of_ne_top (EReal.coe_nonneg.mpr hc) (EReal.coe_ne_top c), ih]

/-- A power of two of a real multiple of `1 / log 2`. -/
theorem exp2_scaled (r : ℝ) : Ideal.exp2 ((r * (Real.log 2)⁻¹ : ℝ) : EReal) = Ideal.exp (r : EReal) := by
  show ((Real.rpow 2 _ : ℝ) : EReal) = ((Real.exp r : ℝ) : EReal)
  congr 1
  show (2 : ℝ) ^ (r * (Real.log 2)⁻¹ : ℝ) = Real.exp r
  rw [Real.rpow_def_of_pos (by norm_num)]
  congr 1
  have : Real.log 2 ≠ 0 := (Real.log_pos (by norm_num)).ne'
  field_simp

variable {n w : Nat} (pos : Fin w → Fin n)

/-- The base-two scaling of a score. -/
def scaled (y : EReal) : EReal := y * (((Real.log 2)⁻¹ : ℝ) : EReal)

theorem log_pos : 0 < (Real.log 2)⁻¹ := inv_pos.mpr (Real.log_pos (by norm_num))

theorem scaled_mono : Monotone scaled := fun _ _ h =>
  mul_le_mul_of_nonneg_right h (EReal.coe_nonneg.mpr log_pos.le)

theorem scaled_bot : scaled ⊥ = ⊥ := EReal.bot_mul_coe_of_pos log_pos

theorem scaled_coe (r : ℝ) : scaled (r : EReal) = ((r * (Real.log 2)⁻¹ : ℝ) : EReal) := (EReal.coe_mul _ _).symm

/-- The greatest score of a window that holds every score above `⊥` is the greatest of all. -/
theorem top_window (z : Fin n → EReal) (out : ∀ k, k ∉ Set.range pos → z k = ⊥) (σ : EReal) :
    max (Finset.fold max ⊥ (fun x => scaled (z (pos x))) Finset.univ) (scaled σ) = scaled (max (Finset.fold max ⊥ z Finset.univ) σ) := by
  rw [scaled_mono.map_max]
  congr 1
  show Finset.univ.sup (fun x => scaled (z (pos x))) = scaled (Finset.univ.sup z)
  rw [Finset.apply_sup_eq_sup_comp_of_linearOrder scaled scaled_mono scaled_bot]
  apply le_antisymm
  · exact Finset.sup_le fun x _ => Finset.le_sup (f := scaled ∘ z) (Finset.mem_univ (pos x))
  · refine Finset.sup_le fun k _ => ?_
    by_cases h : k ∈ Set.range pos
    · obtain ⟨x, rfl⟩ := h
      exact Finset.le_sup (f := fun x => scaled (z (pos x))) (Finset.mem_univ x)
    · rw [Function.comp_apply, out k h, scaled_bot]
      exact bot_le

/-- The window's mean by powers of two is the mean by exponentials over all keys. -/
theorem mean_window (inj : Function.Injective pos) (v z : Fin n → EReal) (σ : ℝ) (hz : ∀ k, z k = ⊥ ∨ ∃ r : ℝ, z k = (r : EReal))
    (out : ∀ k, k ∉ Set.range pos → z k = ⊥) (μ ν : EReal) (hμ : μ = max (Finset.fold max ⊥ z Finset.univ) σ) (hν : ν = scaled μ) :
    Ideal.div (∑ x, v (pos x) * Ideal.exp2 (scaled (z (pos x)) - ν)) (∑ x, Ideal.exp2 (scaled (z (pos x)) - ν) + Ideal.exp2 (scaled σ - ν))
      = ∑ k, v k * Ideal.div (Ideal.exp (z k - μ)) (∑ k, Ideal.exp (z k - μ) + Ideal.exp (σ - μ)) := by
  have hμ' : ∃ m : ℝ, μ = (m : EReal) := by
    have h1 : μ ≠ ⊥ := by
      rw [hμ]; exact ne_of_gt (lt_of_lt_of_le (EReal.bot_lt_coe σ) (le_max_right _ _))
    have h2 : μ ≠ ⊤ := by
      rw [hμ]
      refine ne_of_lt (max_lt ?_ (EReal.coe_lt_top σ))
      show Finset.univ.sup z < ⊤
      rw [Finset.sup_lt_iff bot_lt_top]
      intro k _
      rcases hz k with h | ⟨r, h⟩ <;> rw [h]
      · exact bot_lt_top
      · exact EReal.coe_lt_top r
    exact ⟨μ.toReal, (EReal.coe_toReal h2 h1).symm⟩
  obtain ⟨m, rfl⟩ := hμ'
  subst hν
  have real : ∀ r : ℝ, Ideal.exp2 (scaled (r : EReal) - scaled (m : EReal)) = ((Real.exp (r - m) : ℝ) : EReal) := by
    intro r
    rw [scaled_coe, scaled_coe, ← EReal.coe_sub, ← sub_mul, exp2_scaled]
    rfl
  have weight : ∀ k, Ideal.exp2 (scaled (z k) - scaled (m : EReal)) = Ideal.exp (z k - (m : EReal)) := by
    intro k
    rcases hz k with h | ⟨r, h⟩ <;> rw [h]
    · rw [scaled_bot, scaled_coe, EReal.bot_sub, EReal.bot_sub]; rfl
    · rw [real]; rfl
  have wr : ∀ k, ∃ e : ℝ, 0 ≤ e ∧ Ideal.exp (z k - (m : EReal)) = (e : EReal) := by
    intro k
    rcases hz k with h | ⟨r, h⟩ <;> rw [h]
    · exact ⟨0, le_refl _, by rw [EReal.bot_sub]; rfl⟩
    · exact ⟨Real.exp (r - m), (Real.exp_pos _).le, rfl⟩
  have zero : ∀ k, k ∉ Set.range pos → Ideal.exp (z k - (m : EReal)) = 0 := by
    intro k h
    rw [out k h, EReal.bot_sub]; rfl
  choose e he0 he using wr
  have esum : ∀ f : Fin n → EReal, (∀ k, k ∉ Set.range pos → f k = 0) → ∑ x, f (pos x) = ∑ k, f k := fun f hf =>
    Fintype.sum_of_injective pos inj _ _ hf (fun _ => rfl)
  simp only [weight]
  rw [esum (fun k => v k * Ideal.exp (z k - (m : EReal))) (fun k h => by rw [zero k h, mul_zero]),
    esum (fun k => Ideal.exp (z k - (m : EReal))) zero, real]
  have total : ∑ k, Ideal.exp (z k - (m : EReal)) + Ideal.exp ((σ : EReal) - (m : EReal))
      = ((∑ k, e k + Real.exp (σ - m) : ℝ) : EReal) := by
    simp only [he]
    rw [coe_sum, EReal.coe_add]; rfl
  have total' : ∑ k, Ideal.exp (z k - (m : EReal)) + ((Real.exp (σ - m) : ℝ) : EReal) = ((∑ k, e k + Real.exp (σ - m) : ℝ) : EReal) := total
  rw [total, total']
  have pos' : 0 < ∑ k, e k + Real.exp (σ - m) := add_pos_of_nonneg_of_pos (Finset.sum_nonneg fun k _ => he0 k) (Real.exp_pos _)
  generalize ∑ k, e k + Real.exp (σ - m) = δ at pos'
  have div : ∀ a : EReal, Ideal.div a (δ : EReal) = a * ((δ⁻¹ : ℝ) : EReal) := by
    intro a
    rw [Ideal.div, if_neg (by exact_mod_cast pos'.ne'), EReal.coe_inv]
  simp only [div]
  rw [sum_mul _ _ _ (inv_pos.mpr pos').le]
  exact Finset.sum_congr rfl fun k _ => mul_assoc _ _ _

end Cert.Mean

end
-- ==== Proof.Row.lean ====
/- The two weighted means are equal: over a window by powers of two, over all keys by exponentials. -/
module

public import proofs.«01_k».proof.Proof.Words
public import proofs.«01_k».proof.Proof.Mean

@[expose] public section

noncomputable section

namespace Cert.Row

open Idealize.ShloMosaic Cert.Words Cert.Mean

/-- The word of a distance, read as a real. -/
theorem sitofp_real (b : BitVec 32) : FloatOps.sitofp (F := Ideal) .f32 b = ((b.toInt : ℝ) : EReal) := rfl

/-- The reference's score of key `k`, where the mask lets it through. -/
def value (a : ℝ) (u : Fin 64 → ℝ) (w : Fin 8192 → Fin 64 → ℝ) (q k : Fin 8192) : ℝ :=
  (∑ e, w k e * u e) * 8⁻¹ + -a * ((ReferenceIdeal.Rows.dist q.val k.val).toInt : ℝ)

theorem dot_real {n : Nat} (f g : Fin n → ℝ) : ∑ e, ((f e : ℝ) : EReal) * ((g e : ℝ) : EReal) = ((∑ e, f e * g e : ℝ) : EReal) := by
  rw [← coe_sum]
  exact Finset.sum_congr rfl fun e _ => (EReal.coe_mul _ _).symm

theorem score_reference (a : ℝ) (u : Fin 64 → ℝ) (w : Fin 8192 → Fin 64 → ℝ) (q k : Fin 8192) :
    ReferenceIdeal.Rows.score (a : EReal) (fun e => (u e : EReal)) (fun k e => (w k e : EReal)) q k
      = if IntOp.cmpi .sle (ReferenceIdeal.Rows.dist q.val k.val) 128#32 = 1#1 then ((value a u w q k : ℝ) : EReal) else ⊥ := by
  unfold ReferenceIdeal.Rows.score Scalar.select
  rw [bits_ninf, bits_eighth, dot_real, sitofp_real, value]
  refine if_congr Iff.rfl ?_ rfl
  rw [← EReal.coe_neg, ← EReal.coe_mul, ← EReal.coe_mul, ← EReal.coe_add]

/-- The kernel's score is the reference's, scaled. -/
theorem score_kernel (a : ℝ) (u : Fin 64 → ℝ) (w : Fin 8192 → Fin 64 → ℝ) (q k : Fin 8192) :
    KernelIdeal.Rows.score (fun e => (u e : EReal)) (fun e => (w k e : EReal))
        (Scalar.select (IntOp.cmpi .sle (ReferenceIdeal.Rows.dist q.val k.val) 128#32)
          (-(a : EReal) * FloatOps.sitofp (F := Ideal) .f32 (ReferenceIdeal.Rows.dist q.val k.val)) (Ideal.ofBits .f32 0xFF800000#32))
      = scaled (ReferenceIdeal.Rows.score (a : EReal) (fun e => (u e : EReal)) (fun k e => (w k e : EReal)) q k) := by
  rw [score_reference]
  unfold KernelIdeal.Rows.score Scalar.select
  rw [bits_ninf, log2e_eq, qscale_eq, sitofp_real]
  have dot : ∑ e, ((w k e : ℝ) : EReal) * (((u e : ℝ) : EReal) * ((8⁻¹ * (Real.log 2)⁻¹ : ℝ) : EReal))
      = ((((∑ e, w k e * u e) * 8⁻¹) * (Real.log 2)⁻¹ : ℝ) : EReal) := by
    rw [mul_assoc, Finset.sum_mul, ← coe_sum]
    refine Finset.sum_congr rfl fun e _ => ?_
    rw [← EReal.coe_mul, ← EReal.coe_mul, mul_assoc]
  rw [dot]
  by_cases h : IntOp.cmpi .sle (ReferenceIdeal.Rows.dist q.val k.val) 128#32 = 1#1
  · have h' : IntOp.cmpi .sle (ReferenceIdeal.Rows.dist q.val k.val) 128#32 = 1 := h
    rw [if_pos h', if_pos h, scaled_coe, ← EReal.coe_neg, ← EReal.coe_mul, ← EReal.coe_mul, ← EReal.coe_add, value, add_mul]
  · have h' : ¬ IntOp.cmpi .sle (ReferenceIdeal.Rows.dist q.val k.val) 128#32 = 1 := h
    rw [if_neg h', if_neg h, scaled_bot, EReal.bot_mul_coe_of_pos log_pos, EReal.add_bot]

/-- One row: the kernel's mean over its window is the reference's mean over all keys. `pos x` is the key at place `x` of the
    window, `q` the query's position. -/
theorem row_eq (pos : Fin 384 → Fin 8192) (first q : Fin 8192) (hpos : ∀ x, (pos x).val = first.val + x.val)
    (inside : ∀ k : Nat, k < 8192 → k ≤ q.val + 128 → q.val ≤ k + 128 → first.val ≤ k ∧ k < first.val + 384)
    (a : ℝ) (u : Fin 64 → EReal) (w : Fin 8192 → Fin 64 → EReal) (v : Fin 8192 → EReal) (σ : EReal)
    (hu : ∀ e, ∃ r : ℝ, u e = r) (hw : ∀ k e, ∃ r : ℝ, w k e = r) (hσ : ∃ r : ℝ, σ = r) :
    KernelIdeal.Rows.mean (fun x => v (pos x))
        (fun x => KernelIdeal.Rows.score u (w (pos x))
          (Scalar.select (IntOp.cmpi .sle (ReferenceIdeal.Rows.dist q.val (pos x).val) 128#32)
            (-(a : EReal) * FloatOps.sitofp (F := Ideal) .f32 (ReferenceIdeal.Rows.dist q.val (pos x).val))
            (Ideal.ofBits .f32 0xFF800000#32)))
        (σ * Named.named (F := Ideal) KernelIdeal.κ "log2e" (φ := .f32) 0x3FB8AA3B#32)
      = ReferenceIdeal.Rows.mean v (fun k => ReferenceIdeal.Rows.score (a : EReal) u w q k) σ := by
  choose u' hu using hu
  choose w' hw using hw
  obtain ⟨σ', rfl⟩ := hσ
  obtain rfl : u = fun e => ((u' e : ℝ) : EReal) := funext hu
  obtain rfl : w = fun k e => ((w' k e : ℝ) : EReal) := funext fun k => funext (hw k)
  have inj : Function.Injective pos := fun x y h => Fin.ext (by have := hpos x; have := hpos y; rw [h] at *; omega)
  have out : ∀ k, k ∉ Set.range pos →
      ReferenceIdeal.Rows.score (a : EReal) (fun e => ((u' e : ℝ) : EReal)) (fun k e => ((w' k e : ℝ) : EReal)) q k = ⊥ := by
    intro k hk
    rw [score_reference]
    refine if_neg fun h => hk ?_
    obtain ⟨h1, h2⟩ := near q.val k.val q.isLt k.isLt h
    obtain ⟨h3, h4⟩ := inside k.val k.isLt h1 h2
    exact ⟨⟨k.val - first.val, by omega⟩, Fin.ext (by rw [hpos]; dsimp only; omega)⟩
  have real : ∀ k, ReferenceIdeal.Rows.score (a : EReal) (fun e => ((u' e : ℝ) : EReal)) (fun k e => ((w' k e : ℝ) : EReal)) q k = ⊥
      ∨ ∃ r : ℝ, ReferenceIdeal.Rows.score (a : EReal) (fun e => ((u' e : ℝ) : EReal)) (fun k e => ((w' k e : ℝ) : EReal)) q k = r := by
    intro k
    rw [score_reference]
    split
    · exact Or.inr ⟨_, rfl⟩
    · exact Or.inl rfl
  simp only [score_kernel a u' w' q]
  have key := mean_window pos inj v _ σ' real out _ _ rfl
    (top_window pos (ReferenceIdeal.Rows.score (a : EReal) (fun e => ((u' e : ℝ) : EReal)) (fun k e => ((w' k e : ℝ) : EReal)) q) out σ')
  unfold KernelIdeal.Rows.mean KernelIdeal.Rows.top ReferenceIdeal.Rows.mean ReferenceIdeal.Rows.top
  rw [bits_ninf]
  exact key

end Cert.Row

end
-- ==== Proof.Result.lean ====
/- The kernel's result array is the reference's, where queries, keys and sinks are finite. -/
module

public import proofs.«01_k».proof.Proof.Array
public import proofs.«01_k».proof.Proof.Row
public import proofs.«01_k».proof.Proof.Gen.KernelIdeal.Value

@[expose] public section

noncomputable section

namespace Cert.KernelIdeal.Result

open Cert.KernelIdeal Cert.KernelIdeal.Gen Cert.KernelIdeal.Block Cert.KernelIdeal.Array Cert.KernelIdeal.Host
open Idealize.ShloMosaic Idealize.ShloMosaic.TcCoe Idealize.SL.Sem

set_option maxRecDepth 16384

/-- The queries, the keys and the sinks are real numbers. -/
def Real3 (x : FVec Ideal S8x8192x6912 .f32) (s : FVec Ideal S8 .f32) : Prop :=
  (∀ (b : Fin 8) (n : Fin 8192) (l : Fin 640), ∃ r : ℝ, x (ix3 b n ⟨3072 + l.val, by omega⟩) = r) ∧ ∀ h : Fin 8, ∃ r : ℝ, s (ix1 h) = r

variable (m : (ℓ : Loc nD τ sig) → Buf (Elt Ideal) ℓ) (c : Dev nD) (t : Fin cfg0.N)

/-- The two arguments. -/
abbrev argX : FVec Ideal S8x8192x6912 .f32 := m ((c : Thread nD τ).loc main_arg0)
abbrev argS : FVec Ideal S8 .f32 := m ((c : Thread nD τ).loc main_arg1)

/-- Every row block's rows are the reference's. `o` is the block's first row in the point's block, `u` its number. -/
theorem block_value (hf : Real3 (argX m c) (argS m c)) (u : Fin 4) (o : Nat) (ho : o + 128 ≤ 512) (hou : o = 128 * u.val)
    (hw : startWord (grid0.coords t 1) (BitVec.ofNat 32 u.val) + 384 ≤ 8192) (tab : Vec Ideal S1x8x384x128 .f32)
    (htab : ∀ (h : Fin 8) (k : Fin 384) (r : Fin 128), tabOf tab h (ix4 0 0 k r)
      = V m c main_v35 (ix4 ⟨variant (4 * (t.val % 16) + u.val), variant_lt _⟩ h k r))
    (r : Fin 128) (g : Fin 2) (j : Fin 4) (d : Fin 64) :
    blockOut m c t o ho (BitVec.ofNat 32 u.val) hw tab (ix3 0 r ⟨64 * (4 * g.val + j.val) + d.val, by omega⟩)
      = ReferenceIdeal.Read.val_main_v61 (F := Ideal) (argX m c) (argS m c) (ix3 ⟨t.val / 16, by have := lt t; omega⟩
          ⟨512 * (t.val % 16) + (o + r.val), by omega⟩ ⟨g.val * 256 + j.val * 64 + d.val, by omega⟩) := by
  have hN := lt t
  have hs : startWord (grid0.coords t 1) (BitVec.ofNat 32 u.val) = first (4 * (t.val % 16) + u.val) := by
    rw [startWord_eq (grid0.coords t 1) u, coords_row]
  have hfirst : first (4 * (t.val % 16) + u.val) + 384 ≤ 8192 := by rw [← hs]; exact hw
  have hvar : first (4 * (t.val % 16) + u.val) + 128 * variant (4 * (t.val % 16) + u.val) = 128 * (4 * (t.val % 16) + u.val) := by
    unfold first variant; split_ifs <;> omega
  have hwin : first (4 * (t.val % 16) + u.val) ≤ 128 * (4 * (t.val % 16) + u.val)
      ∧ (128 * (4 * (t.val % 16) + u.val) ≤ first (4 * (t.val % 16) + u.val) + 128 ∨ first (4 * (t.val % 16) + u.val) = 7808)
      ∧ (first (4 * (t.val % 16) + u.val) + 128 ≤ 128 * (4 * (t.val % 16) + u.val) ∨ first (4 * (t.val % 16) + u.val) = 0) := by
    unfold first; omega
  rw [ReferenceIdeal.Rows.element (argX m c) (argS m c) ⟨t.val / 16, by omega⟩ g j ⟨512 * (t.val % 16) + (o + r.val), by omega⟩ d,
    Words.slope_reference]
  unfold blockOut
  rw [Rows.rowsOut_apply _ _ _ _ _ r ⟨4 * g.val + j.val, by omega⟩ d]
  have hq : ∀ e : Fin 64, queriesOf (X0_1 m c t) o ho (ix3 0 r ⟨128 * ((4 * g.val + j.val) % 4) + (64 * ((4 * g.val + j.val) / 4) + e.val), by omega⟩)
      = argX m c (ix3 ⟨t.val / 16, by omega⟩ ⟨512 * (t.val % 16) + (o + r.val), by omega⟩ ⟨3072 + (g.val * 256 + j.val * 64 + e.val), by omega⟩) := by
    intro e
    rw [queries, ordered_eq]
    refine (ordered_query (argX m c) _ _ ⟨4 * g.val + j.val, by omega⟩ e).trans ?_
    exact congrArg (fun l => argX m c (ix3 _ _ l)) (Fin.ext (by dsimp only; omega))
  have hk : ∀ (n : Fin 384) (e : Fin 64), keysOf (iblk m c 2 t) _ hw (ix3 0 n ⟨64 * ((4 * g.val + j.val) / 4) + e.val, by omega⟩)
      = argX m c (ix3 ⟨t.val / 16, by omega⟩ ⟨first (4 * (t.val % 16) + u.val) + n.val, by omega⟩ ⟨3584 + (g.val * 64 + e.val), by omega⟩) := by
    intro n e
    rw [keys, ordered_eq]
    refine (ordered_key (argX m c) _ _ ⟨64 * ((4 * g.val + j.val) / 4) + e.val, by omega⟩).trans ?_
    refine congrArg₂ (fun k l => argX m c (ix3 _ k l)) (Fin.ext ?_) (Fin.ext ?_)
    · show startWord _ _ + n.val = _; rw [hs]
    · dsimp only; omega
  have hv : ∀ n : Fin 384, valuesOf (iblk m c 3 t) _ hw (ix2 ⟨64 * ((4 * g.val + j.val) / 4) + d.val, by omega⟩ n)
      = argX m c (ix3 ⟨t.val / 16, by omega⟩ ⟨first (4 * (t.val % 16) + u.val) + n.val, by omega⟩ ⟨3712 + (g.val * 64 + d.val), by omega⟩) := by
    intro n
    rw [values, valueRows_eq]
    refine (valueRows_apply (argX m c) ⟨t.val / 16, by omega⟩ ⟨startWord (grid0.coords t 1) (BitVec.ofNat 32 u.val) + n.val, by omega⟩
      ⟨64 * ((4 * g.val + j.val) / 4) + d.val, by omega⟩).trans ?_
    refine congrArg₂ (fun k l => argX m c (ix3 _ k l)) (Fin.ext ?_) (Fin.ext ?_)
    · show startWord _ _ + n.val = _; rw [hs]
    · dsimp only; omega
  have ht : ∀ n : Fin 384, tabOf tab ⟨4 * g.val + j.val, by omega⟩ (ix4 0 0 n r)
      = Scalar.select (IntOp.cmpi .sle (ReferenceIdeal.Rows.dist (512 * (t.val % 16) + (o + r.val)) (first (4 * (t.val % 16) + u.val) + n.val)) 128#32)
          (-((Words.slope ⟨g.val * 4 + j.val, by omega⟩ : ℝ) : EReal)
            * FloatOps.sitofp (F := Ideal) .f32 (ReferenceIdeal.Rows.dist (512 * (t.val % 16) + (o + r.val)) (first (4 * (t.val % 16) + u.val) + n.val)))
          (Ideal.ofBits .f32 0xFF800000#32) := by
    intro n
    rw [htab, biases_eq, biases_apply, Words.slope_kernel, Words.relative _ _ _ (512 * (t.val % 16) + (o + r.val))
      (first (4 * (t.val % 16) + u.val) + n.val) (by dsimp only; omega)]
    rw [show (⟨4 * g.val + j.val, by omega⟩ : Fin 8) = ⟨g.val * 4 + j.val, by omega⟩ from Fin.ext (by dsimp only; omega)]
  have hσ : sinkOf (iblk m c 0 t) ⟨4 * g.val + j.val, by omega⟩ = argS m c (ix1 ⟨g.val * 4 + j.val, by omega⟩) := by
    rw [sink, V_main_arg1]
    exact congrArg (fun l => argS m c (ix1 l)) (Fin.ext (by dsimp only; omega))
  dsimp only at hq hk hv ht hσ ⊢
  simp only [hq, hk, hv, ht, hσ]
  refine Row.row_eq (fun n => ⟨first (4 * (t.val % 16) + u.val) + n.val, by omega⟩) ⟨first (4 * (t.val % 16) + u.val), by omega⟩
    ⟨512 * (t.val % 16) + (o + r.val), by omega⟩ (fun _ => rfl) ?_
    (Words.slope ⟨g.val * 4 + j.val, by omega⟩)
    (fun e => argX m c (ix3 ⟨t.val / 16, by omega⟩ ⟨512 * (t.val % 16) + (o + r.val), by omega⟩ ⟨3072 + (g.val * 256 + j.val * 64 + e.val), by omega⟩))
    (fun k e => argX m c (ix3 ⟨t.val / 16, by omega⟩ k ⟨3584 + (g.val * 64 + e.val), by omega⟩))
    (fun k => argX m c (ix3 ⟨t.val / 16, by omega⟩ k ⟨3712 + (g.val * 64 + d.val), by omega⟩))
    (argS m c (ix1 ⟨g.val * 4 + j.val, by omega⟩)) ?_ ?_ (hf.2 _)
  · intro k h1 h2 h3
    dsimp only at h2 h3 ⊢
    obtain ⟨w1, w2, w3⟩ := hwin
    omega
  · intro e
    obtain ⟨v, hv⟩ := hf.1 ⟨t.val / 16, by omega⟩ ⟨512 * (t.val % 16) + (o + r.val), by omega⟩ ⟨g.val * 256 + j.val * 64 + e.val, by omega⟩
    exact ⟨v, hv⟩
  · intro k e
    obtain ⟨v, hv⟩ := hf.1 ⟨t.val / 16, by omega⟩ k ⟨512 + (g.val * 64 + e.val), by omega⟩
    refine ⟨v, Eq.trans ?_ hv⟩
    exact congrArg (fun l => argX m c (ix3 _ _ l)) (Fin.ext (by dsimp only; omega))

/-- The reference's result, of the kernel's arguments. -/
def target : Vec Ideal S8x8192x512 .bf16 := ReferenceIdeal.Read.val_main_v61 (F := Ideal) (argX m c) (argS m c)

/-- An index of the point's block, in the result array. -/
theorem emb8 (y : S1x512x512.Idx) : ((cfg0.win 8).blk t).view.emb y
    = ix3 ⟨t.val / 16, by have := lt t; omega⟩ ⟨512 * (t.val % 16) + (y 1).val, by have : (y 1).val < 512 := (y 1).isLt; omega⟩ (y 2) := by
  funext a
  apply Fin.ext
  obtain ⟨e0, e1, e2⟩ := idx8 t
  match a with
  | ⟨0, _⟩ => show win0_8.index t (0 : Fin 3) * 1 + 1 * (y 0).val = t.val / 16; have : (y 0).val < 1 := (y 0).isLt; omega
  | ⟨1, _⟩ => show win0_8.index t (1 : Fin 3) * 512 + 1 * (y 1).val = 512 * (t.val % 16) + (y 1).val; omega
  | ⟨2, _⟩ => show win0_8.index t (2 : Fin 3) * 512 + 1 * (y 2).val = (y 2).val; omega

/-- The rows of one block, as a piece of the point's block. -/
theorem piece_value (hf : Real3 (argX m c) (argS m c)) (u : Fin 4) (o : Nat) (ho : o + 128 ≤ 512) (hou : o = 128 * u.val)
    (hw : startWord (grid0.coords t 1) (BitVec.ofNat 32 u.val) + 384 ≤ 8192) (tab : Vec Ideal S1x8x384x128 .f32)
    (htab : ∀ (h : Fin 8) (k : Fin 384) (r : Fin 128), tabOf tab h (ix4 0 0 k r)
      = V m c main_v35 (ix4 ⟨variant (4 * (t.val % 16) + u.val), variant_lt _⟩ h k r)) (y : S1x128x512.Idx) :
    blockOut m c t o ho (BitVec.ofNat 32 u.val) hw tab y
      = target m c (((cfg0.win 8).blk t).view.emb ((Rect.unit (s := S1x512x512) ![0, o, 0] S1x128x512.size (rows_inb o ho)).emb y)) := by
  have hN := lt t
  have h0 : (y 0).val < 1 := (y 0).isLt
  have h1 : (y 1).val < 128 := (y 1).isLt
  have h2 : (y 2).val < 512 := (y 2).isLt
  have hy : y = ix3 0 ⟨(y 1).val, h1⟩ ⟨64 * (4 * ((y 2).val / 256) + (y 2).val / 64 % 4) + (y 2).val % 64, by omega⟩ := by
    funext a
    apply Fin.ext
    match a with
    | ⟨0, _⟩ => show (y 0).val = 0; omega
    | ⟨1, _⟩ => rfl
    | ⟨2, _⟩ => show (y 2).val = 64 * (4 * ((y 2).val / 256) + (y 2).val / 64 % 4) + (y 2).val % 64; omega
  refine (congrArg (blockOut m c t o ho (BitVec.ofNat 32 u.val) hw tab) hy).trans ?_
  refine (block_value m c t hf u o ho hou hw tab htab ⟨(y 1).val, h1⟩ ⟨(y 2).val / 256, by omega⟩ ⟨(y 2).val / 64 % 4, by omega⟩
    ⟨(y 2).val % 64, by omega⟩).trans ?_
  rw [emb8]
  refine congrArg (target m c) (funext fun a => Fin.ext ?_)
  match a with
  | ⟨0, _⟩ => rfl
  | ⟨1, _⟩ => show 512 * (t.val % 16) + (o + (y 1).val) = 512 * (t.val % 16) + (o + 1 * (y 1).val); omega
  | ⟨2, _⟩ => show (y 2).val / 256 * 256 + (y 2).val / 64 % 4 * 64 + (y 2).val % 64 = 0 + 1 * (y 2).val; omega

/-- What a grid point leaves in the output's block is the reference's block. -/
theorem outs_value (hf : Real3 (argX m c) (argS m c)) (y : S1x512x512.Idx) :
    outsAt0 m c t y = target m c (((cfg0.win 8).blk t).view.emb y) := by
  have h0 : (y 0).val < 1 := (y 0).isLt
  have h1 : (y 1).val < 512 := (y 1).isLt
  have h2 : (y 2).val < 512 := (y 2).isLt
  rw [outs_eq]
  refine View.canon_apply_of_pieces (fun y => target m c (((cfg0.win 8).blk t).view.emb y)) _ ?_ y ?_
  · intro p hp
    simp only [List.mem_cons, List.not_mem_nil, or_false] at hp
    rcases hp with rfl | rfl | rfl | rfl
    · exact piece_value m c t hf 3 384 (by decide) rfl _ _ (table7 m c t)
    · exact piece_value m c t hf 2 256 (by decide) rfl _ _ (table6 m c t)
    · exact piece_value m c t hf 1 128 (by decide) rfl _ _ (table5 m c t)
    · exact piece_value m c t hf 0 0 (by decide) rfl _ _ (table4 m c t)
  · have mem : ∀ o (ho : o + 128 ≤ 512), o ≤ (y 1).val → (y 1).val < o + 128 →
        y ∈ (Rect.unit (s := S1x512x512) ![0, o, 0] S1x128x512.size (rows_inb o ho)).set := by
      intro o ho l1 l2
      rw [Rect.mem_set_unit]
      intro a
      match a with
      | ⟨0, _⟩ => exact ⟨Nat.zero_le _, by show (y 0).val < 0 + 1; omega⟩
      | ⟨1, _⟩ => exact ⟨l1, l2⟩
      | ⟨2, _⟩ => exact ⟨Nat.zero_le _, by show (y 2).val < 0 + 512; omega⟩
    by_cases c3 : 384 ≤ (y 1).val
    · exact ⟨_, .head _, mem 384 (by decide) c3 (by omega)⟩
    by_cases c2 : 256 ≤ (y 1).val
    · exact ⟨_, .tail _ (.head _), mem 256 (by decide) c2 (by omega)⟩
    by_cases c1 : 128 ≤ (y 1).val
    · exact ⟨_, .tail _ (.tail _ (.head _)), mem 128 (by decide) c1 (by omega)⟩
    · exact ⟨_, .tail _ (.tail _ (.tail _ (.head _))), mem 0 (by decide) (Nat.zero_le _) (by omega)⟩

theorem flushed_value (hf : Real3 (argX m c) (argS m c)) :
    (dats m 0 c).flushed 8 t = ((cfg0.win 8).blk t).view.read (Elt Ideal) (target m c) := by
  rw [Value.flushed8]
  funext y
  exact outs_value m c t hf y

/-- The grid points' blocks cover the result array. -/
theorem covered (i : S8x8192x512.Idx) : ∃ t : Fin cfg0.N, (cfg0.win 8).flush t = true ∧ i ∈ ((cfg0.win 8).blk t).view.set := by
  have h0 : (i 0).val < 8 := (i 0).isLt
  have h1 : (i 1).val < 8192 := (i 1).isLt
  have hN : cfg0.N = 128 := by decide
  obtain ⟨T, hT⟩ : ∃ T : Fin cfg0.N, T.val = 16 * (i 0).val + (i 1).val / 512 :=
    ⟨⟨16 * (i 0).val + (i 1).val / 512, by rw [hN]; omega⟩, rfl⟩
  refine ⟨T, flush0_8 _, ?_⟩
  have h := ((cfg0.win 8).blk T).view.emb_mem_set (ix3 0 ⟨(i 1).val % 512, by omega⟩ (i 2) : S1x512x512.Idx)
  rw [emb8] at h
  have e : i = ix3 ⟨T.val / 16, by omega⟩ ⟨512 * (T.val % 16) + (i 1).val % 512, by omega⟩ (i 2) := by
    funext a
    apply Fin.ext
    match a with
    | ⟨0, _⟩ => show (i 0).val = T.val / 16; omega
    | ⟨1, _⟩ => show (i 1).val = 512 * (T.val % 16) + (i 1).val % 512; omega
    | ⟨2, _⟩ => rfl
  rw [e]
  exact h

/-- The result array after the run is the reference's result. -/
theorem final (hf : Real3 (argX m c) (argS m c)) : (dats m 0 c).arrAt 8 cfg0.N = target m c :=
  (dats m 0 c).arrAt_eq_of_cover 8 (target m c) (fun t _ => flushed_value m c t hf) covered

end Cert.KernelIdeal.Result

end
-- ==== Proof.Finite.lean ====
/- What the precondition says: the queries, the keys and the sinks are real numbers. -/
module

public import proofs.«01_k».proof.Defs
public import proofs.«01_k».proof.Proof.Result
public import Idealize.ShloMosaic.Lib.Pointwise
public import Idealize.ShloMosaic.Lib.Affine
public import Idealize.ShloMosaic.Lib.Decide
public import Idealize.ShloMosaic.Lib.ReduceAll

@[expose] public section

noncomputable section

namespace Cert.Finite

open Idealize.ShloMosaic Idealize.ShloMosaic.TcCoe Cert.Pre_finite Cert.Pre_finite.Facts

set_option maxRecDepth 16384

instance facts : Cert.Pre_finite.Facts where
  slices_S8x8192x6912_S8x8192x640_0_0_3072 := by decide
  bcast_S_S8x8192x640 := by decide
  reducesTo_S8x8192x640_S_d0_1_2 := by decide
  h_S_ := by decide
  bcast_S_S8 := by decide
  reducesTo_S8_S_d0 := by decide

/-- A number whose absolute value is below the top is real. -/
theorem real_of_lt (x : EReal) (h : Ideal.cmp .olt (max x (-x)) (Ideal.ofBits .f32 0x7F800000#32) = 1#1) : ∃ r : ℝ, x = r := by
  rw [Words.bits_pinf] at h
  have top : Ideal.cmp .olt (⊤ : EReal) ⊤ = 0#1 := by simp [Ideal.cmp]
  induction x with
  | bot => rw [EReal.neg_bot, max_eq_right bot_le, top] at h; exact absurd h (by decide)
  | top => rw [max_eq_left le_top, top] at h; exact absurd h (by decide)
  | coe r => exact ⟨r, rfl⟩

instance : Subsingleton S_.Idx := ⟨fun a b => funext fun i => i.elim0⟩

/-- The precondition's queries, keys and sinks are real. -/
theorem real_of_pre (x : FVec Ideal S8x8192x6912 .f32) (s : FVec Ideal S8 .f32) (h : Cert.Pre_finite.fn x s = fun _ => 1#1) :
    KernelIdeal.Result.Real3 x s := by
  have h0 := congrFun h (fun a => a.elim0)
  unfold Cert.Pre_finite.fn at h0
  obtain ⟨hx, hs⟩ := IntOp.andi_eq_one.1 h0
  refine ⟨fun b n l => ?_, fun k => ?_⟩
  · refine real_of_lt _ (Eq.trans ?_ (Host.reduce_andi_all _ _ _ _ _ hx (ix3 b n l)))
    pointwise []
    rfl
  · exact real_of_lt _ (Host.reduce_andi_all _ _ _ _ _ hs (ix1 k))

end Cert.Finite

end
-- ==== Proof.NearBlock.lean ====
/- What the neighbourhood attention's body leaves in its output block: four blocks of 128 rows, each the same function
   (`rowsOut`) of 128 query rows, the 640 keys and values its window reads, and the bias table. -/
module

public import proofs.«01_k».proof.Proof.Gen.Kernel4Ideal.Value
public import Idealize.ShloMosaic.Lib.Pipeline.Value
public import Idealize.ShloMosaic.Lib.Pointwise

@[expose] public section

noncomputable section

namespace Cert.Kernel4Ideal.Block

open Cert.Kernel4Ideal Cert.Kernel4Ideal.Gen Idealize.ShloMosaic Idealize.ShloMosaic.TcCoe Idealize.SL.Sem
open Idealize.ShloMosaic.Pipeline (Dat)

variable {F : FTy → Type} [FloatOps F] [Named F]

/-- The queries of a block, scaled. -/
def scaled (q : Vec F S1x128x512 .bf16) : FVec F S128x512 .bf16 :=
  truncf .bf16 (mulf (extf .f32 (shapeCast S128x512 q shapeCasts_S1x128x512_S128x512) bitsLt_bf16_f32)
    (broadcast S128x512 (Named.named κ "qscale" 0x3E38AA3B#32))) bitsLt_bf16_f32

/-- Two heads' queries one under the other: of 128 lanes the first keeps the lower half, the second the upper half. -/
def twoHeads (x : FVec F S128x128 .bf16) : FVec F S256x128 .bf16 :=
  concatenate S256x128 0
    [⟨S128x128, select (broadcastTo S128x128 (shapeCast S1x128
        (cmpi .slt (iota .tc S1x128 32 [1] iota_S1x128_d1_w32) (broadcast S1x128 64#32)) shapeCasts_S1x128_S1x128)
        broadcasts_S1x128_S128x128) x (broadcast S128x128 (Scalar.ofBits .bf16 0x0000#16))⟩,
     ⟨S128x128, select (broadcastTo S128x128 (shapeCast S1x128
        (cmpi .sge (iota .tc S1x128 32 [1] iota_S1x128_d1_w32) (broadcast S1x128 64#32)) shapeCasts_S1x128_S1x128)
        broadcasts_S1x128_S128x128) x (broadcast S128x128 (Scalar.ofBits .bf16 0x0000#16))⟩]
    concatenates_S128x128_S128x128_S256x128_d0

/-- The products of the keys with the queries of two heads: 640 keys by twice 128 queries. -/
def products (k : FVec F S640x128 .bf16) (x : FVec F S128x128 .bf16) : FVec F S640x256 .f32 :=
  matmul dot_S640x128_S256x128_S640x256_1_1_0_0_n_n none k (twoHeads x) (constant S640x256 .f32 0x00000000#32)

/-- The scores of one head in units of one binary digit. -/
def scores (s : FVec F S640x128 .f32) (tab : Vec F S1x1x640x128 .f32) : FVec F S640x128 .f32 :=
  addf s (mulf (shapeCast S640x128 tab shapeCasts_S1x1x640x128_S640x128)
    (broadcast S640x128 (Named.named κ "log2e" 0x3FB8AA3B#32)))

/-- The greatest score of each query. -/
def greatest (s : FVec F S640x128 .f32) : FVec F S1x128 .f32 :=
  shapeCast S1x128 (multiReduction .maximumf [0] S128 s 0xFF800000#32 reduces_S640x128_S128 (.inl rfl) rfl) shapeCasts_S128_S1x128

/-- The weights of the keys, not yet divided by their total. -/
def weights (s : FVec F S640x128 .f32) : FVec F S640x128 .bf16 :=
  truncf .bf16 (exp2 (subf s (broadcastTo S640x128 (greatest s) broadcasts_S1x128_S640x128))) bitsLt_bf16_f32

/-- The weighted values, and under them the weights' total. -/
def weighed (v : FVec F S64x640 .bf16) (p : FVec F S640x128 .bf16) : FVec F S80x128 .f32 :=
  matmul dot_S80x640_S640x128_S80x128_1_0_0_1_n_n none
    (concatenate S80x640 0 [⟨S64x640, v⟩, ⟨S16x640, broadcast S16x640 (Scalar.ofBits .bf16 0x3F80#16)⟩]
      concatenates_S64x640_S16x640_S80x640_d0) p (constant S80x128 .f32 0x00000000#32)

/-- One head's result, transposed. -/
def headOut (v : FVec F S64x640 .bf16) (s : FVec F S640x128 .f32) : FVec F S64x128 .f32 :=
  divf (extractStridedSlice S64x128 ![0, 0] (weighed v (weights s)) slices_S80x128_o0_0_S64x128)
    (broadcastTo S64x128 (extractStridedSlice S1x128 ![64, 0] (weighed v (weights s)) slices_S80x128_o64_0_S1x128)
      broadcasts_S1x128_S64x128)

/-- The queries and the keys of two heads that lie side by side. -/
def queries0 (q : Vec F S1x128x512 .bf16) : FVec F S128x128 .bf16 :=
  extractStridedSlice S128x128 ![0, 0] (scaled q) slices_S128x512_o0_0_S128x128
def keys0 (k : Vec F S1x640x512 .bf16) : FVec F S640x128 .bf16 :=
  extractStridedSlice S640x128 ![0, 0] (shapeCast S640x512 k shapeCasts_S1x640x512_S640x512) slices_S640x512_o0_0_S640x128
def queries1 (q : Vec F S1x128x512 .bf16) : FVec F S128x128 .bf16 :=
  extractStridedSlice S128x128 ![0, 128] (scaled q) slices_S128x512_o0_128_S128x128
def keys1 (k : Vec F S1x640x512 .bf16) : FVec F S640x128 .bf16 :=
  extractStridedSlice S640x128 ![0, 128] (shapeCast S640x512 k shapeCasts_S1x640x512_S640x512) slices_S640x512_o0_128_S640x128
def queries2 (q : Vec F S1x128x512 .bf16) : FVec F S128x128 .bf16 :=
  extractStridedSlice S128x128 ![0, 256] (scaled q) slices_S128x512_o0_256_S128x128
def keys2 (k : Vec F S1x640x512 .bf16) : FVec F S640x128 .bf16 :=
  extractStridedSlice S640x128 ![0, 256] (shapeCast S640x512 k shapeCasts_S1x640x512_S640x512) slices_S640x512_o0_256_S640x128
def queries3 (q : Vec F S1x128x512 .bf16) : FVec F S128x128 .bf16 :=
  extractStridedSlice S128x128 ![0, 384] (scaled q) slices_S128x512_o0_384_S128x128
def keys3 (k : Vec F S1x640x512 .bf16) : FVec F S640x128 .bf16 :=
  extractStridedSlice S640x128 ![0, 384] (shapeCast S640x512 k shapeCasts_S1x640x512_S640x512) slices_S640x512_o0_384_S640x128

/-- The first and the second of two heads side by side, with their values and their bias table. -/
def evenHead (x : FVec F S128x128 .bf16) (k : FVec F S640x128 .bf16) (v : FVec F S64x640 .bf16) (tab : Vec F S1x1x640x128 .f32) :
    FVec F S64x128 .f32 :=
  headOut v (scores (extractStridedSlice S640x128 ![0, 0] (products k x) slices_S640x256_o0_0_S640x128) tab)
def oddHead (x : FVec F S128x128 .bf16) (k : FVec F S640x128 .bf16) (v : FVec F S64x640 .bf16) (tab : Vec F S1x1x640x128 .f32) :
    FVec F S64x128 .f32 :=
  headOut v (scores (extractStridedSlice S640x128 ![0, 128] (products k x) slices_S640x256_o0_128_S640x128) tab)

/-- The values of each head, transposed. -/
def values0 (v : Vec F S512x640 .bf16) : FVec F S64x640 .bf16 :=
  extractStridedSlice S64x640 ![0, 0] (shapeCast S512x640 v shapeCasts_S512x640_S512x640) slices_S512x640_o0_0_S64x640
def values1 (v : Vec F S512x640 .bf16) : FVec F S64x640 .bf16 :=
  extractStridedSlice S64x640 ![64, 0] (shapeCast S512x640 v shapeCasts_S512x640_S512x640) slices_S512x640_o64_0_S64x640
def values2 (v : Vec F S512x640 .bf16) : FVec F S64x640 .bf16 :=
  extractStridedSlice S64x640 ![128, 0] (shapeCast S512x640 v shapeCasts_S512x640_S512x640) slices_S512x640_o128_0_S64x640
def values3 (v : Vec F S512x640 .bf16) : FVec F S64x640 .bf16 :=
  extractStridedSlice S64x640 ![192, 0] (shapeCast S512x640 v shapeCasts_S512x640_S512x640) slices_S512x640_o192_0_S64x640
def values4 (v : Vec F S512x640 .bf16) : FVec F S64x640 .bf16 :=
  extractStridedSlice S64x640 ![256, 0] (shapeCast S512x640 v shapeCasts_S512x640_S512x640) slices_S512x640_o256_0_S64x640
def values5 (v : Vec F S512x640 .bf16) : FVec F S64x640 .bf16 :=
  extractStridedSlice S64x640 ![320, 0] (shapeCast S512x640 v shapeCasts_S512x640_S512x640) slices_S512x640_o320_0_S64x640
def values6 (v : Vec F S512x640 .bf16) : FVec F S64x640 .bf16 :=
  extractStridedSlice S64x640 ![384, 0] (shapeCast S512x640 v shapeCasts_S512x640_S512x640) slices_S512x640_o384_0_S64x640
def values7 (v : Vec F S512x640 .bf16) : FVec F S64x640 .bf16 :=
  extractStridedSlice S64x640 ![448, 0] (shapeCast S512x640 v shapeCasts_S512x640_S512x640) slices_S512x640_o448_0_S64x640

/-- The 128 rows of the result that one block of queries gives. -/
def rowsOut (q : Vec F S1x128x512 .bf16) (k : Vec F S1x640x512 .bf16) (v : Vec F S512x640 .bf16)
    (tab : Fin 8 → Vec F S1x1x640x128 .f32) : FVec F S1x128x512 .bf16 :=
  shapeCast S1x128x512 (truncf .bf16 (transpose S128x512 [1, 0] (concatenate S512x128 0
    [⟨S64x128, evenHead (queries0 q) (keys0 k) (values0 v) (tab 0)⟩, ⟨S64x128, oddHead (queries0 q) (keys0 k) (values1 v) (tab 1)⟩,
     ⟨S64x128, evenHead (queries1 q) (keys1 k) (values2 v) (tab 2)⟩, ⟨S64x128, oddHead (queries1 q) (keys1 k) (values3 v) (tab 3)⟩,
     ⟨S64x128, evenHead (queries2 q) (keys2 k) (values4 v) (tab 4)⟩, ⟨S64x128, oddHead (queries2 q) (keys2 k) (values5 v) (tab 5)⟩,
     ⟨S64x128, evenHead (queries3 q) (keys3 k) (values6 v) (tab 6)⟩, ⟨S64x128, oddHead (queries3 q) (keys3 k) (values7 v) (tab 7)⟩]
    concatenates_S64x128_S64x128_S64x128_S64x128_S64x128_S64x128_S64x128_S64x128_S512x128_d0)
    transposes_S512x128_p1_0_S128x512) bitsLt_bf16_f32) shapeCasts_S128x512_S1x128x512

/-- Boxes that lie inside their buffers: one head's table, 640 keys, 640 values, 128 rows. -/
theorem tab_inb (h : Fin 8) (a : Fin 4) : (![0, h.val, 0, 0] : Fin 4 → Nat) a + S1x1x640x128.size a ≤ S1x8x640x128.size a :=
  match a with
  | ⟨0, _⟩ => Nat.le_refl 1
  | ⟨1, _⟩ => by show h.val + 1 ≤ 8; omega
  | ⟨2, _⟩ => Nat.le_refl 640
  | ⟨3, _⟩ => Nat.le_refl 128
theorem keys_inb {s : Nat} (hs : s + 640 ≤ 8192) (a : Fin 3) :
    (![0, s, 0] : Fin 3 → Nat) a + S1x640x512.size a ≤ S1x8192x512.size a :=
  match a with
  | ⟨0, _⟩ => Nat.le_refl 1
  | ⟨1, _⟩ => hs
  | ⟨2, _⟩ => Nat.le_refl 512
theorem values_inb {s : Nat} (hs : s + 640 ≤ 8192) (a : Fin 2) :
    (![0, s] : Fin 2 → Nat) a + S512x640.size a ≤ S512x8192.size a :=
  match a with
  | ⟨0, _⟩ => Nat.le_refl 512
  | ⟨1, _⟩ => hs
theorem rows_inb (o : Nat) (ho : o + 128 ≤ 512) (a : Fin 3) :
    (![0, o, 0] : Fin 3 → Nat) a + S1x128x512.size a ≤ S1x512x512.size a :=
  match a with
  | ⟨0, _⟩ => Nat.le_refl 1
  | ⟨1, _⟩ => ho
  | ⟨2, _⟩ => Nat.le_refl 512

/-- The bias table of head `h` within the block of tables a window holds. -/
def tabOf (x : Vec F S1x8x640x128 .f32) (h : Fin 8) : Vec F S1x1x640x128 .f32 :=
  View.ld x (Rect.unit ![0, h.val, 0, 0] S1x1x640x128.size (tab_inb h))

/-- The word the kernel computes for the first key position of block `u` of grid point `i`. -/
def startWord (i : Nat) (u : BitVec 32) : Nat :=
  BitVec.toNat (Scalar.indexCast (Scalar.muli (Scalar.minsi 118#32 (Scalar.maxsi 0#32 (Scalar.subi (Scalar.muli 2#32
    (Scalar.addi (Scalar.muli (BitVec.ofNat 32 i) 4#32) u)) 4#32))) 64#32))

/-- That position never leaves less than 640 keys. -/
theorem startWord_le (i : Fin 16) (u : Fin 4) : startWord i.val (BitVec.ofNat 32 u.val) + 640 ≤ 8192 := by
  revert i u; decide +kernel

/-- The keys of block `u`. -/
def keysOf (x : Vec F S1x8192x512 .bf16) (s : Nat) (hs : s + 640 ≤ 8192) : Vec F S1x640x512 .bf16 :=
  View.ld x (Rect.unit ![0, s, 0] S1x640x512.size (keys_inb hs))

/-- The values of block `u`, transposed. -/
def valuesOf (x : Vec F S512x8192 .bf16) (s : Nat) (hs : s + 640 ≤ 8192) : Vec F S512x640 .bf16 :=
  View.ld x (Rect.unit ![0, s] S512x640.size (values_inb hs))

/-- Row block `o` of the query window. -/
def queriesOf (x : Vec F S1x512x512 .bf16) (o : Nat) (ho : o + 128 ≤ 512) : Vec F S1x128x512 .bf16 :=
  View.ld x (Rect.unit ![0, o, 0] S1x128x512.size (rows_inb o ho))

variable (m : (ℓ : Loc nD τ sig) → Buf (Elt F) ℓ)

/-- The rows one block of grid point `t` gives: `o` its first row in the point's block, `w` its number there, with the
    table window it reads. -/
def blockOut (c : Dev nD) (t : Fin cfg0.N) (o : Nat) (ho : o + 128 ≤ 512) (w : BitVec 32)
    (hw : startWord (grid0.coords t 1) w + 640 ≤ 8192) (tab : Vec F S1x8x640x128 .f32) : FVec F S1x128x512 .bf16 :=
  rowsOut (queriesOf (X0_0 m c t) o ho) (keysOf (X0_1 m c t) (startWord (grid0.coords t 1) w) hw)
    (valuesOf (X0_2 m c t) (startWord (grid0.coords t 1) w) hw) (tabOf tab)

/-- The boxes the body reads, by the names above. -/
theorem ld_queries (x : Vec F S1x512x512 .bf16) (o : Nat) (h) :
    View.ld x (Rect.unit ![0, o, 0] ![1, 128, 512] h) = queriesOf x o (h 1) := rfl
theorem ld_keys (x : Vec F S1x8192x512 .bf16) (s : Nat) (h) :
    View.ld x (Rect.unit ![0, s, 0] ![1, 640, 512] h) = keysOf x s (h 1) := rfl
theorem ld_values (x : Vec F S512x8192 .bf16) (s : Nat) (h) :
    View.ld x (Rect.unit ![0, s] ![512, 640] h) = valuesOf x s (h 1) := rfl
theorem ld_tab0 (x : Vec F S1x8x640x128 .f32) (h) : View.ld x (Rect.unit ![0, 0, 0, 0] ![1, 1, 640, 128] h) = tabOf x 0 := rfl
theorem ld_tab1 (x : Vec F S1x8x640x128 .f32) (h) : View.ld x (Rect.unit ![0, 1, 0, 0] ![1, 1, 640, 128] h) = tabOf x 1 := rfl
theorem ld_tab2 (x : Vec F S1x8x640x128 .f32) (h) : View.ld x (Rect.unit ![0, 2, 0, 0] ![1, 1, 640, 128] h) = tabOf x 2 := rfl
theorem ld_tab3 (x : Vec F S1x8x640x128 .f32) (h) : View.ld x (Rect.unit ![0, 3, 0, 0] ![1, 1, 640, 128] h) = tabOf x 3 := rfl
theorem ld_tab4 (x : Vec F S1x8x640x128 .f32) (h) : View.ld x (Rect.unit ![0, 4, 0, 0] ![1, 1, 640, 128] h) = tabOf x 4 := rfl
theorem ld_tab5 (x : Vec F S1x8x640x128 .f32) (h) : View.ld x (Rect.unit ![0, 5, 0, 0] ![1, 1, 640, 128] h) = tabOf x 5 := rfl
theorem ld_tab6 (x : Vec F S1x8x640x128 .f32) (h) : View.ld x (Rect.unit ![0, 6, 0, 0] ![1, 1, 640, 128] h) = tabOf x 6 := rfl
theorem ld_tab7 (x : Vec F S1x8x640x128 .f32) (h) : View.ld x (Rect.unit ![0, 7, 0, 0] ![1, 1, 640, 128] h) = tabOf x 7 := rfl

attribute [local irreducible] queriesOf keysOf valuesOf tabOf

/-- Four stores' contents agree where their payloads do. -/
theorem canon4_congr {r0 r1 r2 r3 : Rect S1x512x512} {p0 q0 : r0.shape.Idx → Elt F .bf16} {p1 q1 : r1.shape.Idx → Elt F .bf16}
    {p2 q2 : r2.shape.Idx → Elt F .bf16} {p3 q3 : r3.shape.Idx → Elt F .bf16} (h0 : p0 = q0) (h1 : p1 = q1) (h2 : p2 = q2) (h3 : p3 = q3) :
    View.canon [(⟨r0, p0⟩ : View.Piece (Elt F) S1x512x512 .bf16), ⟨r1, p1⟩, ⟨r2, p2⟩, ⟨r3, p3⟩]
      = View.canon [(⟨r0, q0⟩ : View.Piece (Elt F) S1x512x512 .bf16), ⟨r1, q1⟩, ⟨r2, q2⟩, ⟨r3, q3⟩] := by
  subst h0 h1 h2 h3; rfl

set_option maxRecDepth 65536 in
set_option maxHeartbeats 2000000 in
/-- What grid point `t` leaves in the output's block: its four blocks of rows. -/
theorem outs_eq (c : Dev nD) (t : Fin cfg0.N) :
    outsAt0 m c t = View.canon [
      (⟨Rect.unit ![0, 384, 0] S1x128x512.size (rows_inb 384 (by decide)),
        blockOut m c t 384 (by decide) 3#32 (startWord_le (grid0.coords t 1) 3) (iblk m c 6 t)⟩ : View.Piece (Elt F) S1x512x512 .bf16),
      (⟨Rect.unit ![0, 256, 0] S1x128x512.size (rows_inb 256 (by decide)),
        blockOut m c t 256 (by decide) 2#32 (startWord_le (grid0.coords t 1) 2) (iblk m c 5 t)⟩ : View.Piece (Elt F) S1x512x512 .bf16),
      (⟨Rect.unit ![0, 128, 0] S1x128x512.size (rows_inb 128 (by decide)),
        blockOut m c t 128 (by decide) 1#32 (startWord_le (grid0.coords t 1) 1) (iblk m c 4 t)⟩ : View.Piece (Elt F) S1x512x512 .bf16),
      (⟨Rect.unit ![0, 0, 0] S1x128x512.size (rows_inb 0 (by decide)),
        blockOut m c t 0 (by decide) 0#32 (startWord_le (grid0.coords t 1) 0) (iblk m c 3 t)⟩ : View.Piece (Elt F) S1x512x512 .bf16)] := by
  unfold outsAt0 out0_A_7
  rw [View.read_writes_eq_canon _ _ _ (cover0_A_7 _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread]
  refine canon4_congr ?_ ?_ ?_ ?_
  all_goals
    simp only [ld_queries, ld_tab0, ld_tab1, ld_tab2, ld_tab3, ld_tab4, ld_tab5, ld_tab6, ld_tab7]
    erw [(hs0_2 t).read_unread, ld_keys, ld_values]
    unfold_payloads
    dsimp only [blockOut, startWord, rowsOut, evenHead, oddHead, headOut, weighed, weights, greatest, scores,
      products, twoHeads, queries0, keys0, queries1, keys1, queries2, keys2, queries3, keys3,
      values0, values1, values2, values3, values4, values5, values6, values7, scaled]

end Cert.Kernel4Ideal.Block

end
-- ==== Proof.NearArray.lean ====
/- What each window of the neighbourhood attention holds at a grid point, element by element. -/
module

public import proofs.«01_k».proof.Proof.NearBlock

@[expose] public section

noncomputable section

namespace Cert.Kernel4Ideal.Array

open Cert.Kernel4Ideal Cert.Kernel4Ideal.Gen Cert.Kernel4Ideal.Block Idealize.ShloMosaic Idealize.ShloMosaic.TcCoe Idealize.SL.Sem

set_option maxRecDepth 16384

/-- The table variant two query rows read: one for each pair at the grid's edges, one for all others. -/
def variant (n : Nat) : Nat := if n < 2 then n else if 61 < n then n - 59 else 2

theorem variant_lt (n : Nat) (h : n < 64) : variant n < 5 := by unfold variant; split_ifs <;> omega

/-- The first key of the two query rows of pair `n`. -/
def first (n : Nat) : Nat := 64 * min (2 * n - 4) 118

theorem lt (t : Fin cfg0.N) : t.val < 128 := t.isLt.trans_eq (by decide)

theorem coords_row : ∀ t : Fin cfg0.N, (grid0.coords t 1).val = t.val % 16 := (by decide +kernel : ∀ t : Fin grid0.N, _)

theorem startWord_eq : ∀ (i : Fin 16) (u : Fin 4), startWord i.val (BitVec.ofNat 32 u.val) = first (4 * i.val + u.val) := by
  decide +kernel

theorem idx0 : ∀ t : Fin cfg0.N, win0_0.index t (0 : Fin 3) = t.val / 16 ∧ win0_0.index t (1 : Fin 3) = t.val % 16
    ∧ win0_0.index t (2 : Fin 3) = 9 := (by decide +kernel : ∀ t : Fin grid0.N, _)
theorem idx1 : ∀ t : Fin cfg0.N, win0_1.index t (0 : Fin 3) = t.val / 16 ∧ win0_1.index t (1 : Fin 3) = 0
    ∧ win0_1.index t (2 : Fin 3) = 10 := (by decide +kernel : ∀ t : Fin grid0.N, _)
theorem idx2 : ∀ t : Fin cfg0.N, win0_2.index t (0 : Fin 2) = 0 ∧ win0_2.index t (1 : Fin 2) = t.val / 16 :=
  (by decide +kernel : ∀ t : Fin grid0.N, _)
theorem idx3 : ∀ t : Fin cfg0.N, win0_3.index t (0 : Fin 4) = variant (4 * (t.val % 16)) ∧ win0_3.index t (1 : Fin 4) = 0
    ∧ win0_3.index t (2 : Fin 4) = 0 ∧ win0_3.index t (3 : Fin 4) = 0 := (by decide +kernel : ∀ t : Fin grid0.N, _)
theorem idx4 : ∀ t : Fin cfg0.N, win0_4.index t (0 : Fin 4) = variant (4 * (t.val % 16) + 1) ∧ win0_4.index t (1 : Fin 4) = 0
    ∧ win0_4.index t (2 : Fin 4) = 0 ∧ win0_4.index t (3 : Fin 4) = 0 := (by decide +kernel : ∀ t : Fin grid0.N, _)
theorem idx5 : ∀ t : Fin cfg0.N, win0_5.index t (0 : Fin 4) = variant (4 * (t.val % 16) + 2) ∧ win0_5.index t (1 : Fin 4) = 0
    ∧ win0_5.index t (2 : Fin 4) = 0 ∧ win0_5.index t (3 : Fin 4) = 0 := (by decide +kernel : ∀ t : Fin grid0.N, _)
theorem idx6 : ∀ t : Fin cfg0.N, win0_6.index t (0 : Fin 4) = variant (4 * (t.val % 16) + 3) ∧ win0_6.index t (1 : Fin 4) = 0
    ∧ win0_6.index t (2 : Fin 4) = 0 ∧ win0_6.index t (3 : Fin 4) = 0 := (by decide +kernel : ∀ t : Fin grid0.N, _)
theorem idx7 : ∀ t : Fin cfg0.N, win0_7.index t (0 : Fin 3) = t.val / 16 ∧ win0_7.index t (1 : Fin 3) = t.val % 16
    ∧ win0_7.index t (2 : Fin 3) = 0 := (by decide +kernel : ∀ t : Fin grid0.N, _)

variable {F : FTy → Type} [FloatOps F] [Named F] (m : (ℓ : Loc nD τ sig) → Buf (Elt F) ℓ) (c : Dev nD) (t : Fin cfg0.N)

theorem window0 (j : S1x512x512.Idx) : X0_0 m c t j = V m c main_v14
    (ix3 ⟨t.val / 16, by have := lt t; omega⟩ ⟨512 * (t.val % 16) + (j 1).val, by have : (j 1).val < 512 := (j 1).isLt; omega⟩
      ⟨4608 + (j 2).val, by have : (j 2).val < 512 := (j 2).isLt; omega⟩) := by
  unfold X0_0 Pipeline.Window.fill
  rw [dif_pos (moved0_0 t j)]
  refine congrArg (V m c main_v14) (funext fun a => Fin.ext ?_)
  obtain ⟨e0, e1, e2⟩ := idx0 t
  match a with
  | ⟨0, _⟩ => show win0_0.index t (0 : Fin 3) * 1 + 1 * (j 0).val = t.val / 16; have : (j 0).val < 1 := (j 0).isLt; omega
  | ⟨1, _⟩ => show win0_0.index t (1 : Fin 3) * 512 + 1 * (j 1).val = 512 * (t.val % 16) + (j 1).val; omega
  | ⟨2, _⟩ => show win0_0.index t (2 : Fin 3) * 512 + 1 * (j 2).val = 4608 + (j 2).val; omega

theorem window1 (j : S1x8192x512.Idx) : X0_1 m c t j = V m c main_v14
    (ix3 ⟨t.val / 16, by have := lt t; omega⟩ ⟨(j 1).val, (j 1).isLt⟩
      ⟨5120 + (j 2).val, by have : (j 2).val < 512 := (j 2).isLt; omega⟩) := by
  unfold X0_1 Pipeline.Window.fill
  rw [dif_pos (moved0_1 t j)]
  refine congrArg (V m c main_v14) (funext fun a => Fin.ext ?_)
  obtain ⟨e0, e1, e2⟩ := idx1 t
  match a with
  | ⟨0, _⟩ => show win0_1.index t (0 : Fin 3) * 1 + 1 * (j 0).val = t.val / 16; have : (j 0).val < 1 := (j 0).isLt; omega
  | ⟨1, _⟩ => show win0_1.index t (1 : Fin 3) * 8192 + 1 * (j 1).val = (j 1).val; omega
  | ⟨2, _⟩ => show win0_1.index t (2 : Fin 3) * 512 + 1 * (j 2).val = 5120 + (j 2).val; omega

theorem window2 (j : S512x8192.Idx) : X0_2 m c t j = V m c main_v20
    (ix2 ⟨(j 0).val, by have : (j 0).val < 512 := (j 0).isLt; omega⟩
      ⟨8192 * (t.val / 16) + (j 1).val, by have := lt t; have : (j 1).val < 8192 := (j 1).isLt; omega⟩) := by
  unfold X0_2 Pipeline.Window.fill
  rw [dif_pos (moved0_2 t j)]
  refine congrArg (V m c main_v20) (funext fun a => Fin.ext ?_)
  obtain ⟨e0, e1⟩ := idx2 t
  match a with
  | ⟨0, _⟩ => show win0_2.index t (0 : Fin 2) * 512 + 1 * (j 0).val = (j 0).val; omega
  | ⟨1, _⟩ => show win0_2.index t (1 : Fin 2) * 8192 + 1 * (j 1).val = 8192 * (t.val / 16) + (j 1).val; omega

theorem queries (o : Nat) (ho : o + 128 ≤ 512) (r : Fin 128) (l : Fin 512) : queriesOf (X0_0 m c t) o ho (ix3 0 r l) = V m c main_v14
    (ix3 ⟨t.val / 16, by have := lt t; omega⟩ ⟨512 * (t.val % 16) + (o + r.val), by omega⟩ ⟨4608 + l.val, by omega⟩) := by
  refine (window0 m c t _).trans (congrArg (V m c main_v14) (funext fun a => Fin.ext ?_))
  match a with
  | ⟨0, _⟩ => rfl
  | ⟨1, _⟩ => show 512 * (t.val % 16) + (o + 1 * r.val) = 512 * (t.val % 16) + (o + r.val); omega
  | ⟨2, _⟩ => show 4608 + (0 + 1 * l.val) = 4608 + l.val; omega

theorem keys (s : Nat) (hs : s + 640 ≤ 8192) (n : Fin 640) (l : Fin 512) : keysOf (X0_1 m c t) s hs (ix3 0 n l) = V m c main_v14
    (ix3 ⟨t.val / 16, by have := lt t; omega⟩ ⟨s + n.val, by omega⟩ ⟨5120 + l.val, by omega⟩) := by
  refine (window1 m c t _).trans (congrArg (V m c main_v14) (funext fun a => Fin.ext ?_))
  match a with
  | ⟨0, _⟩ => rfl
  | ⟨1, _⟩ => show s + 1 * n.val = s + n.val; omega
  | ⟨2, _⟩ => show 5120 + (0 + 1 * l.val) = 5120 + l.val; omega

theorem values (s : Nat) (hs : s + 640 ≤ 8192) (l : Fin 512) (n : Fin 640) : valuesOf (X0_2 m c t) s hs (ix2 l n) = V m c main_v20
    (ix2 ⟨l.val, by omega⟩ ⟨8192 * (t.val / 16) + (s + n.val), by have := lt t; omega⟩) := by
  refine (window2 m c t _).trans (congrArg (V m c main_v20) (funext fun a => Fin.ext ?_))
  match a with
  | ⟨0, _⟩ => show 0 + 1 * l.val = l.val; omega
  | ⟨1, _⟩ => show 8192 * (t.val / 16) + (s + 1 * n.val) = 8192 * (t.val / 16) + (s + n.val); omega

theorem table3 (h : Fin 8) (k : Fin 640) (r : Fin 128) : tabOf (iblk m c 3 t) h (ix4 0 0 k r)
    = V m c main_v215 (ix4 ⟨variant (4 * (t.val % 16)), variant_lt _ (by omega)⟩ h k r) := by
  refine congrArg (V m c main_v215) (funext fun a => Fin.ext ?_)
  obtain ⟨e0, e1, e2, e3⟩ := idx3 t
  match a with
  | ⟨0, _⟩ => show win0_3.index t (0 : Fin 4) * 1 + 1 * (0 + 1 * 0) = variant (4 * (t.val % 16)); omega
  | ⟨1, _⟩ => show win0_3.index t (1 : Fin 4) * 8 + 1 * (h.val + 1 * 0) = h.val; omega
  | ⟨2, _⟩ => show win0_3.index t (2 : Fin 4) * 640 + 1 * (0 + 1 * k.val) = k.val; omega
  | ⟨3, _⟩ => show win0_3.index t (3 : Fin 4) * 128 + 1 * (0 + 1 * r.val) = r.val; omega

theorem table4 (h : Fin 8) (k : Fin 640) (r : Fin 128) : tabOf (iblk m c 4 t) h (ix4 0 0 k r)
    = V m c main_v215 (ix4 ⟨variant (4 * (t.val % 16) + 1), variant_lt _ (by omega)⟩ h k r) := by
  refine congrArg (V m c main_v215) (funext fun a => Fin.ext ?_)
  obtain ⟨e0, e1, e2, e3⟩ := idx4 t
  match a with
  | ⟨0, _⟩ => show win0_4.index t (0 : Fin 4) * 1 + 1 * (0 + 1 * 0) = variant (4 * (t.val % 16) + 1); omega
  | ⟨1, _⟩ => show win0_4.index t (1 : Fin 4) * 8 + 1 * (h.val + 1 * 0) = h.val; omega
  | ⟨2, _⟩ => show win0_4.index t (2 : Fin 4) * 640 + 1 * (0 + 1 * k.val) = k.val; omega
  | ⟨3, _⟩ => show win0_4.index t (3 : Fin 4) * 128 + 1 * (0 + 1 * r.val) = r.val; omega

theorem table5 (h : Fin 8) (k : Fin 640) (r : Fin 128) : tabOf (iblk m c 5 t) h (ix4 0 0 k r)
    = V m c main_v215 (ix4 ⟨variant (4 * (t.val % 16) + 2), variant_lt _ (by omega)⟩ h k r) := by
  refine congrArg (V m c main_v215) (funext fun a => Fin.ext ?_)
  obtain ⟨e0, e1, e2, e3⟩ := idx5 t
  match a with
  | ⟨0, _⟩ => show win0_5.index t (0 : Fin 4) * 1 + 1 * (0 + 1 * 0) = variant (4 * (t.val % 16) + 2); omega
  | ⟨1, _⟩ => show win0_5.index t (1 : Fin 4) * 8 + 1 * (h.val + 1 * 0) = h.val; omega
  | ⟨2, _⟩ => show win0_5.index t (2 : Fin 4) * 640 + 1 * (0 + 1 * k.val) = k.val; omega
  | ⟨3, _⟩ => show win0_5.index t (3 : Fin 4) * 128 + 1 * (0 + 1 * r.val) = r.val; omega

theorem table6 (h : Fin 8) (k : Fin 640) (r : Fin 128) : tabOf (iblk m c 6 t) h (ix4 0 0 k r)
    = V m c main_v215 (ix4 ⟨variant (4 * (t.val % 16) + 3), variant_lt _ (by omega)⟩ h k r) := by
  refine congrArg (V m c main_v215) (funext fun a => Fin.ext ?_)
  obtain ⟨e0, e1, e2, e3⟩ := idx6 t
  match a with
  | ⟨0, _⟩ => show win0_6.index t (0 : Fin 4) * 1 + 1 * (0 + 1 * 0) = variant (4 * (t.val % 16) + 3); omega
  | ⟨1, _⟩ => show win0_6.index t (1 : Fin 4) * 8 + 1 * (h.val + 1 * 0) = h.val; omega
  | ⟨2, _⟩ => show win0_6.index t (2 : Fin 4) * 640 + 1 * (0 + 1 * k.val) = k.val; omega
  | ⟨3, _⟩ => show win0_6.index t (3 : Fin 4) * 128 + 1 * (0 + 1 * r.val) = r.val; omega

end Cert.Kernel4Ideal.Array

end
-- ==== Proof.ProjMath.lean ====
/- The input projection of one token: which column of the weights a column of the result comes from, and its value. -/
module

public import Idealize.ShloMosaic.Lib.Pointwise
public import Idealize.ShloMosaic.PureOps.Ideal.Laws

@[expose] public section

noncomputable section

namespace Cert.Proj

open Idealize.ShloMosaic

/-- The weights' column that column `f` of the tokens' array comes from: gates, the Hyena inputs, the neighbourhood's queries
    and keys, the window's queries with heads `j` and `j + 4` side by side, the window's keys. -/
def source (f : Nat) : Nat :=
  if f < 3072 then 3840 + f else if f < 4608 then f - 1536 else if f < 5632 then f - 4608
  else if f < 6144 then 3072 + ((f - 5632) / 64 % 2 * 256 + (f - 5632) / 128 * 64 + (f - 5632) % 64) else f - 2560

theorem source_lt (f : Fin 6272) : source f.val < 6912 := by
  unfold source; split_ifs <;> omega

/-- The weights' column that row `f` of the values comes from. -/
def valueSource (f : Nat) : Nat := if f < 512 then 1024 + f else f + 3200

theorem valueSource_lt (f : Fin 640) : valueSource f.val < 6912 := by
  unfold valueSource; split_ifs <;> omega

/-- A column of the projection. -/
def linear (x w : Fin 1024 → EReal) (b : EReal) : EReal := ∑ k, x k * w k + b

/-- The sigmoid. -/
def gate (z : EReal) : EReal := Ideal.div 1 (1 + FloatOps.exp (F := Ideal) (φ := .f32) (-z))

/-- Column `f` of the tokens' array: a gate in the first 3072, else the projection itself. -/
def token (f : Nat) (z : EReal) : EReal := if f < 3072 then gate z else z

/-- A case distinction has a value where both of its branches have it. -/
theorem dite_eq_of {α : Sort _} {p : Prop} [Decidable p] {a : p → α} {b : ¬ p → α} {y : α} (ha : ∀ h, a h = y) (hb : ∀ h, b h = y) :
    dite p a b = y := by
  split_ifs with h
  · exact ha h
  · exact hb h

end Cert.Proj

end
-- ==== Proof.NearHost.lean ====
/- The arrays the neighbourhood attention's windows read, element by element, in terms of the arguments. -/
module

public import proofs.«01_k».proof.Proof.NearBlock
public import proofs.«01_k».proof.Proof.ProjMath
public import Idealize.ShloMosaic.Lib.StableHlo.RunRead

@[expose] public section

noncomputable section

namespace Cert.Kernel4Ideal.Host

open Cert.Kernel4Ideal Cert.Kernel4Ideal.Gen Idealize.ShloMosaic Idealize.ShloMosaic.TcCoe Idealize.SL.Sem

set_option maxRecDepth 65536

/-- The projection with its columns in the order the windows want: gates, the two other branches, queries by lane group,
    keys. -/
def ordered (x : FVec Ideal S8x8192x6912 .f32) : FVec Ideal S8x8192x6272 .bf16 :=
  truncf (F := Ideal) .bf16 (concatenate S8x8192x6272 2
    [⟨S8x8192x3072, extractStridedSlice S8x8192x3072 ![0, 0, 3840] x slices_S8x8192x6912_S8x8192x3072_0_0_3840⟩,
     ⟨S8x8192x1536, extractStridedSlice S8x8192x1536 ![0, 0, 1536] x slices_S8x8192x6912_S8x8192x1536_0_0_1536⟩,
     ⟨S8x8192x1024, extractStridedSlice S8x8192x1024 ![0, 0, 0] x slices_S8x8192x6912_S8x8192x1024_0_0_0⟩,
     ⟨S8x8192x64, extractStridedSlice S8x8192x64 ![0, 0, 3072] x slices_S8x8192x6912_S8x8192x64_0_0_3072⟩,
     ⟨S8x8192x64, extractStridedSlice S8x8192x64 ![0, 0, 3328] x slices_S8x8192x6912_S8x8192x64_0_0_3328⟩,
     ⟨S8x8192x64, extractStridedSlice S8x8192x64 ![0, 0, 3136] x slices_S8x8192x6912_S8x8192x64_0_0_3136⟩,
     ⟨S8x8192x64, extractStridedSlice S8x8192x64 ![0, 0, 3392] x slices_S8x8192x6912_S8x8192x64_0_0_3392⟩,
     ⟨S8x8192x64, extractStridedSlice S8x8192x64 ![0, 0, 3200] x slices_S8x8192x6912_S8x8192x64_0_0_3200⟩,
     ⟨S8x8192x64, extractStridedSlice S8x8192x64 ![0, 0, 3456] x slices_S8x8192x6912_S8x8192x64_0_0_3456⟩,
     ⟨S8x8192x64, extractStridedSlice S8x8192x64 ![0, 0, 3264] x slices_S8x8192x6912_S8x8192x64_0_0_3264⟩,
     ⟨S8x8192x64, extractStridedSlice S8x8192x64 ![0, 0, 3520] x slices_S8x8192x6912_S8x8192x64_0_0_3520⟩,
     ⟨S8x8192x128, extractStridedSlice S8x8192x128 ![0, 0, 3584] x slices_S8x8192x6912_S8x8192x128_0_0_3584⟩]
    concatenates_S8x8192x3072_S8x8192x1536_S8x8192x1024_S8x8192x64_S8x8192x64_S8x8192x64_S8x8192x64_S8x8192x64_S8x8192x64_S8x8192x64_S8x8192x64_S8x8192x128_S8x8192x6272_d2) bitsLt_bf16_f32

/-- The value columns, transposed: one row per column, the batches side by side. -/
def valueRows (x : FVec Ideal S8x8192x6912 .f32) : FVec Ideal S640x65536 .bf16 :=
  truncf (F := Ideal) .bf16 (transpose S640x65536 [1, 0] (shapeCast S65536x640 (concatenate S8x8192x640 2
    [⟨S8x8192x512, extractStridedSlice S8x8192x512 ![0, 0, 1024] x slices_S8x8192x6912_S8x8192x512_0_0_1024⟩,
     ⟨S8x8192x128, extractStridedSlice S8x8192x128 ![0, 0, 3712] x slices_S8x8192x6912_S8x8192x128_0_0_3712⟩]
    concatenates_S8x8192x512_S8x8192x128_S8x8192x640_d2) shapeCasts_S8x8192x640_S65536x640)
    transposes_S65536x640_S640x65536_1_0) bitsLt_bf16_f32

/-- The relative position biases with zeros on both sides of their columns. -/
def widened (x : FVec Ideal S8x15x31 .f32) : FVec Ideal S8x15x127 .f32 :=
  pad S8x15x127 ![0, 0, 48] ![0, 0, 48] ![0, 0, 0] x (sitofp (F := Ideal) .f32 (constantI S_ 32 0#32)) pads_S8x15x31_S8x15x127_000_000_48480 h_S_

/-- The biases of query columns 0 to 15, by key column. -/
def columns0 (t : FVec Ideal S8x15x127 .f32) : FVec Ideal S8x15x16x64 .f32 :=
  concatenate S8x15x16x64 2
    [⟨S8x15x1x64, broadcastInDim S8x15x1x64 ![0, 1, 3] bcast_S8x15x64_S8x15x1x64_0_1_3 (extractStridedSlice S8x15x64 ![0, 0, 63] t slices_S8x15x127_S8x15x64_0_0_63)⟩,
     ⟨S8x15x1x64, broadcastInDim S8x15x1x64 ![0, 1, 3] bcast_S8x15x64_S8x15x1x64_0_1_3 (extractStridedSlice S8x15x64 ![0, 0, 62] t slices_S8x15x127_S8x15x64_0_0_62)⟩,
     ⟨S8x15x1x64, broadcastInDim S8x15x1x64 ![0, 1, 3] bcast_S8x15x64_S8x15x1x64_0_1_3 (extractStridedSlice S8x15x64 ![0, 0, 61] t slices_S8x15x127_S8x15x64_0_0_61)⟩,
     ⟨S8x15x1x64, broadcastInDim S8x15x1x64 ![0, 1, 3] bcast_S8x15x64_S8x15x1x64_0_1_3 (extractStridedSlice S8x15x64 ![0, 0, 60] t slices_S8x15x127_S8x15x64_0_0_60)⟩,
     ⟨S8x15x1x64, broadcastInDim S8x15x1x64 ![0, 1, 3] bcast_S8x15x64_S8x15x1x64_0_1_3 (extractStridedSlice S8x15x64 ![0, 0, 59] t slices_S8x15x127_S8x15x64_0_0_59)⟩,
     ⟨S8x15x1x64, broadcastInDim S8x15x1x64 ![0, 1, 3] bcast_S8x15x64_S8x15x1x64_0_1_3 (extractStridedSlice S8x15x64 ![0, 0, 58] t slices_S8x15x127_S8x15x64_0_0_58)⟩,
     ⟨S8x15x1x64, broadcastInDim S8x15x1x64 ![0, 1, 3] bcast_S8x15x64_S8x15x1x64_0_1_3 (extractStridedSlice S8x15x64 ![0, 0, 57] t slices_S8x15x127_S8x15x64_0_0_57)⟩,
     ⟨S8x15x1x64, broadcastInDim S8x15x1x64 ![0, 1, 3] bcast_S8x15x64_S8x15x1x64_0_1_3 (extractStridedSlice S8x15x64 ![0, 0, 56] t slices_S8x15x127_S8x15x64_0_0_56)⟩,
     ⟨S8x15x1x64, broadcastInDim S8x15x1x64 ![0, 1, 3] bcast_S8x15x64_S8x15x1x64_0_1_3 (extractStridedSlice S8x15x64 ![0, 0, 55] t slices_S8x15x127_S8x15x64_0_0_55)⟩,
     ⟨S8x15x1x64, broadcastInDim S8x15x1x64 ![0, 1, 3] bcast_S8x15x64_S8x15x1x64_0_1_3 (extractStridedSlice S8x15x64 ![0, 0, 54] t slices_S8x15x127_S8x15x64_0_0_54)⟩,
     ⟨S8x15x1x64, broadcastInDim S8x15x1x64 ![0, 1, 3] bcast_S8x15x64_S8x15x1x64_0_1_3 (extractStridedSlice S8x15x64 ![0, 0, 53] t slices_S8x15x127_S8x15x64_0_0_53)⟩,
     ⟨S8x15x1x64, broadcastInDim S8x15x1x64 ![0, 1, 3] bcast_S8x15x64_S8x15x1x64_0_1_3 (extractStridedSlice S8x15x64 ![0, 0, 52] t slices_S8x15x127_S8x15x64_0_0_52)⟩,
     ⟨S8x15x1x64, broadcastInDim S8x15x1x64 ![0, 1, 3] bcast_S8x15x64_S8x15x1x64_0_1_3 (extractStridedSlice S8x15x64 ![0, 0, 51] t slices_S8x15x127_S8x15x64_0_0_51)⟩,
     ⟨S8x15x1x64, broadcastInDim S8x15x1x64 ![0, 1, 3] bcast_S8x15x64_S8x15x1x64_0_1_3 (extractStridedSlice S8x15x64 ![0, 0, 50] t slices_S8x15x127_S8x15x64_0_0_50)⟩,
     ⟨S8x15x1x64, broadcastInDim S8x15x1x64 ![0, 1, 3] bcast_S8x15x64_S8x15x1x64_0_1_3 (extractStridedSlice S8x15x64 ![0, 0, 49] t slices_S8x15x127_S8x15x64_0_0_49)⟩,
     ⟨S8x15x1x64, broadcastInDim S8x15x1x64 ![0, 1, 3] bcast_S8x15x64_S8x15x1x64_0_1_3 (extractStridedSlice S8x15x64 ![0, 0, 48] t slices_S8x15x127_S8x15x64_0_0_48)⟩]
    concatenates_S8x15x1x64_S8x15x1x64_S8x15x1x64_S8x15x1x64_S8x15x1x64_S8x15x1x64_S8x15x1x64_S8x15x1x64_S8x15x1x64_S8x15x1x64_S8x15x1x64_S8x15x1x64_S8x15x1x64_S8x15x1x64_S8x15x1x64_S8x15x1x64_S8x15x16x64_d2

/-- The biases of query columns 16 to 31, by key column. -/
def columns1 (t : FVec Ideal S8x15x127 .f32) : FVec Ideal S8x15x16x64 .f32 :=
  concatenate S8x15x16x64 2
    [⟨S8x15x1x64, broadcastInDim S8x15x1x64 ![0, 1, 3] bcast_S8x15x64_S8x15x1x64_0_1_3 (extractStridedSlice S8x15x64 ![0, 0, 47] t slices_S8x15x127_S8x15x64_0_0_47)⟩,
     ⟨S8x15x1x64, broadcastInDim S8x15x1x64 ![0, 1, 3] bcast_S8x15x64_S8x15x1x64_0_1_3 (extractStridedSlice S8x15x64 ![0, 0, 46] t slices_S8x15x127_S8x15x64_0_0_46)⟩,
     ⟨S8x15x1x64, broadcastInDim S8x15x1x64 ![0, 1, 3] bcast_S8x15x64_S8x15x1x64_0_1_3 (extractStridedSlice S8x15x64 ![0, 0, 45] t slices_S8x15x127_S8x15x64_0_0_45)⟩,
     ⟨S8x15x1x64, broadcastInDim S8x15x1x64 ![0, 1, 3] bcast_S8x15x64_S8x15x1x64_0_1_3 (extractStridedSlice S8x15x64 ![0, 0, 44] t slices_S8x15x127_S8x15x64_0_0_44)⟩,
     ⟨S8x15x1x64, broadcastInDim S8x15x1x64 ![0, 1, 3] bcast_S8x15x64_S8x15x1x64_0_1_3 (extractStridedSlice S8x15x64 ![0, 0, 43] t slices_S8x15x127_S8x15x64_0_0_43)⟩,
     ⟨S8x15x1x64, broadcastInDim S8x15x1x64 ![0, 1, 3] bcast_S8x15x64_S8x15x1x64_0_1_3 (extractStridedSlice S8x15x64 ![0, 0, 42] t slices_S8x15x127_S8x15x64_0_0_42)⟩,
     ⟨S8x15x1x64, broadcastInDim S8x15x1x64 ![0, 1, 3] bcast_S8x15x64_S8x15x1x64_0_1_3 (extractStridedSlice S8x15x64 ![0, 0, 41] t slices_S8x15x127_S8x15x64_0_0_41)⟩,
     ⟨S8x15x1x64, broadcastInDim S8x15x1x64 ![0, 1, 3] bcast_S8x15x64_S8x15x1x64_0_1_3 (extractStridedSlice S8x15x64 ![0, 0, 40] t slices_S8x15x127_S8x15x64_0_0_40)⟩,
     ⟨S8x15x1x64, broadcastInDim S8x15x1x64 ![0, 1, 3] bcast_S8x15x64_S8x15x1x64_0_1_3 (extractStridedSlice S8x15x64 ![0, 0, 39] t slices_S8x15x127_S8x15x64_0_0_39)⟩,
     ⟨S8x15x1x64, broadcastInDim S8x15x1x64 ![0, 1, 3] bcast_S8x15x64_S8x15x1x64_0_1_3 (extractStridedSlice S8x15x64 ![0, 0, 38] t slices_S8x15x127_S8x15x64_0_0_38)⟩,
     ⟨S8x15x1x64, broadcastInDim S8x15x1x64 ![0, 1, 3] bcast_S8x15x64_S8x15x1x64_0_1_3 (extractStridedSlice S8x15x64 ![0, 0, 37] t slices_S8x15x127_S8x15x64_0_0_37)⟩,
     ⟨S8x15x1x64, broadcastInDim S8x15x1x64 ![0, 1, 3] bcast_S8x15x64_S8x15x1x64_0_1_3 (extractStridedSlice S8x15x64 ![0, 0, 36] t slices_S8x15x127_S8x15x64_0_0_36)⟩,
     ⟨S8x15x1x64, broadcastInDim S8x15x1x64 ![0, 1, 3] bcast_S8x15x64_S8x15x1x64_0_1_3 (extractStridedSlice S8x15x64 ![0, 0, 35] t slices_S8x15x127_S8x15x64_0_0_35)⟩,
     ⟨S8x15x1x64, broadcastInDim S8x15x1x64 ![0, 1, 3] bcast_S8x15x64_S8x15x1x64_0_1_3 (extractStridedSlice S8x15x64 ![0, 0, 34] t slices_S8x15x127_S8x15x64_0_0_34)⟩,
     ⟨S8x15x1x64, broadcastInDim S8x15x1x64 ![0, 1, 3] bcast_S8x15x64_S8x15x1x64_0_1_3 (extractStridedSlice S8x15x64 ![0, 0, 33] t slices_S8x15x127_S8x15x64_0_0_33)⟩,
     ⟨S8x15x1x64, broadcastInDim S8x15x1x64 ![0, 1, 3] bcast_S8x15x64_S8x15x1x64_0_1_3 (extractStridedSlice S8x15x64 ![0, 0, 32] t slices_S8x15x127_S8x15x64_0_0_32)⟩]
    concatenates_S8x15x1x64_S8x15x1x64_S8x15x1x64_S8x15x1x64_S8x15x1x64_S8x15x1x64_S8x15x1x64_S8x15x1x64_S8x15x1x64_S8x15x1x64_S8x15x1x64_S8x15x1x64_S8x15x1x64_S8x15x1x64_S8x15x1x64_S8x15x1x64_S8x15x16x64_d2

/-- The biases of query columns 32 to 47, by key column. -/
def columns2 (t : FVec Ideal S8x15x127 .f32) : FVec Ideal S8x15x16x64 .f32 :=
  concatenate S8x15x16x64 2
    [⟨S8x15x1x64, broadcastInDim S8x15x1x64 ![0, 1, 3] bcast_S8x15x64_S8x15x1x64_0_1_3 (extractStridedSlice S8x15x64 ![0, 0, 31] t slices_S8x15x127_S8x15x64_0_0_31)⟩,
     ⟨S8x15x1x64, broadcastInDim S8x15x1x64 ![0, 1, 3] bcast_S8x15x64_S8x15x1x64_0_1_3 (extractStridedSlice S8x15x64 ![0, 0, 30] t slices_S8x15x127_S8x15x64_0_0_30)⟩,
     ⟨S8x15x1x64, broadcastInDim S8x15x1x64 ![0, 1, 3] bcast_S8x15x64_S8x15x1x64_0_1_3 (extractStridedSlice S8x15x64 ![0, 0, 29] t slices_S8x15x127_S8x15x64_0_0_29)⟩,
     ⟨S8x15x1x64, broadcastInDim S8x15x1x64 ![0, 1, 3] bcast_S8x15x64_S8x15x1x64_0_1_3 (extractStridedSlice S8x15x64 ![0, 0, 28] t slices_S8x15x127_S8x15x64_0_0_28)⟩,
     ⟨S8x15x1x64, broadcastInDim S8x15x1x64 ![0, 1, 3] bcast_S8x15x64_S8x15x1x64_0_1_3 (extractStridedSlice S8x15x64 ![0, 0, 27] t slices_S8x15x127_S8x15x64_0_0_27)⟩,
     ⟨S8x15x1x64, broadcastInDim S8x15x1x64 ![0, 1, 3] bcast_S8x15x64_S8x15x1x64_0_1_3 (extractStridedSlice S8x15x64 ![0, 0, 26] t slices_S8x15x127_S8x15x64_0_0_26)⟩,
     ⟨S8x15x1x64, broadcastInDim S8x15x1x64 ![0, 1, 3] bcast_S8x15x64_S8x15x1x64_0_1_3 (extractStridedSlice S8x15x64 ![0, 0, 25] t slices_S8x15x127_S8x15x64_0_0_25)⟩,
     ⟨S8x15x1x64, broadcastInDim S8x15x1x64 ![0, 1, 3] bcast_S8x15x64_S8x15x1x64_0_1_3 (extractStridedSlice S8x15x64 ![0, 0, 24] t slices_S8x15x127_S8x15x64_0_0_24)⟩,
     ⟨S8x15x1x64, broadcastInDim S8x15x1x64 ![0, 1, 3] bcast_S8x15x64_S8x15x1x64_0_1_3 (extractStridedSlice S8x15x64 ![0, 0, 23] t slices_S8x15x127_S8x15x64_0_0_23)⟩,
     ⟨S8x15x1x64, broadcastInDim S8x15x1x64 ![0, 1, 3] bcast_S8x15x64_S8x15x1x64_0_1_3 (extractStridedSlice S8x15x64 ![0, 0, 22] t slices_S8x15x127_S8x15x64_0_0_22)⟩,
     ⟨S8x15x1x64, broadcastInDim S8x15x1x64 ![0, 1, 3] bcast_S8x15x64_S8x15x1x64_0_1_3 (extractStridedSlice S8x15x64 ![0, 0, 21] t slices_S8x15x127_S8x15x64_0_0_21)⟩,
     ⟨S8x15x1x64, broadcastInDim S8x15x1x64 ![0, 1, 3] bcast_S8x15x64_S8x15x1x64_0_1_3 (extractStridedSlice S8x15x64 ![0, 0, 20] t slices_S8x15x127_S8x15x64_0_0_20)⟩,
     ⟨S8x15x1x64, broadcastInDim S8x15x1x64 ![0, 1, 3] bcast_S8x15x64_S8x15x1x64_0_1_3 (extractStridedSlice S8x15x64 ![0, 0, 19] t slices_S8x15x127_S8x15x64_0_0_19)⟩,
     ⟨S8x15x1x64, broadcastInDim S8x15x1x64 ![0, 1, 3] bcast_S8x15x64_S8x15x1x64_0_1_3 (extractStridedSlice S8x15x64 ![0, 0, 18] t slices_S8x15x127_S8x15x64_0_0_18)⟩,
     ⟨S8x15x1x64, broadcastInDim S8x15x1x64 ![0, 1, 3] bcast_S8x15x64_S8x15x1x64_0_1_3 (extractStridedSlice S8x15x64 ![0, 0, 17] t slices_S8x15x127_S8x15x64_0_0_17)⟩,
     ⟨S8x15x1x64, broadcastInDim S8x15x1x64 ![0, 1, 3] bcast_S8x15x64_S8x15x1x64_0_1_3 (extractStridedSlice S8x15x64 ![0, 0, 16] t slices_S8x15x127_S8x15x64_0_0_16)⟩]
    concatenates_S8x15x1x64_S8x15x1x64_S8x15x1x64_S8x15x1x64_S8x15x1x64_S8x15x1x64_S8x15x1x64_S8x15x1x64_S8x15x1x64_S8x15x1x64_S8x15x1x64_S8x15x1x64_S8x15x1x64_S8x15x1x64_S8x15x1x64_S8x15x1x64_S8x15x16x64_d2

/-- The biases of query columns 48 to 63, by key column. -/
def columns3 (t : FVec Ideal S8x15x127 .f32) : FVec Ideal S8x15x16x64 .f32 :=
  concatenate S8x15x16x64 2
    [⟨S8x15x1x64, broadcastInDim S8x15x1x64 ![0, 1, 3] bcast_S8x15x64_S8x15x1x64_0_1_3 (extractStridedSlice S8x15x64 ![0, 0, 15] t slices_S8x15x127_S8x15x64_0_0_15)⟩,
     ⟨S8x15x1x64, broadcastInDim S8x15x1x64 ![0, 1, 3] bcast_S8x15x64_S8x15x1x64_0_1_3 (extractStridedSlice S8x15x64 ![0, 0, 14] t slices_S8x15x127_S8x15x64_0_0_14)⟩,
     ⟨S8x15x1x64, broadcastInDim S8x15x1x64 ![0, 1, 3] bcast_S8x15x64_S8x15x1x64_0_1_3 (extractStridedSlice S8x15x64 ![0, 0, 13] t slices_S8x15x127_S8x15x64_0_0_13)⟩,
     ⟨S8x15x1x64, broadcastInDim S8x15x1x64 ![0, 1, 3] bcast_S8x15x64_S8x15x1x64_0_1_3 (extractStridedSlice S8x15x64 ![0, 0, 12] t slices_S8x15x127_S8x15x64_0_0_12)⟩,
     ⟨S8x15x1x64, broadcastInDim S8x15x1x64 ![0, 1, 3] bcast_S8x15x64_S8x15x1x64_0_1_3 (extractStridedSlice S8x15x64 ![0, 0, 11] t slices_S8x15x127_S8x15x64_0_0_11)⟩,
     ⟨S8x15x1x64, broadcastInDim S8x15x1x64 ![0, 1, 3] bcast_S8x15x64_S8x15x1x64_0_1_3 (extractStridedSlice S8x15x64 ![0, 0, 10] t slices_S8x15x127_S8x15x64_0_0_10)⟩,
     ⟨S8x15x1x64, broadcastInDim S8x15x1x64 ![0, 1, 3] bcast_S8x15x64_S8x15x1x64_0_1_3 (extractStridedSlice S8x15x64 ![0, 0, 9] t slices_S8x15x127_S8x15x64_0_0_9)⟩,
     ⟨S8x15x1x64, broadcastInDim S8x15x1x64 ![0, 1, 3] bcast_S8x15x64_S8x15x1x64_0_1_3 (extractStridedSlice S8x15x64 ![0, 0, 8] t slices_S8x15x127_S8x15x64_0_0_8)⟩,
     ⟨S8x15x1x64, broadcastInDim S8x15x1x64 ![0, 1, 3] bcast_S8x15x64_S8x15x1x64_0_1_3 (extractStridedSlice S8x15x64 ![0, 0, 7] t slices_S8x15x127_S8x15x64_0_0_7)⟩,
     ⟨S8x15x1x64, broadcastInDim S8x15x1x64 ![0, 1, 3] bcast_S8x15x64_S8x15x1x64_0_1_3 (extractStridedSlice S8x15x64 ![0, 0, 6] t slices_S8x15x127_S8x15x64_0_0_6)⟩,
     ⟨S8x15x1x64, broadcastInDim S8x15x1x64 ![0, 1, 3] bcast_S8x15x64_S8x15x1x64_0_1_3 (extractStridedSlice S8x15x64 ![0, 0, 5] t slices_S8x15x127_S8x15x64_0_0_5)⟩,
     ⟨S8x15x1x64, broadcastInDim S8x15x1x64 ![0, 1, 3] bcast_S8x15x64_S8x15x1x64_0_1_3 (extractStridedSlice S8x15x64 ![0, 0, 4] t slices_S8x15x127_S8x15x64_0_0_4)⟩,
     ⟨S8x15x1x64, broadcastInDim S8x15x1x64 ![0, 1, 3] bcast_S8x15x64_S8x15x1x64_0_1_3 (extractStridedSlice S8x15x64 ![0, 0, 3] t slices_S8x15x127_S8x15x64_0_0_3)⟩,
     ⟨S8x15x1x64, broadcastInDim S8x15x1x64 ![0, 1, 3] bcast_S8x15x64_S8x15x1x64_0_1_3 (extractStridedSlice S8x15x64 ![0, 0, 2] t slices_S8x15x127_S8x15x64_0_0_2)⟩,
     ⟨S8x15x1x64, broadcastInDim S8x15x1x64 ![0, 1, 3] bcast_S8x15x64_S8x15x1x64_0_1_3 (extractStridedSlice S8x15x64 ![0, 0, 1] t slices_S8x15x127_S8x15x64_0_0_1)⟩,
     ⟨S8x15x1x64, broadcastInDim S8x15x1x64 ![0, 1, 3] bcast_S8x15x64_S8x15x1x64_0_1_3 (extractStridedSlice S8x15x64 ![0, 0, 0] t slices_S8x15x127_S8x15x64_0_0_0)⟩]
    concatenates_S8x15x1x64_S8x15x1x64_S8x15x1x64_S8x15x1x64_S8x15x1x64_S8x15x1x64_S8x15x1x64_S8x15x1x64_S8x15x1x64_S8x15x1x64_S8x15x1x64_S8x15x1x64_S8x15x1x64_S8x15x1x64_S8x15x1x64_S8x15x1x64_S8x15x16x64_d2

/-- The biases by query column and key column. -/
def columns (u0 u1 u2 u3 : FVec Ideal S8x15x16x64 .f32) : FVec Ideal S8x15x64x64 .f32 :=
  concatenate S8x15x64x64 2 [⟨S8x15x16x64, u0⟩, ⟨S8x15x16x64, u1⟩, ⟨S8x15x16x64, u2⟩, ⟨S8x15x16x64, u3⟩]
    concatenates_S8x15x16x64_S8x15x16x64_S8x15x16x64_S8x15x16x64_S8x15x64x64_d2

/-- The biases of the eight rows of a window, by the place of the query's row in the window. -/
def stacked (u : FVec Ideal S8x15x64x64 .f32) : FVec Ideal S8x8x8x64x64 .f32 :=
  concatenate S8x8x8x64x64 0
    [⟨S1x8x8x64x64, broadcastInDim S1x8x8x64x64 ![1, 2, 3, 4] bcast_S8x8x64x64_S1x8x8x64x64_1_2_3_4 (extractStridedSlice S8x8x64x64 ![0, 7, 0, 0] u slices_S8x15x64x64_S8x8x64x64_0_7_0_0)⟩,
     ⟨S1x8x8x64x64, broadcastInDim S1x8x8x64x64 ![1, 2, 3, 4] bcast_S8x8x64x64_S1x8x8x64x64_1_2_3_4 (extractStridedSlice S8x8x64x64 ![0, 6, 0, 0] u slices_S8x15x64x64_S8x8x64x64_0_6_0_0)⟩,
     ⟨S1x8x8x64x64, broadcastInDim S1x8x8x64x64 ![1, 2, 3, 4] bcast_S8x8x64x64_S1x8x8x64x64_1_2_3_4 (extractStridedSlice S8x8x64x64 ![0, 5, 0, 0] u slices_S8x15x64x64_S8x8x64x64_0_5_0_0)⟩,
     ⟨S1x8x8x64x64, broadcastInDim S1x8x8x64x64 ![1, 2, 3, 4] bcast_S8x8x64x64_S1x8x8x64x64_1_2_3_4 (extractStridedSlice S8x8x64x64 ![0, 4, 0, 0] u slices_S8x15x64x64_S8x8x64x64_0_4_0_0)⟩,
     ⟨S1x8x8x64x64, broadcastInDim S1x8x8x64x64 ![1, 2, 3, 4] bcast_S8x8x64x64_S1x8x8x64x64_1_2_3_4 (extractStridedSlice S8x8x64x64 ![0, 3, 0, 0] u slices_S8x15x64x64_S8x8x64x64_0_3_0_0)⟩,
     ⟨S1x8x8x64x64, broadcastInDim S1x8x8x64x64 ![1, 2, 3, 4] bcast_S8x8x64x64_S1x8x8x64x64_1_2_3_4 (extractStridedSlice S8x8x64x64 ![0, 2, 0, 0] u slices_S8x15x64x64_S8x8x64x64_0_2_0_0)⟩,
     ⟨S1x8x8x64x64, broadcastInDim S1x8x8x64x64 ![1, 2, 3, 4] bcast_S8x8x64x64_S1x8x8x64x64_1_2_3_4 (extractStridedSlice S8x8x64x64 ![0, 1, 0, 0] u slices_S8x15x64x64_S8x8x64x64_0_1_0_0)⟩,
     ⟨S1x8x8x64x64, broadcastInDim S1x8x8x64x64 ![1, 2, 3, 4] bcast_S8x8x64x64_S1x8x8x64x64_1_2_3_4 (extractStridedSlice S8x8x64x64 ![0, 0, 0, 0] u slices_S8x15x64x64_S8x8x64x64_0_0_0_0)⟩]
    concatenates_S1x8x8x64x64_S1x8x8x64x64_S1x8x8x64x64_S1x8x8x64x64_S1x8x8x64x64_S1x8x8x64x64_S1x8x8x64x64_S1x8x8x64x64_S8x8x8x64x64_d0

/-- The key columns of a query column's window. -/
def inWindow : IVec S1x1x1x64x64 1 :=
  broadcastInDim S1x1x1x64x64 ![3, 4] bcast_S64x64_S1x1x1x64x64_3_4 (fun i : S64x64.Idx => lit0 (S64x64.rowMajor i))

/-- The biases, minus infinity out of the window's columns. -/
def masked (s : FVec Ideal S8x8x8x64x64 .f32) : FVec Ideal S8x8x8x64x64 .f32 :=
  select (broadcastInDim S8x8x8x64x64 ![0, 1, 2, 3, 4] bcast_S1x1x1x64x64_S8x8x8x64x64_0_1_2_3_4 inWindow) s
    (broadcastInDim S8x8x8x64x64 ![] bcast_S_S8x8x8x64x64 (constant (F := Ideal) S_ .f32 0xFF800000#32))

/-- The biases by the place of the query's row, head, key of the window and query column. -/
def byKey (s : FVec Ideal S8x8x8x64x64 .f32) : FVec Ideal S8x8x512x64 .f32 :=
  shapeCast S8x8x512x64 (transpose S8x8x8x64x64 [0, 1, 2, 4, 3] s transposes_S8x8x8x64x64_S8x8x8x64x64_0_1_2_4_3) shapeCasts_S8x8x8x64x64_S8x8x512x64

/-- The biases of the query row at place 0 of its window, the window lying from the first row of the ten key rows. -/
def half00 (u : FVec Ideal S8x8x512x64 .f32) : FVec Ideal S8x640x64 .f32 :=
  pad S8x640x64 ![0, 0, 0] ![0, 128, 0] ![0, 0, 0] (shapeCast S8x512x64
    (extractStridedSlice S1x8x512x64 ![0, 0, 0, 0] u slices_S8x8x512x64_S1x8x512x64_0_0_0_0) shapeCasts_S1x8x512x64_S8x512x64)
    (constant (F := Ideal) S_ .f32 0xFF800000#32) pads_S8x512x64_S8x640x64_000_01280_000 h_S_

/-- The biases of the query row at place 1 of its window, the window lying from the first row of the ten key rows. -/
def half01 (u : FVec Ideal S8x8x512x64 .f32) : FVec Ideal S8x640x64 .f32 :=
  pad S8x640x64 ![0, 0, 0] ![0, 128, 0] ![0, 0, 0] (shapeCast S8x512x64
    (extractStridedSlice S1x8x512x64 ![1, 0, 0, 0] u slices_S8x8x512x64_S1x8x512x64_1_0_0_0) shapeCasts_S1x8x512x64_S8x512x64)
    (constant (F := Ideal) S_ .f32 0xFF800000#32) pads_S8x512x64_S8x640x64_000_01280_000 h_S_

/-- The biases of the query row at place 2 of its window, the window lying from the first row of the ten key rows. -/
def half02 (u : FVec Ideal S8x8x512x64 .f32) : FVec Ideal S8x640x64 .f32 :=
  pad S8x640x64 ![0, 0, 0] ![0, 128, 0] ![0, 0, 0] (shapeCast S8x512x64
    (extractStridedSlice S1x8x512x64 ![2, 0, 0, 0] u slices_S8x8x512x64_S1x8x512x64_2_0_0_0) shapeCasts_S1x8x512x64_S8x512x64)
    (constant (F := Ideal) S_ .f32 0xFF800000#32) pads_S8x512x64_S8x640x64_000_01280_000 h_S_

/-- The biases of the query row at place 3 of its window, the window lying from the first row of the ten key rows. -/
def half03 (u : FVec Ideal S8x8x512x64 .f32) : FVec Ideal S8x640x64 .f32 :=
  pad S8x640x64 ![0, 0, 0] ![0, 128, 0] ![0, 0, 0] (shapeCast S8x512x64
    (extractStridedSlice S1x8x512x64 ![3, 0, 0, 0] u slices_S8x8x512x64_S1x8x512x64_3_0_0_0) shapeCasts_S1x8x512x64_S8x512x64)
    (constant (F := Ideal) S_ .f32 0xFF800000#32) pads_S8x512x64_S8x640x64_000_01280_000 h_S_

/-- The biases of the query row at place 4 of its window, the window lying from the first row of the ten key rows. -/
def half04 (u : FVec Ideal S8x8x512x64 .f32) : FVec Ideal S8x640x64 .f32 :=
  pad S8x640x64 ![0, 0, 0] ![0, 128, 0] ![0, 0, 0] (shapeCast S8x512x64
    (extractStridedSlice S1x8x512x64 ![4, 0, 0, 0] u slices_S8x8x512x64_S1x8x512x64_4_0_0_0) shapeCasts_S1x8x512x64_S8x512x64)
    (constant (F := Ideal) S_ .f32 0xFF800000#32) pads_S8x512x64_S8x640x64_000_01280_000 h_S_

/-- The biases of the query row at place 4 of its window, the window lying from the second row of the ten key rows. -/
def half14 (u : FVec Ideal S8x8x512x64 .f32) : FVec Ideal S8x640x64 .f32 :=
  pad S8x640x64 ![0, 64, 0] ![0, 64, 0] ![0, 0, 0] (shapeCast S8x512x64
    (extractStridedSlice S1x8x512x64 ![4, 0, 0, 0] u slices_S8x8x512x64_S1x8x512x64_4_0_0_0) shapeCasts_S1x8x512x64_S8x512x64)
    (constant (F := Ideal) S_ .f32 0xFF800000#32) pads_S8x512x64_S8x640x64_000_64640_000 h_S_

/-- The biases of the query row at place 4 of its window, the window lying from the third row of the ten key rows. -/
def half24 (u : FVec Ideal S8x8x512x64 .f32) : FVec Ideal S8x640x64 .f32 :=
  pad S8x640x64 ![0, 128, 0] ![0, 0, 0] ![0, 0, 0] (shapeCast S8x512x64
    (extractStridedSlice S1x8x512x64 ![4, 0, 0, 0] u slices_S8x8x512x64_S1x8x512x64_4_0_0_0) shapeCasts_S1x8x512x64_S8x512x64)
    (constant (F := Ideal) S_ .f32 0xFF800000#32) pads_S8x512x64_S8x640x64_000_12800_000 h_S_

/-- The biases of the query row at place 5 of its window, the window lying from the third row of the ten key rows. -/
def half25 (u : FVec Ideal S8x8x512x64 .f32) : FVec Ideal S8x640x64 .f32 :=
  pad S8x640x64 ![0, 128, 0] ![0, 0, 0] ![0, 0, 0] (shapeCast S8x512x64
    (extractStridedSlice S1x8x512x64 ![5, 0, 0, 0] u slices_S8x8x512x64_S1x8x512x64_5_0_0_0) shapeCasts_S1x8x512x64_S8x512x64)
    (constant (F := Ideal) S_ .f32 0xFF800000#32) pads_S8x512x64_S8x640x64_000_12800_000 h_S_

/-- The biases of the query row at place 6 of its window, the window lying from the third row of the ten key rows. -/
def half26 (u : FVec Ideal S8x8x512x64 .f32) : FVec Ideal S8x640x64 .f32 :=
  pad S8x640x64 ![0, 128, 0] ![0, 0, 0] ![0, 0, 0] (shapeCast S8x512x64
    (extractStridedSlice S1x8x512x64 ![6, 0, 0, 0] u slices_S8x8x512x64_S1x8x512x64_6_0_0_0) shapeCasts_S1x8x512x64_S8x512x64)
    (constant (F := Ideal) S_ .f32 0xFF800000#32) pads_S8x512x64_S8x640x64_000_12800_000 h_S_

/-- The biases of the query row at place 7 of its window, the window lying from the third row of the ten key rows. -/
def half27 (u : FVec Ideal S8x8x512x64 .f32) : FVec Ideal S8x640x64 .f32 :=
  pad S8x640x64 ![0, 128, 0] ![0, 0, 0] ![0, 0, 0] (shapeCast S8x512x64
    (extractStridedSlice S1x8x512x64 ![7, 0, 0, 0] u slices_S8x8x512x64_S1x8x512x64_7_0_0_0) shapeCasts_S1x8x512x64_S8x512x64)
    (constant (F := Ideal) S_ .f32 0xFF800000#32) pads_S8x512x64_S8x640x64_000_12800_000 h_S_

/-- The five bias tables of two query rows. -/
def tables (u : FVec Ideal S8x8x512x64 .f32) : FVec Ideal S5x8x640x128 .f32 :=
  concatenate S5x8x640x128 0
    [⟨S1x8x640x128, broadcastInDim S1x8x640x128 ![1, 2, 3] bcast_S8x640x128_S1x8x640x128_1_2_3 (concatenate S8x640x128 2 [⟨S8x640x64, half00 u⟩, ⟨S8x640x64, half01 u⟩] concatenates_S8x640x64_S8x640x64_S8x640x128_d2)⟩,
     ⟨S1x8x640x128, broadcastInDim S1x8x640x128 ![1, 2, 3] bcast_S8x640x128_S1x8x640x128_1_2_3 (concatenate S8x640x128 2 [⟨S8x640x64, half02 u⟩, ⟨S8x640x64, half03 u⟩] concatenates_S8x640x64_S8x640x64_S8x640x128_d2)⟩,
     ⟨S1x8x640x128, broadcastInDim S1x8x640x128 ![1, 2, 3] bcast_S8x640x128_S1x8x640x128_1_2_3 (concatenate S8x640x128 2 [⟨S8x640x64, half04 u⟩, ⟨S8x640x64, half14 u⟩] concatenates_S8x640x64_S8x640x64_S8x640x128_d2)⟩,
     ⟨S1x8x640x128, broadcastInDim S1x8x640x128 ![1, 2, 3] bcast_S8x640x128_S1x8x640x128_1_2_3 (concatenate S8x640x128 2 [⟨S8x640x64, half24 u⟩, ⟨S8x640x64, half25 u⟩] concatenates_S8x640x64_S8x640x64_S8x640x128_d2)⟩,
     ⟨S1x8x640x128, broadcastInDim S1x8x640x128 ![1, 2, 3] bcast_S8x640x128_S1x8x640x128_1_2_3 (concatenate S8x640x128 2 [⟨S8x640x64, half26 u⟩, ⟨S8x640x64, half27 u⟩] concatenates_S8x640x64_S8x640x64_S8x640x128_d2)⟩]
    concatenates_S1x8x640x128_S1x8x640x128_S1x8x640x128_S1x8x640x128_S1x8x640x128_S5x8x640x128_d0

/-- A line of host operations in two parts. -/
theorem after_append {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op l ih => exact ih _

variable (m : (ℓ : Loc nD τ sig) → Buf (Elt Ideal) ℓ)

/-- The last operations: from the masked biases to the tables. -/
theorem tables_stage (W : Valuation τ sig (Elt Ideal)) :
    StableHlo.after (hostOps0_4 ++ (hostOps0_5 ++ (hostOps0_6 ++ (hostOps0_7 ++ (hostOps0_8 ++ (hostOps0_9 ++ (hostOps0_10 ++ (hostOps0_11 ++ (hostOps0_12 ++ (hostOps0_13 ++ (hostOps0_14 ++ (hostOps0_15 ++ (hostOps0_16 ++ (hostOps0_17 ++ (hostOps0_18 ++ (hostOps0_19 ++ (hostOps0_20 ++ (hostOps0_21 ++ (hostOps0_22 ++ (hostOps0_23 ++ (hostOps0_24))))))))))))))))))))) W (Proc.devRef .tc main_v215)
      = tables (byKey (W (Proc.devRef .tc main_v172))) := by
  simp only [hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.cons_append, List.nil_append]
  after_reads_simp
  rfl

theorem masked_stage (W : Valuation τ sig (Elt Ideal)) (h0 : W (Proc.devRef .tc main_v0) = inWindow)
    (h1 : W (Proc.devRef .tc main_cst) = constant (F := Ideal) S_ .f32 0xFF800000#32) :
    StableHlo.after hostOps0_3 W (Proc.devRef .tc main_v172) = masked (W (Proc.devRef .tc main_v171)) := by
  simp only [hostOps0_3]
  after_reads_simp
  simp only [h0, h1]
  rfl

end Cert.Kernel4Ideal.Host

end
-- ==== Proof.NearStage.lean ====
/- The neighbourhood attention's window arrays as functions of the arguments. -/
module

public import proofs.«01_k».proof.Proof.NearHost

@[expose] public section

noncomputable section

namespace Cert.Kernel4Ideal.Host

open Cert.Kernel4Ideal Cert.Kernel4Ideal.Gen Idealize.ShloMosaic Idealize.ShloMosaic.TcCoe Idealize.SL.Sem

set_option maxRecDepth 65536

set_option maxHeartbeats 4000000 in
theorem columns0_stage (W : Valuation τ sig (Elt Ideal)) :
    StableHlo.after (hostOps0_2.take 132) W (Proc.devRef .tc main_v150) = columns0 (W (Proc.devRef .tc main_v21)) := by
  simp only [hostOps0_2, List.take_succ_cons, List.take_zero]
  after_reads_simp
  unfold columns0
  rfl

set_option maxHeartbeats 4000000 in
theorem columns1_stage (W : Valuation τ sig (Elt Ideal)) :
    StableHlo.after (hostOps0_2.take 132) W (Proc.devRef .tc main_v151) = columns1 (W (Proc.devRef .tc main_v21)) := by
  simp only [hostOps0_2, List.take_succ_cons, List.take_zero]
  after_reads_simp
  unfold columns1
  rfl

set_option maxHeartbeats 4000000 in
theorem columns2_stage (W : Valuation τ sig (Elt Ideal)) :
    StableHlo.after (hostOps0_2.take 132) W (Proc.devRef .tc main_v152) = columns2 (W (Proc.devRef .tc main_v21)) := by
  simp only [hostOps0_2, List.take_succ_cons, List.take_zero]
  after_reads_simp
  unfold columns2
  rfl

set_option maxHeartbeats 4000000 in
theorem columns3_stage (W : Valuation τ sig (Elt Ideal)) :
    StableHlo.after (hostOps0_2.take 132) W (Proc.devRef .tc main_v153) = columns3 (W (Proc.devRef .tc main_v21)) := by
  simp only [hostOps0_2, List.take_succ_cons, List.take_zero]
  after_reads_simp
  unfold columns3
  rfl

set_option maxHeartbeats 4000000 in
theorem stacked_part (W : Valuation τ sig (Elt Ideal)) :
    StableHlo.after (hostOps0_2.drop 132) W (Proc.devRef .tc main_v171)
      = stacked (columns (W (Proc.devRef .tc main_v150)) (W (Proc.devRef .tc main_v151)) (W (Proc.devRef .tc main_v152))
          (W (Proc.devRef .tc main_v153))) := by
  simp only [hostOps0_2, List.drop_succ_cons, List.drop_zero]
  after_reads_simp
  unfold stacked columns
  rfl

/-- The biases by query column and key column, from the widened ones. -/
def byColumn (t : FVec Ideal S8x15x127 .f32) : FVec Ideal S8x15x64x64 .f32 := columns (columns0 t) (columns1 t) (columns2 t) (columns3 t)

theorem stacked_stage (W : Valuation τ sig (Elt Ideal)) :
    StableHlo.after hostOps0_2 W (Proc.devRef .tc main_v171) = stacked (byColumn (W (Proc.devRef .tc main_v21))) := by
  refine (congrFun ((congrArg (fun l => StableHlo.after l W) (List.take_append_drop 132 hostOps0_2).symm).trans (after_append _ _ _)) _).trans ?_
  rw [stacked_part, columns0_stage, columns1_stage, columns2_stage, columns3_stage]
  rfl

set_option maxHeartbeats 4000000 in
theorem window_kept (W : Valuation τ sig (Elt Ideal)) :
    StableHlo.after hostOps0_2 W (Proc.devRef .tc main_v0) = W (Proc.devRef .tc main_v0) := by
  simp only [hostOps0_2]
  after_reads_simp

set_option maxHeartbeats 4000000 in
theorem floor_stage (W : Valuation τ sig (Elt Ideal)) :
    StableHlo.after hostOps0_2 W (Proc.devRef .tc main_cst) = constant (F := Ideal) S_ .f32 0xFF800000#32 := by
  simp only [hostOps0_2]
  after_reads_simp

theorem widened_stage (W : Valuation τ sig (Elt Ideal)) :
    StableHlo.after (hostOps0 ++ hostOps0_1) W (Proc.devRef .tc main_v21) = widened (W (Proc.devRef .tc main_arg1)) := by
  simp only [hostOps0, hostOps0_1, List.cons_append, List.nil_append]
  after_reads_simp
  rfl

theorem window_stage (W : Valuation τ sig (Elt Ideal)) :
    StableHlo.after (hostOps0 ++ hostOps0_1) W (Proc.devRef .tc main_v0) = inWindow := by
  simp only [hostOps0, hostOps0_1, List.cons_append, List.nil_append]
  after_reads_simp
  rfl

variable (m : (ℓ : Loc nD τ sig) → Buf (Elt Ideal) ℓ)

/-- The line of host operations in five parts. -/
theorem line_split (W : Valuation τ sig (Elt Ideal)) (r : DevRef τ sig) :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) W r
      = StableHlo.after (hostOps0_4 ++ (hostOps0_5 ++ (hostOps0_6 ++ (hostOps0_7 ++ (hostOps0_8 ++ (hostOps0_9 ++ (hostOps0_10 ++ (hostOps0_11 ++ (hostOps0_12 ++ (hostOps0_13 ++ (hostOps0_14 ++ (hostOps0_15 ++ (hostOps0_16 ++ (hostOps0_17 ++ (hostOps0_18 ++ (hostOps0_19 ++ (hostOps0_20 ++ (hostOps0_21 ++ (hostOps0_22 ++ (hostOps0_23 ++ (hostOps0_24))))))))))))))))))))) (StableHlo.after hostOps0_3 (StableHlo.after hostOps0_2 (StableHlo.after (hostOps0 ++ hostOps0_1) W))) r := by
  rw [← after_append, ← after_append, ← after_append]
  simp only [List.flatten_cons, List.flatten_nil, List.append_nil, List.append_assoc]

theorem tables_eq (c : Dev nD) : V m c main_v215
    = tables (byKey (masked (stacked (byColumn (widened (m ((c : Thread nD τ).loc main_arg1))))))) := by
  refine (line_split _ _).trans ?_
  rw [tables_stage, masked_stage, stacked_stage, widened_stage]
  · rw [window_kept, window_stage]
  · rw [floor_stage]

theorem ordered_eq (c : Dev nD) : V m c main_v14 = ordered (m ((c : Thread nD τ).loc main_arg0)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_reads_simp
  rfl

theorem valueRows_eq (c : Dev nD) : V m c main_v20 = valueRows (m ((c : Thread nD τ).loc main_arg0)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_reads_simp
  rfl

end Cert.Kernel4Ideal.Host

end
-- ==== Proof.NearTable.lean ====
/- The bias tables of the neighbourhood attention, element by element. -/
module

public import proofs.«01_k».proof.Proof.NearStage

@[expose] public section

noncomputable section

namespace Cert.Kernel4Ideal.Host

open Cert.Kernel4Ideal Cert.Kernel4Ideal.Gen Idealize.ShloMosaic Idealize.ShloMosaic.TcCoe Idealize.SL.Sem

set_option maxRecDepth 65536

theorem columns0_apply (t : FVec Ideal S8x15x127 .f32) (h : Fin 8) (r : Fin 15) (w : Fin 16) (kc : Fin 64) (n' : Fin 127)
    (hn' : n'.val = 63 - w.val + kc.val) : columns0 t (ix4 h r w kc) = t (ix3 h r n') := by
  pointwise [columns0]
  have key : ∀ (n : Fin 127) (hn : n.val = n'.val), t (ix3 h r n) = t (ix3 h r n') :=
    fun n hn => congrArg (fun i => t (ix3 h r i)) (Fin.ext hn)
  repeat' refine Cert.Proj.dite_eq_of (fun _ => ?_) (fun _ => ?_)
  all_goals refine key _ ?_
  all_goals dsimp only
  all_goals omega

theorem columns1_apply (t : FVec Ideal S8x15x127 .f32) (h : Fin 8) (r : Fin 15) (w : Fin 16) (kc : Fin 64) (n' : Fin 127)
    (hn' : n'.val = 63 - (16 + w.val) + kc.val) : columns1 t (ix4 h r w kc) = t (ix3 h r n') := by
  pointwise [columns1]
  have key : ∀ (n : Fin 127) (hn : n.val = n'.val), t (ix3 h r n) = t (ix3 h r n') :=
    fun n hn => congrArg (fun i => t (ix3 h r i)) (Fin.ext hn)
  repeat' refine Cert.Proj.dite_eq_of (fun _ => ?_) (fun _ => ?_)
  all_goals refine key _ ?_
  all_goals dsimp only
  all_goals omega

theorem columns2_apply (t : FVec Ideal S8x15x127 .f32) (h : Fin 8) (r : Fin 15) (w : Fin 16) (kc : Fin 64) (n' : Fin 127)
    (hn' : n'.val = 63 - (32 + w.val) + kc.val) : columns2 t (ix4 h r w kc) = t (ix3 h r n') := by
  pointwise [columns2]
  have key : ∀ (n : Fin 127) (hn : n.val = n'.val), t (ix3 h r n) = t (ix3 h r n') :=
    fun n hn => congrArg (fun i => t (ix3 h r i)) (Fin.ext hn)
  repeat' refine Cert.Proj.dite_eq_of (fun _ => ?_) (fun _ => ?_)
  all_goals refine key _ ?_
  all_goals dsimp only
  all_goals omega

theorem columns3_apply (t : FVec Ideal S8x15x127 .f32) (h : Fin 8) (r : Fin 15) (w : Fin 16) (kc : Fin 64) (n' : Fin 127)
    (hn' : n'.val = 63 - (48 + w.val) + kc.val) : columns3 t (ix4 h r w kc) = t (ix3 h r n') := by
  pointwise [columns3]
  have key : ∀ (n : Fin 127) (hn : n.val = n'.val), t (ix3 h r n) = t (ix3 h r n') :=
    fun n hn => congrArg (fun i => t (ix3 h r i)) (Fin.ext hn)
  repeat' refine Cert.Proj.dite_eq_of (fun _ => ?_) (fun _ => ?_)
  all_goals refine key _ ?_
  all_goals dsimp only
  all_goals omega

theorem byColumn_apply (t : FVec Ideal S8x15x127 .f32) (h : Fin 8) (r : Fin 15) (w kc : Fin 64) :
    byColumn t (ix4 h r w kc) = t (ix3 h r ⟨63 - w.val + kc.val, by omega⟩) := by
  pointwise [byColumn, columns]
  repeat' refine Cert.Proj.dite_eq_of (fun _ => ?_) (fun _ => ?_)
  · exact columns0_apply t h r _ kc _ (by dsimp only)
  · exact columns1_apply t h r _ kc _ (by dsimp only; omega)
  · exact columns2_apply t h r _ kc _ (by dsimp only; omega)
  · exact columns3_apply t h r _ kc _ (by dsimp only; omega)

theorem stacked_apply (u : FVec Ideal S8x15x64x64 .f32) (d h kk : Fin 8) (w kc : Fin 64) :
    stacked u (ix5 d h kk w kc) = u (ix4 h ⟨7 - d.val + kk.val, by omega⟩ w kc) := by
  pointwise [stacked]
  have key : ∀ (n : Fin 15) (hn : n.val = 7 - d.val + kk.val), u (ix4 h n w kc) = u (ix4 h ⟨7 - d.val + kk.val, by omega⟩ w kc) :=
    fun n hn => congrArg (fun i => u (ix4 h i w kc)) (Fin.ext hn)
  repeat' refine Cert.Proj.dite_eq_of (fun _ => ?_) (fun _ => ?_)
  all_goals refine key _ ?_
  all_goals dsimp only
  all_goals omega

theorem masked_apply (s : FVec Ideal S8x8x8x64x64 .f32) (d h kk : Fin 8) (w kc : Fin 64) :
    masked s (ix5 d h kk w kc) = Scalar.select (lit0 (S64x64.rowMajor (ix2 w kc))) (s (ix5 d h kk w kc)) (Ideal.ofBits .f32 0xFF800000#32) := by
  pointwise [masked, inWindow]

theorem byKey_apply (s : FVec Ideal S8x8x8x64x64 .f32) (d h kk : Fin 8) (w kc : Fin 64) :
    byKey s (ix4 d h ⟨64 * kk.val + kc.val, by omega⟩ w) = s (ix5 d h kk w kc) := by
  pointwise [byKey]

theorem widened_apply (x : FVec Ideal S8x15x31 .f32) (h : Fin 8) (r : Fin 15) (n : Fin 127) (hn : 48 ≤ n.val) (hn' : n.val < 79) :
    widened x (ix3 h r n) = x (ix3 h r ⟨n.val - 48, by omega⟩) := by
  pointwise [widened]
  rw [dif_pos ⟨hn, by omega⟩]

/-- The literal table marks the sixteen key columns of each query column's window. -/
theorem window_columns : ∀ w kc : Fin 64, lit0 (S64x64.rowMajor (ix2 w kc))
    = if min (w.val - 8) 48 ≤ kc.val ∧ kc.val < min (w.val - 8) 48 + 16 then 1#1 else 0#1 := by
  decide +kernel

/-- The biases by place of the query's row, head, key of the window and query column. -/
def inner (x : FVec Ideal S8x15x31 .f32) : FVec Ideal S8x8x512x64 .f32 := byKey (masked (stacked (byColumn (widened x))))

theorem inner_in (x : FVec Ideal S8x15x31 .f32) (d h kk : Fin 8) (w kc : Fin 64) (r : Fin 15) (n : Fin 31) (hr : r.val = 7 - d.val + kk.val)
    (hn : n.val + w.val = kc.val + 15) (hw : min (w.val - 8) 48 ≤ kc.val ∧ kc.val < min (w.val - 8) 48 + 16) :
    inner x (ix4 d h ⟨64 * kk.val + kc.val, by omega⟩ w) = x (ix3 h r n) := by
  unfold inner
  rw [byKey_apply, masked_apply, window_columns, if_pos hw]
  show stacked (byColumn (widened x)) (ix5 d h kk w kc) = _
  rw [stacked_apply, byColumn_apply, widened_apply _ _ _ _ (by dsimp only; omega) (by dsimp only; omega)]
  refine congrArg₂ (fun i j => x (ix3 h i j)) (Fin.ext ?_) (Fin.ext ?_)
  · exact hr.symm
  · show 63 - w.val + kc.val - 48 = n.val
    omega

theorem inner_out (x : FVec Ideal S8x15x31 .f32) (d h kk : Fin 8) (w kc : Fin 64)
    (hw : ¬(min (w.val - 8) 48 ≤ kc.val ∧ kc.val < min (w.val - 8) 48 + 16)) :
    inner x (ix4 d h ⟨64 * kk.val + kc.val, by omega⟩ w) = Ideal.ofBits .f32 0xFF800000#32 := by
  unfold inner
  rw [byKey_apply, masked_apply, window_columns, if_neg hw]
  rfl

theorem half00_apply (u : FVec Ideal S8x8x512x64 .f32) (h : Fin 8) (x : Fin 640) (w w' : Fin 64) (hw : w'.val = w.val) :
    half00 u (ix3 h x w')
      = if hx : 0 ≤ x.val ∧ x.val - 0 < 512 then u (ix4 0 h ⟨x.val - 0, by omega⟩ w) else Ideal.ofBits .f32 0xFF800000#32 := by
  obtain rfl : w' = w := Fin.ext hw
  pointwise [half00]

theorem half01_apply (u : FVec Ideal S8x8x512x64 .f32) (h : Fin 8) (x : Fin 640) (w w' : Fin 64) (hw : w'.val = w.val) :
    half01 u (ix3 h x w')
      = if hx : 0 ≤ x.val ∧ x.val - 0 < 512 then u (ix4 1 h ⟨x.val - 0, by omega⟩ w) else Ideal.ofBits .f32 0xFF800000#32 := by
  obtain rfl : w' = w := Fin.ext hw
  pointwise [half01]

theorem half02_apply (u : FVec Ideal S8x8x512x64 .f32) (h : Fin 8) (x : Fin 640) (w w' : Fin 64) (hw : w'.val = w.val) :
    half02 u (ix3 h x w')
      = if hx : 0 ≤ x.val ∧ x.val - 0 < 512 then u (ix4 2 h ⟨x.val - 0, by omega⟩ w) else Ideal.ofBits .f32 0xFF800000#32 := by
  obtain rfl : w' = w := Fin.ext hw
  pointwise [half02]

theorem half03_apply (u : FVec Ideal S8x8x512x64 .f32) (h : Fin 8) (x : Fin 640) (w w' : Fin 64) (hw : w'.val = w.val) :
    half03 u (ix3 h x w')
      = if hx : 0 ≤ x.val ∧ x.val - 0 < 512 then u (ix4 3 h ⟨x.val - 0, by omega⟩ w) else Ideal.ofBits .f32 0xFF800000#32 := by
  obtain rfl : w' = w := Fin.ext hw
  pointwise [half03]

theorem half04_apply (u : FVec Ideal S8x8x512x64 .f32) (h : Fin 8) (x : Fin 640) (w w' : Fin 64) (hw : w'.val = w.val) :
    half04 u (ix3 h x w')
      = if hx : 0 ≤ x.val ∧ x.val - 0 < 512 then u (ix4 4 h ⟨x.val - 0, by omega⟩ w) else Ideal.ofBits .f32 0xFF800000#32 := by
  obtain rfl : w' = w := Fin.ext hw
  pointwise [half04]

theorem half14_apply (u : FVec Ideal S8x8x512x64 .f32) (h : Fin 8) (x : Fin 640) (w w' : Fin 64) (hw : w'.val = w.val) :
    half14 u (ix3 h x w')
      = if hx : 64 ≤ x.val ∧ x.val - 64 < 512 then u (ix4 4 h ⟨x.val - 64, by omega⟩ w) else Ideal.ofBits .f32 0xFF800000#32 := by
  obtain rfl : w' = w := Fin.ext hw
  pointwise [half14]

theorem half24_apply (u : FVec Ideal S8x8x512x64 .f32) (h : Fin 8) (x : Fin 640) (w w' : Fin 64) (hw : w'.val = w.val) :
    half24 u (ix3 h x w')
      = if hx : 128 ≤ x.val ∧ x.val - 128 < 512 then u (ix4 4 h ⟨x.val - 128, by omega⟩ w) else Ideal.ofBits .f32 0xFF800000#32 := by
  obtain rfl : w' = w := Fin.ext hw
  pointwise [half24]

theorem half25_apply (u : FVec Ideal S8x8x512x64 .f32) (h : Fin 8) (x : Fin 640) (w w' : Fin 64) (hw : w'.val = w.val) :
    half25 u (ix3 h x w')
      = if hx : 128 ≤ x.val ∧ x.val - 128 < 512 then u (ix4 5 h ⟨x.val - 128, by omega⟩ w) else Ideal.ofBits .f32 0xFF800000#32 := by
  obtain rfl : w' = w := Fin.ext hw
  pointwise [half25]

theorem half26_apply (u : FVec Ideal S8x8x512x64 .f32) (h : Fin 8) (x : Fin 640) (w w' : Fin 64) (hw : w'.val = w.val) :
    half26 u (ix3 h x w')
      = if hx : 128 ≤ x.val ∧ x.val - 128 < 512 then u (ix4 6 h ⟨x.val - 128, by omega⟩ w) else Ideal.ofBits .f32 0xFF800000#32 := by
  obtain rfl : w' = w := Fin.ext hw
  pointwise [half26]

theorem half27_apply (u : FVec Ideal S8x8x512x64 .f32) (h : Fin 8) (x : Fin 640) (w w' : Fin 64) (hw : w'.val = w.val) :
    half27 u (ix3 h x w')
      = if hx : 128 ≤ x.val ∧ x.val - 128 < 512 then u (ix4 7 h ⟨x.val - 128, by omega⟩ w) else Ideal.ofBits .f32 0xFF800000#32 := by
  obtain rfl : w' = w := Fin.ext hw
  pointwise [half27]

/-- The first key row of the window, in the ten key rows of two query rows. -/
def offset : Fin 5 → Fin 2 → Nat := ![![0, 0], ![0, 0], ![0, 1], ![2, 2], ![2, 2]]

/-- The place of the query row in its window. -/
def place : Fin 5 → Fin 2 → Fin 8 := ![![0, 1], ![2, 3], ![4, 4], ![4, 5], ![6, 7]]

set_option maxHeartbeats 4000000 in
theorem tables_apply (u : FVec Ideal S8x8x512x64 .f32) (v : Fin 5) (j : Fin 2) (h : Fin 8) (x : Fin 640) (w : Fin 64) :
    tables u (ix4 v h x ⟨64 * j.val + w.val, by omega⟩)
      = if hx : 64 * offset v j ≤ x.val ∧ x.val - 64 * offset v j < 512 then u (ix4 (place v j) h ⟨x.val - 64 * offset v j, hx.2⟩ w)
        else Ideal.ofBits .f32 0xFF800000#32 := by
  pointwise [tables]
  fin_vals v with hv
  all_goals obtain rfl : v = ⟨_, by decide⟩ := Fin.ext hv
  all_goals fin_vals j with hj
  all_goals obtain rfl : j = ⟨_, by decide⟩ := Fin.ext hj
  all_goals dsimp only
  · rw [dif_pos (by omega), dif_pos (by omega)]
    exact half00_apply u h x w _ (by dsimp only <;> omega)
  · rw [dif_pos (by omega), dif_neg (by omega)]
    exact half01_apply u h x w _ (by dsimp only <;> omega)
  · rw [dif_neg (by omega), dif_pos (by omega), dif_pos (by omega)]
    exact half02_apply u h x w _ (by dsimp only <;> omega)
  · rw [dif_neg (by omega), dif_pos (by omega), dif_neg (by omega)]
    exact half03_apply u h x w _ (by dsimp only <;> omega)
  · rw [dif_neg (by omega), dif_neg (by omega), dif_pos (by omega), dif_pos (by omega)]
    exact half04_apply u h x w _ (by dsimp only <;> omega)
  · rw [dif_neg (by omega), dif_neg (by omega), dif_pos (by omega), dif_neg (by omega)]
    exact half14_apply u h x w _ (by dsimp only <;> omega)
  · rw [dif_neg (by omega), dif_neg (by omega), dif_neg (by omega), dif_pos (by omega), dif_pos (by omega)]
    exact half24_apply u h x w _ (by dsimp only <;> omega)
  · rw [dif_neg (by omega), dif_neg (by omega), dif_neg (by omega), dif_pos (by omega), dif_neg (by omega)]
    exact half25_apply u h x w _ (by dsimp only <;> omega)
  · rw [dif_neg (by omega), dif_neg (by omega), dif_neg (by omega), dif_neg (by omega), dif_pos (by omega)]
    exact half26_apply u h x w _ (by dsimp only <;> omega)
  · rw [dif_neg (by omega), dif_neg (by omega), dif_neg (by omega), dif_neg (by omega), dif_neg (by omega)]
    exact half27_apply u h x w _ (by dsimp only <;> omega)

theorem table_in (x : FVec Ideal S8x15x31 .f32) (v : Fin 5) (j : Fin 2) (h : Fin 8) (xr : Fin 10) (w kc : Fin 64) (r : Fin 15) (n : Fin 31)
    (ho : offset v j ≤ xr.val ∧ xr.val < offset v j + 8) (hr : r.val + (place v j).val + offset v j = 7 + xr.val)
    (hn : n.val + w.val = kc.val + 15) (hw : min (w.val - 8) 48 ≤ kc.val ∧ kc.val < min (w.val - 8) 48 + 16) :
    tables (inner x) (ix4 v h ⟨64 * xr.val + kc.val, by omega⟩ ⟨64 * j.val + w.val, by omega⟩) = x (ix3 h r n) := by
  rw [tables_apply, dif_pos (by dsimp only; omega)]
  refine Eq.trans ?_ (inner_in x (place v j) h ⟨xr.val - offset v j, by omega⟩ w kc r n ?_ hn hw)
  · refine congrArg (fun i => inner x (ix4 (place v j) h i w)) (Fin.ext ?_)
    show 64 * xr.val + kc.val - 64 * offset v j = 64 * (xr.val - offset v j) + kc.val
    omega
  · have := (place v j).isLt
    show r.val = 7 - (place v j).val + (xr.val - offset v j)
    omega

theorem table_out (x : FVec Ideal S8x15x31 .f32) (v : Fin 5) (j : Fin 2) (h : Fin 8) (xr : Fin 10) (w kc : Fin 64)
    (ho : ¬((offset v j ≤ xr.val ∧ xr.val < offset v j + 8) ∧ min (w.val - 8) 48 ≤ kc.val ∧ kc.val < min (w.val - 8) 48 + 16)) :
    tables (inner x) (ix4 v h ⟨64 * xr.val + kc.val, by omega⟩ ⟨64 * j.val + w.val, by omega⟩) = Ideal.ofBits .f32 0xFF800000#32 := by
  rw [tables_apply]
  by_cases hx : 64 * offset v j ≤ 64 * xr.val + kc.val ∧ 64 * xr.val + kc.val - 64 * offset v j < 512
  · rw [dif_pos hx]
    refine Eq.trans ?_ (inner_out x (place v j) h ⟨xr.val - offset v j, by omega⟩ w kc (fun hw => ho ⟨by omega, hw⟩))
    refine congrArg (fun i => inner x (ix4 (place v j) h i w)) (Fin.ext ?_)
    show 64 * xr.val + kc.val - 64 * offset v j = 64 * (xr.val - offset v j) + kc.val
    omega
  · rw [dif_neg hx]

set_option maxHeartbeats 1000000 in
theorem ordered_query (x : FVec Ideal S8x8192x6912 .f32) (b : Fin 8) (n : Fin 8192) (l : Fin 512) :
    ordered x (ix3 b n ⟨4608 + l.val, by omega⟩) = x (ix3 b n ⟨l.val, by omega⟩) := by
  pointwise [ordered]
  rw [dif_neg (by omega), dif_neg (by omega), dif_pos (by omega)]
  exact congrArg (fun i => x (ix3 b n i)) (Fin.ext (by dsimp only; omega))

set_option maxHeartbeats 1000000 in
theorem ordered_key (x : FVec Ideal S8x8192x6912 .f32) (b : Fin 8) (n : Fin 8192) (l : Fin 512) :
    ordered x (ix3 b n ⟨5120 + l.val, by omega⟩) = x (ix3 b n ⟨512 + l.val, by omega⟩) := by
  pointwise [ordered]
  rw [dif_neg (by omega), dif_neg (by omega), dif_pos (by omega)]
  exact congrArg (fun i => x (ix3 b n i)) (Fin.ext (by dsimp only; omega))

theorem valueRows_apply (x : FVec Ideal S8x8192x6912 .f32) (b : Fin 8) (n : Fin 8192) (l : Fin 512) :
    valueRows x (ix2 ⟨l.val, by omega⟩ ⟨8192 * b.val + n.val, by omega⟩) = x (ix3 b n ⟨1024 + l.val, by omega⟩) := by
  pointwise [valueRows]

end Cert.Kernel4Ideal.Host

end
-- ==== Proof.NearRows.lean ====
/- The rows of one block, element by element: each is a weighted mean of the values the window reads (`mean`). -/
module

public import proofs.«01_k».proof.Proof.NearBlock

@[expose] public section

noncomputable section

namespace Cert.Kernel4Ideal.Rows

open Cert.Kernel4Ideal Cert.Kernel4Ideal.Gen Cert.Kernel4Ideal.Block Idealize.ShloMosaic Idealize.ShloMosaic.TcCoe Idealize.SL.Sem

set_option maxRecDepth 16640

/-- The greatest of the scores `s`. -/
def top (s : Fin 640 → EReal) : EReal := Finset.fold max (Ideal.ofBits .f32 0xFF800000#32) s Finset.univ

/-- The mean of the values `v` with weights `2 ^ s`. -/
def mean (v s : Fin 640 → EReal) : EReal :=
  Ideal.div (∑ x, v x * FloatOps.exp2 (F := Ideal) (φ := .f32) (s x - top s)) (∑ x, FloatOps.exp2 (F := Ideal) (φ := .f32) (s x - top s))

/-- The score of a key `k` for a query `q`, with bias `b`. -/
def score (q k : Fin 64 → EReal) (b : EReal) : EReal :=
  ∑ e, k e * (q e * Named.named (F := Ideal) κ "qscale" (φ := .f32) 0x3E38AA3B#32)
    + b * Named.named (F := Ideal) κ "log2e" (φ := .f32) 0x3FB8AA3B#32

theorem headOut_apply (v : FVec Ideal S64x640 .bf16) (s : FVec Ideal S640x128 .f32) (d : Fin 64) (t : Fin 128) :
    headOut v s (ix2 d t) = mean (fun x => v (ix2 d x)) (fun x => s (ix2 x t)) := by
  pointwise [headOut, weighed, weights, greatest]
  rfl

/-- A sum that keeps the lower lanes only, and one that keeps the upper ones. -/
theorem sum_low (f : Fin 128 → EReal) :
    ∑ l : Fin 128, Scalar.select (IntOp.cmpi .slt (BitVec.ofNat 32 l.val) 64#32) (f l) 0 = ∑ e : Fin 64, f ⟨e.val, by omega⟩ := by
  have lo : ∀ e : Fin 64, IntOp.cmpi .slt (BitVec.ofNat 32 e.val) 64#32 = 1#1 := by decide
  have hi : ∀ e : Fin 64, IntOp.cmpi .slt (BitVec.ofNat 32 (64 + e.val)) 64#32 = 0#1 := by decide
  rw [Fin.sum_univ_two_halves 64 64 rfl]
  simp [lo, hi, Scalar.select]
theorem sum_high (f : Fin 128 → EReal) :
    ∑ l : Fin 128, Scalar.select (IntOp.cmpi .sge (BitVec.ofNat 32 l.val) 64#32) (f l) 0 = ∑ e : Fin 64, f ⟨64 + e.val, by omega⟩ := by
  have lo : ∀ e : Fin 64, IntOp.cmpi .sge (BitVec.ofNat 32 e.val) 64#32 = 0#1 := by decide
  have hi : ∀ e : Fin 64, IntOp.cmpi .sge (BitVec.ofNat 32 (64 + e.val)) 64#32 = 1#1 := by decide
  rw [Fin.sum_univ_two_halves 64 64 rfl]
  simp [lo, hi, Scalar.select]

theorem evenHead_apply (x : FVec Ideal S128x128 .bf16) (k : FVec Ideal S640x128 .bf16) (v : FVec Ideal S64x640 .bf16)
    (tab : Vec Ideal S1x1x640x128 .f32) (d : Fin 64) (t : Fin 128) :
    evenHead x k v tab (ix2 d t) = mean (fun j => v (ix2 d j))
      (fun j => (∑ e : Fin 64, k (ix2 j ⟨e.val, by omega⟩) * x (ix2 t ⟨e.val, by omega⟩))
        + tab (ix4 0 0 j t) * Named.named (F := Ideal) κ "log2e" (φ := .f32) 0x3FB8AA3B#32) := by
  rw [evenHead, headOut_apply]
  congr 1
  funext j
  pointwise [scores, products, twoHeads]
  rw [sum_low (fun l => k (ix2 j l) * x (ix2 t l))]

theorem oddHead_apply (x : FVec Ideal S128x128 .bf16) (k : FVec Ideal S640x128 .bf16) (v : FVec Ideal S64x640 .bf16)
    (tab : Vec Ideal S1x1x640x128 .f32) (d : Fin 64) (t : Fin 128) :
    oddHead x k v tab (ix2 d t) = mean (fun j => v (ix2 d j))
      (fun j => (∑ e : Fin 64, k (ix2 j ⟨64 + e.val, by omega⟩) * x (ix2 t ⟨64 + e.val, by omega⟩))
        + tab (ix4 0 0 j t) * Named.named (F := Ideal) κ "log2e" (φ := .f32) 0x3FB8AA3B#32) := by
  rw [oddHead, headOut_apply]
  congr 1
  funext j
  pointwise [scores, products, twoHeads]
  rw [sum_high (fun l => k (ix2 j l) * x (ix2 t l))]

/-- Column `64 h + d` of row `r` is head `h`'s. -/
theorem rowsOut_apply (q : Vec Ideal S1x128x512 .bf16) (k : Vec Ideal S1x640x512 .bf16) (v : Vec Ideal S512x640 .bf16)
    (tab : Fin 8 → Vec Ideal S1x1x640x128 .f32) (r : Fin 128) (h : Fin 8) (d : Fin 64) :
    rowsOut q k v tab (ix3 0 r ⟨64 * h.val + d.val, by omega⟩)
      = mean (fun j => v (ix2 ⟨64 * h.val + d.val, by omega⟩ j))
          (fun j => score (fun e => q (ix3 0 r ⟨64 * h.val + e.val, by omega⟩))
            (fun e => k (ix3 0 j ⟨64 * h.val + e.val, by omega⟩)) (tab h (ix4 0 0 j r))) := by
  pointwise [rowsOut]
  obtain ⟨d, hd⟩ := d
  fin_vals h with hh
  all_goals obtain rfl : h = ⟨_, by decide⟩ := Fin.ext hh
  all_goals dsimp only
  · rw [dif_pos (by omega), evenHead_apply]
    refine congr (congrArg mean (funext fun j => ?_)) (funext fun j => ?_)
    · pointwise [values0]
    · refine congrArg₂ (· + ·) (Finset.sum_congr rfl fun e _ => ?_) rfl
      pointwise [queries0, keys0, scaled]
  · rw [dif_neg (by omega), dif_pos (by omega), oddHead_apply]
    refine congr (congrArg mean (funext fun j => ?_)) (funext fun j => ?_)
    · pointwise [values1]
    · refine congrArg₂ (· + ·) (Finset.sum_congr rfl fun e _ => ?_) rfl
      pointwise [queries0, keys0, scaled]
  · rw [dif_neg (by omega), dif_neg (by omega), dif_pos (by omega), evenHead_apply]
    refine congr (congrArg mean (funext fun j => ?_)) (funext fun j => ?_)
    · pointwise [values2]
      exact congrArg (fun i => v (ix2 i j)) (Fin.ext (by dsimp only <;> omega))
    · refine congrArg₂ (· + ·) (Finset.sum_congr rfl fun e _ => ?_) rfl
      pointwise [queries1, keys1, scaled]
  · rw [dif_neg (by omega), dif_neg (by omega), dif_neg (by omega), dif_pos (by omega), oddHead_apply]
    refine congr (congrArg mean (funext fun j => ?_)) (funext fun j => ?_)
    · pointwise [values3]
      exact congrArg (fun i => v (ix2 i j)) (Fin.ext (by dsimp only <;> omega))
    · refine congrArg₂ (· + ·) (Finset.sum_congr rfl fun e _ => ?_) rfl
      pointwise [queries1, keys1, scaled]
      refine congrArg₂ (fun a b => k (ix3 0 j a) * (q (ix3 0 r b) * _)) (Fin.ext ?_) (Fin.ext ?_) <;> dsimp only <;> omega
  · rw [dif_neg (by omega), dif_neg (by omega), dif_neg (by omega), dif_neg (by omega), dif_pos (by omega), evenHead_apply]
    refine congr (congrArg mean (funext fun j => ?_)) (funext fun j => ?_)
    · pointwise [values4]
      exact congrArg (fun i => v (ix2 i j)) (Fin.ext (by dsimp only <;> omega))
    · refine congrArg₂ (· + ·) (Finset.sum_congr rfl fun e _ => ?_) rfl
      pointwise [queries2, keys2, scaled]
  · rw [dif_neg (by omega), dif_neg (by omega), dif_neg (by omega), dif_neg (by omega), dif_neg (by omega), dif_pos (by omega), oddHead_apply]
    refine congr (congrArg mean (funext fun j => ?_)) (funext fun j => ?_)
    · pointwise [values5]
      exact congrArg (fun i => v (ix2 i j)) (Fin.ext (by dsimp only <;> omega))
    · refine congrArg₂ (· + ·) (Finset.sum_congr rfl fun e _ => ?_) rfl
      pointwise [queries2, keys2, scaled]
      refine congrArg₂ (fun a b => k (ix3 0 j a) * (q (ix3 0 r b) * _)) (Fin.ext ?_) (Fin.ext ?_) <;> dsimp only <;> omega
  · rw [dif_neg (by omega), dif_neg (by omega), dif_neg (by omega), dif_neg (by omega), dif_neg (by omega), dif_neg (by omega), dif_pos (by omega), evenHead_apply]
    refine congr (congrArg mean (funext fun j => ?_)) (funext fun j => ?_)
    · pointwise [values6]
      exact congrArg (fun i => v (ix2 i j)) (Fin.ext (by dsimp only <;> omega))
    · refine congrArg₂ (· + ·) (Finset.sum_congr rfl fun e _ => ?_) rfl
      pointwise [queries3, keys3, scaled]
  · rw [dif_neg (by omega), dif_neg (by omega), dif_neg (by omega), dif_neg (by omega), dif_neg (by omega), dif_neg (by omega), dif_neg (by omega), oddHead_apply]
    refine congr (congrArg mean (funext fun j => ?_)) (funext fun j => ?_)
    · pointwise [values7]
      exact congrArg (fun i => v (ix2 i j)) (Fin.ext (by dsimp only <;> omega))
    · refine congrArg₂ (· + ·) (Finset.sum_congr rfl fun e _ => ?_) rfl
      pointwise [queries3, keys3, scaled]
      refine congrArg₂ (fun a b => k (ix3 0 j a) * (q (ix3 0 r b) * _)) (Fin.ext ?_) (Fin.ext ?_) <;> dsimp only <;> omega

end Cert.Kernel4Ideal.Rows

end
-- ==== Proof.NearRef.lean ====
/- The reference's neighbourhood attention, element by element. -/
module

public import proofs.«01_k».proof.Proof.Gen.Reference4Ideal.Read
public import proofs.«01_k».proof.Proof.ProjMath
public import Idealize.ShloMosaic.Lib.Pointwise

@[expose] public section

noncomputable section

namespace Cert.Reference4Ideal.Rows

open Cert.Reference4Ideal Cert.Reference4Ideal.Read Idealize.ShloMosaic Idealize.ShloMosaic.TcCoe Idealize.SL.Sem

set_option maxRecDepth 16384

/-- A word kept between `0` and `top`. -/
def clipped (w top : BitVec 32) : BitVec 32 := IntOp.minsi top (IntOp.maxsi 0#32 w)

/-- The grid row of position `p`. -/
def row (p : Nat) : BitVec 32 := BitVec.ofNat 32 (p / 64)

/-- The grid column of position `p`. -/
def col (p : Nat) : BitVec 32 := BitVec.ofNat 32 (p % 64)

/-- The row of key `k` in the window of query `q`. -/
def windowRow (q k : Nat) : BitVec 32 := IntOp.subi (row k) (clipped (IntOp.subi (row q) 4#32) 120#32)

/-- The column of key `k` in the window of query `q`. -/
def windowCol (q k : Nat) : BitVec 32 := IntOp.subi (col k) (clipped (IntOp.subi (col q) 8#32) 48#32)

/-- Whether key `k` lies in the window of query `q`. -/
def inside (q k : Nat) : BitVec 1 :=
  IntOp.andi (IntOp.andi (IntOp.andi (IntOp.cmpi .sge (windowRow q k) 0#32) (IntOp.cmpi .slt (windowRow q k) 8#32))
    (IntOp.cmpi .sge (windowCol q k) 0#32)) (IntOp.cmpi .slt (windowCol q k) 16#32)

/-- An index counted from the end if negative. -/
def wrapped (w n : BitVec 32) : BitVec 32 := Scalar.select (IntOp.cmpi .slt w 0#32) (IntOp.addi w n) w

/-- The bias row of a query and a key. -/
def biasRow (q k : Nat) : BitVec 32 := wrapped (clipped (IntOp.addi (IntOp.subi (row k) (row q)) 7#32) 14#32) 15#32

/-- The bias column of a query and a key. -/
def biasCol (q k : Nat) : BitVec 32 := wrapped (clipped (IntOp.addi (IntOp.subi (col k) (col q)) 15#32) 30#32) 31#32

theorem row_apply (p : Fin 8192) : val_main_v7 (F := Ideal) (ix1 p) = row p.val := by
  pointwise [val_main_v7, val_main_v6]
  rfl

theorem col_apply (p : Fin 8192) : val_main_v9 (F := Ideal) (ix1 p) = col p.val := by
  pointwise [val_main_v9, val_main_v8]
  rfl

theorem start_row_apply (p : Fin 8192) : val_main_v12 (F := Ideal) (ix1 p) = clipped (IntOp.subi (row p.val) 4#32) 120#32 := by
  rw [← row_apply]
  pointwise [val_main_v12, val_main_v11, val_main_v10, val_main_c, val_main_c_0, val_main_c_1, val_main_call0_v0, val_main_call0_v1,
    val_main_call0_v2, val_main_call0_v3, val_main_call0_v4]
  rfl

theorem start_col_apply (p : Fin 8192) : val_main_v15 (F := Ideal) (ix1 p) = clipped (IntOp.subi (col p.val) 8#32) 48#32 := by
  rw [← col_apply]
  pointwise [val_main_v15, val_main_v14, val_main_v13, val_main_c_2, val_main_c_3, val_main_c_4, val_main_call1_v0, val_main_call1_v1,
    val_main_call1_v2, val_main_call1_v3, val_main_call1_v4]
  rfl

theorem window_row_apply (q k : Fin 8192) : val_main_v20 (F := Ideal) (ix2 q k) = windowRow q.val k.val := by
  rw [windowRow, ← row_apply, ← start_row_apply]
  pointwise [val_main_v20, val_main_v19, val_main_v18, val_main_v17, val_main_v16]

theorem window_col_apply (q k : Fin 8192) : val_main_v25 (F := Ideal) (ix2 q k) = windowCol q.val k.val := by
  rw [windowCol, ← col_apply, ← start_col_apply]
  pointwise [val_main_v25, val_main_v24, val_main_v23, val_main_v22, val_main_v21]

theorem inside_apply (q k : Fin 8192) : val_main_v36 (F := Ideal) (ix2 q k) = inside q.val k.val := by
  rw [inside, ← window_row_apply, ← window_col_apply]
  pointwise [val_main_v36, val_main_v35, val_main_v34, val_main_v33, val_main_v32, val_main_v31, val_main_v30, val_main_v29,
    val_main_v28, val_main_v27, val_main_v26, val_main_c_5, val_main_c_6, val_main_c_7, val_main_c_8]

theorem bias_row_apply (q k : Fin 8192) : val_main_v57 (F := Ideal) (ix2 q k) = biasRow q.val k.val := by
  rw [biasRow, ← row_apply, ← row_apply]
  pointwise [val_main_v57, val_main_v56, val_main_v55, val_main_v54, val_main_v53, val_main_v44, val_main_v43, val_main_v42, val_main_v41,
    val_main_v40, val_main_v39, val_main_v38, val_main_v37, val_main_c_9, val_main_c_10, val_main_c_11, val_main_c_15, val_main_c_16,
    val_main_call2_v0, val_main_call2_v1, val_main_call2_v2, val_main_call2_v3, val_main_call2_v4]
  rfl

theorem bias_col_apply (q k : Fin 8192) : val_main_v62 (F := Ideal) (ix2 q k) = biasCol q.val k.val := by
  rw [biasCol, ← col_apply, ← col_apply]
  pointwise [val_main_v62, val_main_v61, val_main_v60, val_main_v59, val_main_v58, val_main_v52, val_main_v51, val_main_v50, val_main_v49,
    val_main_v48, val_main_v47, val_main_v46, val_main_v45, val_main_c_12, val_main_c_13, val_main_c_14, val_main_c_17, val_main_c_18,
    val_main_call3_v0, val_main_call3_v1, val_main_call3_v2, val_main_call3_v3, val_main_call3_v4]
  rfl

theorem index_row_apply (q k : Fin 8192) : val_main_v65 (F := Ideal) (ix3 q k 0) = biasRow q.val k.val := by
  rw [← bias_row_apply]
  pointwise [val_main_v65, val_main_v64, val_main_v63]

theorem index_col_apply (q k : Fin 8192) : val_main_v65 (F := Ideal) (ix3 q k 1) = biasCol q.val k.val := by
  rw [← bias_col_apply]
  pointwise [val_main_v65, val_main_v64, val_main_v63]

/-- The biases read at pairs of indices: element `(h, q, k)` is the bias of head `h` at the pair of `(q, k)`. -/
theorem gather_apply (x : FVec Ideal S8x15x31 .f32) (idx : IVec S8192x8192x2 32) (h : Fin 8) (q k : Fin 8192) :
    Host.gather gather_S8x15x31_S8192x8192x2_S8x8192x8192_0_12_n_n_12_2_811 x idx (ix3 h q k)
      = x (ix3 h ⟨min (idx (ix3 q k 0)).toInt.toNat 14, by omega⟩ ⟨min (idx (ix3 q k 1)).toInt.toNat 30, by omega⟩) := by
  unfold Host.gather
  congr 1
  funext a
  refine Fin.ext ?_
  show (gather_S8x15x31_S8192x8192x2_S8x8192x8192_0_12_n_n_12_2_811).start (ix3 h q k) idx a + (gather_S8x15x31_S8192x8192x2_S8x8192x8192_0_12_n_n_12_2_811).batchCoord (ix3 h q k) a
    + (gather_S8x15x31_S8192x8192x2_S8x8192x8192_0_12_n_n_12_2_811).offCoord (ix3 h q k) a = _
  have axis : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases axis with rfl | rfl | rfl
  · rw [GatherDims.batchCoord_eq_zero _ _ _ (by decide)]
    unfold GatherDims.start GatherDims.offCoord
    rw [dif_neg (by decide), dif_pos (by decide)]
    simp only [Nat.zero_add, Nat.add_zero]
    rfl
  · rw [GatherDims.batchCoord_eq_zero _ _ _ (by decide),
      GatherDims.offCoord_eq_zero _ _ _ (by decide)]
    simp only [Nat.add_zero]
    unfold GatherDims.start
    rw [dif_pos (by decide)]
    have e : (gather_S8x15x31_S8192x8192x2_S8x8192x8192_0_12_n_n_12_2_811).siIdx (ix3 h q k) ⟨0, by decide⟩ = ix3 q k 0 := by
      funext b; refine Fin.ext ?_
      match b with
      | ⟨0, _⟩ => rfl
      | ⟨1, _⟩ => rfl
      | ⟨2, _⟩ => rfl
    exact congrArg (fun i => min (idx i).toInt.toNat 14) e
  · rw [GatherDims.batchCoord_eq_zero _ _ _ (by decide),
      GatherDims.offCoord_eq_zero _ _ _ (by decide)]
    simp only [Nat.add_zero]
    unfold GatherDims.start
    rw [dif_pos (by decide)]
    have e : (gather_S8x15x31_S8192x8192x2_S8x8192x8192_0_12_n_n_12_2_811).siIdx (ix3 h q k) ⟨1, by decide⟩ = ix3 q k 1 := by
      funext b; refine Fin.ext ?_
      match b with
      | ⟨0, _⟩ => rfl
      | ⟨1, _⟩ => rfl
      | ⟨2, _⟩ => rfl
    exact congrArg (fun i => min (idx i).toInt.toNat 30) e

variable (x : FVec Ideal S8x8192x6912 .f32) (y : FVec Ideal S8x15x31 .f32) (b h : Fin 8) (q : Fin 8192)

/-- The relative position bias of a query and a key. -/
def bias (q k : Nat) : EReal :=
  y (ix3 h ⟨min (biasRow q k).toInt.toNat 14, by omega⟩ ⟨min (biasCol q k).toInt.toNat 30, by omega⟩)

theorem bias_apply (k : Fin 8192) : val_main_v66 (F := Ideal) y (ix3 h q k) = bias y h q.val k.val := by
  unfold val_main_v66
  rw [gather_apply]
  simp only [index_row_apply, index_col_apply]
  rfl

theorem dot_apply (k : Fin 8192) : val_main_v67 (F := Ideal) x (ix4 b h q k)
    = ∑ e : Fin 64, x (ix3 b q ⟨64 * h.val + e.val, by omega⟩) * x (ix3 b k ⟨512 + (64 * h.val + e.val), by omega⟩) := by
  pointwise [val_main_v67, val_main_v0, val_main_v1, val_main_v2, val_main_v3]
  simp only [Nat.mul_comm h.val 64]

theorem masked_apply (k : Fin 8192) : val_main_v73 (F := Ideal) x y (ix4 b h q k)
    = Scalar.select (val_main_v36 (F := Ideal) (ix2 q k))
        (val_main_v67 (F := Ideal) x (ix4 b h q k) * Ideal.ofBits .f32 0x3E000000#32 + val_main_v66 (F := Ideal) y (ix3 h q k))
        (Ideal.ofBits .f32 0xFF800000#32) := by
  pointwise [val_main_v73, val_main_v72, val_main_v71, val_main_v70, val_main_v69, val_main_v68, val_main_cst, val_main_cst_19,
    val_main_call4_v1, val_main_call4_v2, val_main_call4_v0]
  rfl

theorem max_apply : val_main_v74 (F := Ideal) x y (ix3 b h q)
    = Finset.fold max (Ideal.ofBits .f32 0xFF800000#32) (fun k => val_main_v73 (F := Ideal) x y (ix4 b h q k)) Finset.univ := by
  pointwise [val_main_v74, val_main_cst_20]

theorem top_apply : val_main_v76 (F := Ideal) x y (ix3 b h q)
    = max (Ideal.ofBits .f32 0xFF800000#32) (val_main_v74 (F := Ideal) x y (ix3 b h q)) := by
  have e : val_main_v75 (F := Ideal) (ix3 b h q) = Ideal.ofBits .f32 0xFF800000#32 := by
    pointwise [val_main_v75, val_main_cst_21]
  rw [val_main_v76_apply, Ideal.maximumf_def, e]

theorem weight_apply (k : Fin 8192) : val_main_v80 (F := Ideal) x y (ix4 b h q k)
    = Ideal.exp (val_main_v73 (F := Ideal) x y (ix4 b h q k) - val_main_v76 (F := Ideal) x y (ix3 b h q)) := by
  pointwise [val_main_v80, val_main_v79, val_main_v78, val_main_v77]

theorem sum_apply : val_main_v81 (F := Ideal) x y (ix3 b h q) = ∑ k : Fin 8192, val_main_v80 (F := Ideal) x y (ix4 b h q k) := by
  pointwise [val_main_v81, val_main_cst_22]

theorem share_apply (k : Fin 8192) : val_main_v84 (F := Ideal) x y (ix4 b h q k)
    = Ideal.div (val_main_v80 (F := Ideal) x y (ix4 b h q k)) (val_main_v81 (F := Ideal) x y (ix3 b h q)) := by
  pointwise [val_main_v84, val_main_v83, val_main_v82]

theorem result_apply (d : Fin 64) : val_main_v88 (F := Ideal) x y (ix3 b q ⟨64 * h.val + d.val, by omega⟩)
    = ∑ k : Fin 8192, x (ix3 b k ⟨1024 + (64 * h.val + d.val), by omega⟩) * val_main_v84 (F := Ideal) x y (ix4 b h q k) := by
  pointwise [val_main_v88, val_main_v87, val_main_v86, val_main_v85, val_main_v5, val_main_v4]
  simp only [Nat.mul_comm h.val 64]

/-- The score of key `k` for query `q` of a head with queries `u` and keys `w`. -/
def score (u : Fin 64 → EReal) (w : Fin 8192 → Fin 64 → EReal) (q k : Fin 8192) : EReal :=
  Scalar.select (inside q.val k.val)
    ((∑ e, u e * w k e) * Ideal.ofBits .f32 0x3E000000#32 + bias y h q.val k.val)
    (Ideal.ofBits .f32 0xFF800000#32)

/-- The greatest of the scores `z`. -/
def top (z : Fin 8192 → EReal) : EReal :=
  max (Ideal.ofBits .f32 0xFF800000#32) (Finset.fold max (Ideal.ofBits .f32 0xFF800000#32) z Finset.univ)

/-- The mean of `v` with the weights `exp z`. -/
def mean (v z : Fin 8192 → EReal) : EReal :=
  ∑ k, v k * Ideal.div (Ideal.exp (z k - top z)) (∑ k, Ideal.exp (z k - top z))

/-- One element of the reference's result. -/
theorem element (d : Fin 64) : val_main_v88 (F := Ideal) x y (ix3 b q ⟨64 * h.val + d.val, by omega⟩)
    = mean (fun k => x (ix3 b k ⟨1024 + (64 * h.val + d.val), by omega⟩))
        (fun k => score y h (fun e => x (ix3 b q ⟨64 * h.val + e.val, by omega⟩))
          (fun k e => x (ix3 b k ⟨512 + (64 * h.val + e.val), by omega⟩)) q k) := by
  simp only [result_apply, share_apply, sum_apply, weight_apply, top_apply, max_apply, masked_apply, inside_apply,
    bias_apply, dot_apply]
  rfl

end Cert.Reference4Ideal.Rows

end
-- ==== Proof.NearWords.lean ====
/- The words of the reference's neighbourhood attention: which keys a query sees, and where their biases lie. -/
module

public import proofs.«01_k».proof.Proof.NearRef

@[expose] public section

noncomputable section

namespace Cert.Reference4Ideal.Rows

open Idealize.ShloMosaic

/-- Whether key `k` lies in the window of query `q`: eight grid rows of sixteen columns, moved inside the grid at its edges. -/
def Near (q k : Nat) : Prop :=
  (min (q / 64 - 4) 120 ≤ k / 64 ∧ k / 64 < min (q / 64 - 4) 120 + 8) ∧ min (q % 64 - 8) 48 ≤ k % 64 ∧ k % 64 < min (q % 64 - 8) 48 + 16

instance (q k : Nat) : Decidable (Near q k) := by unfold Near; infer_instance

theorem rows_inside : ∀ a b : Fin 128,
    IntOp.andi (IntOp.cmpi .sge (IntOp.subi (BitVec.ofNat 32 b.val) (clipped (IntOp.subi (BitVec.ofNat 32 a.val) 4#32) 120#32)) 0#32)
      (IntOp.cmpi .slt (IntOp.subi (BitVec.ofNat 32 b.val) (clipped (IntOp.subi (BitVec.ofNat 32 a.val) 4#32) 120#32)) 8#32)
      = if min (a.val - 4) 120 ≤ b.val ∧ b.val < min (a.val - 4) 120 + 8 then 1#1 else 0#1 := by
  decide +kernel

theorem cols_inside : ∀ a b : Fin 64,
    IntOp.andi (IntOp.cmpi .sge (IntOp.subi (BitVec.ofNat 32 b.val) (clipped (IntOp.subi (BitVec.ofNat 32 a.val) 8#32) 48#32)) 0#32)
      (IntOp.cmpi .slt (IntOp.subi (BitVec.ofNat 32 b.val) (clipped (IntOp.subi (BitVec.ofNat 32 a.val) 8#32) 48#32)) 16#32)
      = if min (a.val - 8) 48 ≤ b.val ∧ b.val < min (a.val - 8) 48 + 16 then 1#1 else 0#1 := by
  decide +kernel

theorem rows_bias : ∀ a b : Fin 128, (min (a.val - 4) 120 ≤ b.val ∧ b.val < min (a.val - 4) 120 + 8) →
    min (wrapped (clipped (IntOp.addi (IntOp.subi (BitVec.ofNat 32 b.val) (BitVec.ofNat 32 a.val)) 7#32) 14#32) 15#32).toInt.toNat 14
      = b.val + 7 - a.val := by
  decide +kernel

theorem cols_bias : ∀ a b : Fin 64, (min (a.val - 8) 48 ≤ b.val ∧ b.val < min (a.val - 8) 48 + 16) →
    min (wrapped (clipped (IntOp.addi (IntOp.subi (BitVec.ofNat 32 b.val) (BitVec.ofNat 32 a.val)) 15#32) 30#32) 31#32).toInt.toNat 30
      = b.val + 15 - a.val := by
  decide +kernel

theorem inside_eq (q k : Fin 8192) : inside q.val k.val = if Near q.val k.val then 1#1 else 0#1 := by
  have hr := rows_inside ⟨q.val / 64, by omega⟩ ⟨k.val / 64, by omega⟩
  have hc := cols_inside ⟨q.val % 64, by omega⟩ ⟨k.val % 64, by omega⟩
  dsimp only at hr hc
  have e : inside q.val k.val = IntOp.andi
      (IntOp.andi (IntOp.cmpi .sge (windowRow q.val k.val) 0#32) (IntOp.cmpi .slt (windowRow q.val k.val) 8#32))
      (IntOp.andi (IntOp.cmpi .sge (windowCol q.val k.val) 0#32) (IntOp.cmpi .slt (windowCol q.val k.val) 16#32)) :=
    BitVec.and_assoc _ _ _
  rw [e, windowRow, windowCol, row, row, col, col, hr, hc]
  by_cases h1 : min (q.val / 64 - 4) 120 ≤ k.val / 64 ∧ k.val / 64 < min (q.val / 64 - 4) 120 + 8
  · by_cases h2 : min (q.val % 64 - 8) 48 ≤ k.val % 64 ∧ k.val % 64 < min (q.val % 64 - 8) 48 + 16
    · rw [if_pos h1, if_pos h2, if_pos (show Near q.val k.val from ⟨h1, h2⟩)]; rfl
    · rw [if_pos h1, if_neg h2, if_neg (fun h : Near q.val k.val => h2 h.2)]; rfl
  · rw [if_neg h1, if_neg (fun h : Near q.val k.val => h1 h.1)]
    exact BitVec.zero_and

/-- The bias of a key in the window is read at the relative position. -/
theorem bias_near (y : FVec Ideal S8x15x31 .f32) (h : Fin 8) (q k : Fin 8192) (hn : Near q.val k.val) (r : Fin 15) (n : Fin 31)
    (hr : r.val + q.val / 64 = k.val / 64 + 7) (hc : n.val + q.val % 64 = k.val % 64 + 15) :
    bias y h q.val k.val = y (ix3 h r n) := by
  have er := rows_bias ⟨q.val / 64, by omega⟩ ⟨k.val / 64, by omega⟩ hn.1
  have ec := cols_bias ⟨q.val % 64, by omega⟩ ⟨k.val % 64, by omega⟩ hn.2
  dsimp only at er ec
  unfold bias
  refine congrArg₂ (fun i j => y (ix3 h i j)) (Fin.ext ?_) (Fin.ext ?_)
  · exact er.trans (by omega)
  · exact ec.trans (by omega)

theorem self_near (q : Fin 8192) : Near q.val q.val := by
  unfold Near
  omega

end Cert.Reference4Ideal.Rows

end
-- ==== Proof.NearMean.lean ====
/- A mean over a window that holds every finite score: by powers of two over the window, and by exponentials over all keys. -/
module

public import proofs.«01_k».proof.Proof.Mean

@[expose] public section

noncomputable section

namespace Cert.Mean

open Idealize.ShloMosaic

variable {n w : Nat} (pos : Fin w → Fin n)

/-- The greatest score of the window is the greatest of all. -/
theorem greatest_window (z : Fin n → EReal) (out : ∀ k, k ∉ Set.range pos → z k = ⊥) :
    Finset.fold max ⊥ (fun x => scaled (z (pos x))) Finset.univ = scaled (Finset.fold max ⊥ z Finset.univ) := by
  have h := top_window pos z out ⊥
  rwa [scaled_bot, max_eq_left bot_le, max_eq_left bot_le] at h

/-- The window's mean by powers of two is the mean by exponentials over all keys. -/
theorem mean_window_finite (inj : Function.Injective pos) (v z : Fin n → EReal) (hz : ∀ k, z k = ⊥ ∨ ∃ r : ℝ, z k = (r : EReal))
    (out : ∀ k, k ∉ Set.range pos → z k = ⊥) (μ ν : EReal) (hμ : μ = Finset.fold max ⊥ z Finset.univ)
    (k₀ : Fin n) (hk : ∃ r : ℝ, z k₀ = (r : EReal)) (hν : ν = scaled μ) :
    Ideal.div (∑ x, v (pos x) * Ideal.exp2 (scaled (z (pos x)) - ν)) (∑ x, Ideal.exp2 (scaled (z (pos x)) - ν))
      = ∑ k, v k * Ideal.div (Ideal.exp (z k - μ)) (∑ k, Ideal.exp (z k - μ)) := by
  have hμ' : ∃ m : ℝ, μ = (m : EReal) := by
    have h1 : μ ≠ ⊥ := by
      rw [hμ]
      obtain ⟨r, hr⟩ := hk
      refine ne_of_gt (lt_of_lt_of_le (EReal.bot_lt_coe r) ?_)
      rw [← hr]
      exact Finset.le_sup (f := z) (Finset.mem_univ k₀)
    have h2 : μ ≠ ⊤ := by
      rw [hμ]
      refine ne_of_lt ?_
      show Finset.univ.sup z < ⊤
      rw [Finset.sup_lt_iff bot_lt_top]
      intro k _
      rcases hz k with h | ⟨r, h⟩ <;> rw [h]
      · exact bot_lt_top
      · exact EReal.coe_lt_top r
    exact ⟨μ.toReal, (EReal.coe_toReal h2 h1).symm⟩
  obtain ⟨m, rfl⟩ := hμ'
  subst hν
  have real : ∀ r : ℝ, Ideal.exp2 (scaled (r : EReal) - scaled (m : EReal)) = ((Real.exp (r - m) : ℝ) : EReal) := by
    intro r
    rw [scaled_coe, scaled_coe, ← EReal.coe_sub, ← sub_mul, exp2_scaled]
    rfl
  have weight : ∀ k, Ideal.exp2 (scaled (z k) - scaled (m : EReal)) = Ideal.exp (z k - (m : EReal)) := by
    intro k
    rcases hz k with h | ⟨r, h⟩ <;> rw [h]
    · rw [scaled_bot, scaled_coe, EReal.bot_sub, EReal.bot_sub]; rfl
    · rw [real]; rfl
  have wr : ∀ k, ∃ e : ℝ, 0 ≤ e ∧ Ideal.exp (z k - (m : EReal)) = (e : EReal) := by
    intro k
    rcases hz k with h | ⟨r, h⟩ <;> rw [h]
    · exact ⟨0, le_refl _, by rw [EReal.bot_sub]; rfl⟩
    · exact ⟨Real.exp (r - m), (Real.exp_pos _).le, rfl⟩
  have zero : ∀ k, k ∉ Set.range pos → Ideal.exp (z k - (m : EReal)) = 0 := by
    intro k h
    rw [out k h, EReal.bot_sub]; rfl
  choose e he0 he using wr
  have esum : ∀ f : Fin n → EReal, (∀ k, k ∉ Set.range pos → f k = 0) → ∑ x, f (pos x) = ∑ k, f k := fun f hf =>
    Fintype.sum_of_injective pos inj _ _ hf (fun _ => rfl)
  simp only [weight]
  rw [esum (fun k => v k * Ideal.exp (z k - (m : EReal))) (fun k h => by rw [zero k h, mul_zero]),
    esum (fun k => Ideal.exp (z k - (m : EReal))) zero]
  have total : ∑ k, Ideal.exp (z k - (m : EReal)) = ((∑ k, e k : ℝ) : EReal) := by
    simp only [he]
    rw [coe_sum]
  rw [total]
  have pos' : 0 < ∑ k, e k := by
    refine Finset.sum_pos' (fun k _ => he0 k) ⟨k₀, Finset.mem_univ _, ?_⟩
    obtain ⟨r, hr⟩ := hk
    have h : Ideal.exp (z k₀ - (m : EReal)) = ((Real.exp (r - m) : ℝ) : EReal) := by rw [hr]; rfl
    rw [he k₀] at h
    rw [EReal.coe_eq_coe_iff.mp h]
    exact Real.exp_pos _
  generalize ∑ k, e k = δ at pos'
  have div : ∀ a : EReal, Ideal.div a (δ : EReal) = a * ((δ⁻¹ : ℝ) : EReal) := by
    intro a
    rw [Ideal.div, if_neg (by exact_mod_cast pos'.ne'), EReal.coe_inv]
  simp only [div]
  rw [sum_mul _ _ _ (inv_pos.mpr pos').le]
  exact Finset.sum_congr rfl fun k _ => mul_assoc _ _ _

end Cert.Mean

end
-- ==== Proof.NearRow.lean ====
/- The neighbourhood's two weighted means are equal: over a window by powers of two, over all keys by exponentials. -/
module

public import proofs.«01_k».proof.Proof.Row
public import proofs.«01_k».proof.Proof.NearRows
public import proofs.«01_k».proof.Proof.NearWords
public import proofs.«01_k».proof.Proof.NearMean

@[expose] public section

noncomputable section

namespace Cert.NearRow

open Idealize.ShloMosaic Cert.Words Cert.Mean Cert.Reference4Ideal.Rows

theorem log2e_eq : Named.named (F := Ideal) Cert.Kernel4Ideal.κ "log2e" (φ := .f32) 0x3FB8AA3B#32 = (((Real.log 2)⁻¹ : ℝ) : EReal) := rfl

theorem qscale_eq : Named.named (F := Ideal) Cert.Kernel4Ideal.κ "qscale" (φ := .f32) 0x3E38AA3B#32
    = ((8⁻¹ * (Real.log 2)⁻¹ : ℝ) : EReal) := rfl

variable (y : FVec Ideal Reference4Ideal.S8x15x31 .f32) (h : Fin 8) (u : Fin 64 → ℝ) (w : Fin 8192 → Fin 64 → ℝ) (β : Fin 8192 → ℝ) (q : Fin 8192)

theorem score_reference (k : Fin 8192) (hβ : bias y h q.val k.val = ((β k : ℝ) : EReal)) :
    score y h (fun e => (u e : EReal)) (fun k e => (w k e : EReal)) q k
      = if Near q.val k.val then (((∑ e, u e * w k e) * 8⁻¹ + β k : ℝ) : EReal) else ⊥ := by
  unfold score Scalar.select
  rw [bits_ninf, bits_eighth, Row.dot_real, inside_eq, hβ]
  by_cases hn : Near q.val k.val
  · rw [if_pos hn, if_pos hn, if_pos (show (1#1 : BitVec 1) = 1 from rfl), ← EReal.coe_mul, ← EReal.coe_add]
  · rw [if_neg hn, if_neg hn, if_neg (show ¬(0#1 : BitVec 1) = 1 by decide)]

/-- The kernel's score is the reference's, scaled. -/
theorem score_kernel (k : Fin 8192) (hβ : bias y h q.val k.val = ((β k : ℝ) : EReal)) :
    Kernel4Ideal.Rows.score (fun e => (u e : EReal)) (fun e => (w k e : EReal))
        (if Near q.val k.val then bias y h q.val k.val else Ideal.ofBits .f32 0xFF800000#32)
      = scaled (score y h (fun e => (u e : EReal)) (fun k e => (w k e : EReal)) q k) := by
  rw [score_reference y h u w β q k hβ]
  unfold Kernel4Ideal.Rows.score
  rw [bits_ninf, log2e_eq, qscale_eq, hβ]
  have dot : ∑ e, ((w k e : ℝ) : EReal) * (((u e : ℝ) : EReal) * ((8⁻¹ * (Real.log 2)⁻¹ : ℝ) : EReal))
      = ((((∑ e, u e * w k e) * 8⁻¹) * (Real.log 2)⁻¹ : ℝ) : EReal) := by
    rw [mul_assoc, Finset.sum_mul, ← coe_sum]
    refine Finset.sum_congr rfl fun e _ => ?_
    rw [← EReal.coe_mul, ← EReal.coe_mul, ← mul_assoc, mul_comm (w k e) (u e)]
  rw [dot]
  by_cases hn : Near q.val k.val
  · rw [if_pos hn, if_pos hn, scaled_coe, ← EReal.coe_mul, ← EReal.coe_add, add_mul]
  · rw [if_neg hn, if_neg hn, scaled_bot, EReal.bot_mul_coe_of_pos log_pos, EReal.add_bot]

/-- One row: the kernel's mean over its window is the reference's mean over all keys. `pos x` is the key at place `x` of the
    window, `q` the query's position. -/
theorem row_eq (pos : Fin 640 → Fin 8192) (first : Nat) (q : Fin 8192) (hpos : ∀ x, (pos x).val = first + x.val)
    (cover : ∀ k : Fin 8192, Near q.val k.val → first ≤ k.val ∧ k.val < first + 640)
    (y : FVec Ideal Reference4Ideal.S8x15x31 .f32) (h : Fin 8)
    (u : Fin 64 → EReal) (w : Fin 8192 → Fin 64 → EReal) (v : Fin 8192 → EReal)
    (hu : ∀ e, ∃ r : ℝ, u e = r) (hw : ∀ k e, ∃ r : ℝ, w k e = r) (hy : ∀ i, ∃ r : ℝ, y i = r) :
    Kernel4Ideal.Rows.mean (fun x => v (pos x))
        (fun x => Kernel4Ideal.Rows.score u (w (pos x))
          (if Near q.val (pos x).val then bias y h q.val (pos x).val else Ideal.ofBits .f32 0xFF800000#32))
      = mean v (fun k => score y h u w q k) := by
  choose u' hu using hu
  choose w' hw using hw
  have hb : ∀ k : Fin 8192, ∃ r : ℝ, bias y h q.val k.val = (r : EReal) := fun k => hy _
  choose β hβ using hb
  obtain rfl : u = fun e => ((u' e : ℝ) : EReal) := funext hu
  obtain rfl : w = fun k e => ((w' k e : ℝ) : EReal) := funext fun k => funext (hw k)
  have inj : Function.Injective pos := fun x y h => Fin.ext (by have := hpos x; have := hpos y; rw [h] at *; omega)
  have out : ∀ k, k ∉ Set.range pos → score y h (fun e => ((u' e : ℝ) : EReal)) (fun k e => ((w' k e : ℝ) : EReal)) q k = ⊥ := by
    intro k hk
    rw [score_reference y h u' w' β q k (hβ k)]
    refine if_neg fun hn => hk ?_
    obtain ⟨h3, h4⟩ := cover k hn
    exact ⟨⟨k.val - first, by omega⟩, Fin.ext (by rw [hpos]; dsimp only; omega)⟩
  have real : ∀ k, score y h (fun e => ((u' e : ℝ) : EReal)) (fun k e => ((w' k e : ℝ) : EReal)) q k = ⊥
      ∨ ∃ r : ℝ, score y h (fun e => ((u' e : ℝ) : EReal)) (fun k e => ((w' k e : ℝ) : EReal)) q k = r := by
    intro k
    rw [score_reference y h u' w' β q k (hβ k)]
    split
    · exact Or.inr ⟨_, rfl⟩
    · exact Or.inl rfl
  have self : ∃ r : ℝ, score y h (fun e => ((u' e : ℝ) : EReal)) (fun k e => ((w' k e : ℝ) : EReal)) q q = r := by
    rw [score_reference y h u' w' β q q (hβ q), if_pos (self_near q)]
    exact ⟨_, rfl⟩
  have scores : ∀ x, Kernel4Ideal.Rows.score (fun e => ((u' e : ℝ) : EReal)) (fun e => ((w' (pos x) e : ℝ) : EReal))
      (if Near q.val (pos x).val then bias y h q.val (pos x).val else Ideal.ofBits .f32 0xFF800000#32)
      = scaled (score y h (fun e => ((u' e : ℝ) : EReal)) (fun k e => ((w' k e : ℝ) : EReal)) q (pos x)) :=
    fun x => score_kernel y h u' w' β q (pos x) (hβ (pos x))
  simp only [scores]
  have key := mean_window_finite pos inj v _ real out _ _ rfl q self (greatest_window pos _ out)
  unfold Kernel4Ideal.Rows.mean Kernel4Ideal.Rows.top mean top
  rw [bits_ninf, max_eq_right bot_le]
  exact key

end Cert.NearRow

end
-- ==== Proof.NearResult.lean ====
/- The neighbourhood attention's result array is the reference's, where queries, keys and biases are finite. -/
module

public import proofs.«01_k».proof.Proof.NearArray
public import proofs.«01_k».proof.Proof.NearTable
public import proofs.«01_k».proof.Proof.NearRow
public import proofs.«01_k».proof.Proof.Gen.Kernel4Ideal.Value

@[expose] public section

noncomputable section

namespace Cert.Kernel4Ideal.Result

open Cert.Kernel4Ideal Cert.Kernel4Ideal.Gen Cert.Kernel4Ideal.Block Cert.Kernel4Ideal.Array Cert.Kernel4Ideal.Host
open Idealize.ShloMosaic Idealize.ShloMosaic.TcCoe Idealize.SL.Sem

set_option maxRecDepth 16384

/-- The queries, the keys and the biases are real numbers. -/
def RealArgs (x : FVec Ideal S8x8192x6912 .f32) (y : FVec Ideal S8x15x31 .f32) : Prop :=
  (∀ (b : Fin 8) (n : Fin 8192) (l : Fin 1024), ∃ r : ℝ, x (ix3 b n ⟨l.val, by omega⟩) = r) ∧ ∀ i, ∃ r : ℝ, y i = r

variable (m : (ℓ : Loc nD τ sig) → Buf (Elt Ideal) ℓ) (c : Dev nD) (t : Fin cfg0.N)

/-- The two arguments. -/
abbrev argX : FVec Ideal S8x8192x6912 .f32 := m ((c : Thread nD τ).loc main_arg0)
abbrev argY : FVec Ideal S8x15x31 .f32 := m ((c : Thread nD τ).loc main_arg1)

/-- Where a pair of query rows finds its windows in its ten key rows, and where its rows lie in them. -/
theorem pair_places : ∀ (p : Fin 64) (j : Fin 2),
    offset ⟨variant p.val, variant_lt _ p.isLt⟩ j + min (2 * p.val - 4) 118 = min (2 * p.val + j.val - 4) 120
      ∧ (place ⟨variant p.val, variant_lt _ p.isLt⟩ j).val + min (2 * p.val + j.val - 4) 120 = 2 * p.val + j.val := by
  decide +kernel

/-- A table's element is the bias of its query and key, minus infinity out of the query's window. -/
theorem table_value (y : FVec Ideal S8x15x31 .f32) (h : Fin 8) (p : Nat) (hp : p < 64) (n : Fin 640) (r : Fin 128) (q k : Fin 8192)
    (hq : q.val = 128 * p + r.val) (hk : k.val = first p + n.val) :
    tables (Host.inner y) (ix4 ⟨variant p, variant_lt _ hp⟩ h n r)
      = if Reference4Ideal.Rows.Near q.val k.val then Reference4Ideal.Rows.bias y h q.val k.val else Ideal.ofBits .f32 0xFF800000#32 := by
  obtain ⟨e1, e2⟩ := pair_places ⟨p, hp⟩ ⟨r.val / 64, by omega⟩
  dsimp only at e1 e2
  have hq1 : q.val / 64 = 2 * p + r.val / 64 := by omega
  have hq2 : q.val % 64 = r.val % 64 := by omega
  have hk1 : k.val / 64 = min (2 * p - 4) 118 + n.val / 64 := by unfold first at hk; omega
  have hk2 : k.val % 64 = n.val % 64 := by unfold first at hk; omega
  have index : (ix4 ⟨variant p, variant_lt _ hp⟩ h n r : S5x8x640x128.Idx)
      = ix4 ⟨variant p, variant_lt _ hp⟩ h ⟨64 * (n.val / 64) + n.val % 64, by omega⟩ ⟨64 * (r.val / 64) + r.val % 64, by omega⟩ :=
    congrArg₂ (fun i j => ix4 ⟨variant p, variant_lt _ hp⟩ h i j) (Fin.ext (by dsimp only; omega)) (Fin.ext (by dsimp only; omega))
  rw [index]
  by_cases hn : Reference4Ideal.Rows.Near q.val k.val
  · rw [if_pos hn]
    obtain ⟨⟨a1, a2⟩, a3, a4⟩ := id hn
    have hb := Reference4Ideal.Rows.bias_near y h q k hn ⟨k.val / 64 + 7 - q.val / 64, by omega⟩ ⟨k.val % 64 + 15 - q.val % 64, by omega⟩
      (by dsimp only; omega) (by dsimp only; omega)
    rw [hb]
    exact table_in y ⟨variant p, variant_lt _ hp⟩ ⟨r.val / 64, by omega⟩ h ⟨n.val / 64, by omega⟩ ⟨r.val % 64, by omega⟩
      ⟨n.val % 64, by omega⟩ _ _ (by dsimp only; omega) (by dsimp only; omega) (by dsimp only; omega) (by dsimp only; omega)
  · rw [if_neg hn]
    refine table_out y ⟨variant p, variant_lt _ hp⟩ ⟨r.val / 64, by omega⟩ h ⟨n.val / 64, by omega⟩ ⟨r.val % 64, by omega⟩
      ⟨n.val % 64, by omega⟩ (fun ho => hn ?_)
    dsimp only at ho
    unfold Reference4Ideal.Rows.Near
    omega

/-- Every row block's rows are the reference's. `o` is the block's first row in the point's block, `u` its number. -/
theorem block_value (hf : RealArgs (argX m c) (argY m c)) (u : Fin 4) (o : Nat) (ho : o + 128 ≤ 512) (hou : o = 128 * u.val)
    (hw : startWord (grid0.coords t 1) (BitVec.ofNat 32 u.val) + 640 ≤ 8192) (tab : Vec Ideal S1x8x640x128 .f32)
    (htab : ∀ (h : Fin 8) (k : Fin 640) (r : Fin 128), tabOf tab h (ix4 0 0 k r)
      = V m c main_v215 (ix4 ⟨variant (4 * (t.val % 16) + u.val), variant_lt _ (by omega)⟩ h k r))
    (r : Fin 128) (h : Fin 8) (d : Fin 64) :
    blockOut m c t o ho (BitVec.ofNat 32 u.val) hw tab (ix3 0 r ⟨64 * h.val + d.val, by omega⟩)
      = Reference4Ideal.Read.val_main_v88 (F := Ideal) (argX m c) (argY m c) (ix3 ⟨t.val / 16, by have := lt t; omega⟩
          ⟨512 * (t.val % 16) + (o + r.val), by omega⟩ ⟨64 * h.val + d.val, by omega⟩) := by
  have hN := lt t
  have hs : startWord (grid0.coords t 1) (BitVec.ofNat 32 u.val) = first (4 * (t.val % 16) + u.val) := by
    rw [startWord_eq (grid0.coords t 1) u, coords_row]
  have hfirst : first (4 * (t.val % 16) + u.val) + 640 ≤ 8192 := by rw [← hs]; exact hw
  rw [Reference4Ideal.Rows.element (argX m c) (argY m c) ⟨t.val / 16, by omega⟩ h ⟨512 * (t.val % 16) + (o + r.val), by omega⟩ d]
  unfold blockOut
  rw [Rows.rowsOut_apply _ _ _ _ r h d]
  have hq : ∀ e : Fin 64, queriesOf (X0_0 m c t) o ho (ix3 0 r ⟨64 * h.val + e.val, by omega⟩)
      = argX m c (ix3 ⟨t.val / 16, by omega⟩ ⟨512 * (t.val % 16) + (o + r.val), by omega⟩ ⟨64 * h.val + e.val, by omega⟩) := by
    intro e
    rw [queries, ordered_eq]
    exact ordered_query (argX m c) _ _ ⟨64 * h.val + e.val, by omega⟩
  have hk : ∀ (n : Fin 640) (e : Fin 64), keysOf (X0_1 m c t) _ hw (ix3 0 n ⟨64 * h.val + e.val, by omega⟩)
      = argX m c (ix3 ⟨t.val / 16, by omega⟩ ⟨first (4 * (t.val % 16) + u.val) + n.val, by omega⟩ ⟨512 + (64 * h.val + e.val), by omega⟩) := by
    intro n e
    rw [keys, ordered_eq]
    refine (ordered_key (argX m c) _ _ ⟨64 * h.val + e.val, by omega⟩).trans ?_
    refine congrArg (fun k => argX m c (ix3 _ k _)) (Fin.ext ?_)
    show startWord _ _ + n.val = _; rw [hs]
  have hv : ∀ n : Fin 640, valuesOf (X0_2 m c t) _ hw (ix2 ⟨64 * h.val + d.val, by omega⟩ n)
      = argX m c (ix3 ⟨t.val / 16, by omega⟩ ⟨first (4 * (t.val % 16) + u.val) + n.val, by omega⟩ ⟨1024 + (64 * h.val + d.val), by omega⟩) := by
    intro n
    rw [values, valueRows_eq]
    refine (valueRows_apply (argX m c) ⟨t.val / 16, by omega⟩ ⟨startWord (grid0.coords t 1) (BitVec.ofNat 32 u.val) + n.val, by omega⟩
      ⟨64 * h.val + d.val, by omega⟩).trans ?_
    refine congrArg (fun k => argX m c (ix3 _ k _)) (Fin.ext ?_)
    show startWord _ _ + n.val = _; rw [hs]
  have ht : ∀ n : Fin 640, tabOf tab h (ix4 0 0 n r)
      = if Reference4Ideal.Rows.Near (512 * (t.val % 16) + (o + r.val)) (first (4 * (t.val % 16) + u.val) + n.val)
        then Reference4Ideal.Rows.bias (argY m c) h (512 * (t.val % 16) + (o + r.val)) (first (4 * (t.val % 16) + u.val) + n.val)
        else Ideal.ofBits .f32 0xFF800000#32 := by
    intro n
    rw [htab, tables_eq]
    exact table_value (argY m c) h (4 * (t.val % 16) + u.val) (by omega) n r ⟨512 * (t.val % 16) + (o + r.val), by omega⟩
      ⟨first (4 * (t.val % 16) + u.val) + n.val, by omega⟩ (by dsimp only; omega) rfl
  dsimp only at hq hk hv ht ⊢
  simp only [hq, hk, hv, ht]
  refine NearRow.row_eq (fun n => ⟨first (4 * (t.val % 16) + u.val) + n.val, by omega⟩) (first (4 * (t.val % 16) + u.val))
    ⟨512 * (t.val % 16) + (o + r.val), by omega⟩ (fun _ => rfl) ?_ (argY m c) h
    (fun e => argX m c (ix3 ⟨t.val / 16, by omega⟩ ⟨512 * (t.val % 16) + (o + r.val), by omega⟩ ⟨64 * h.val + e.val, by omega⟩))
    (fun k e => argX m c (ix3 ⟨t.val / 16, by omega⟩ k ⟨512 + (64 * h.val + e.val), by omega⟩))
    (fun k => argX m c (ix3 ⟨t.val / 16, by omega⟩ k ⟨1024 + (64 * h.val + d.val), by omega⟩)) ?_ ?_ hf.2
  · intro k hn
    obtain ⟨⟨a1, a2⟩, -⟩ := id hn
    dsimp only at a1 a2 ⊢
    unfold first
    omega
  · intro e
    exact hf.1 ⟨t.val / 16, by omega⟩ ⟨512 * (t.val % 16) + (o + r.val), by omega⟩ ⟨64 * h.val + e.val, by omega⟩
  · intro k e
    exact hf.1 ⟨t.val / 16, by omega⟩ k ⟨512 + (64 * h.val + e.val), by omega⟩

/-- The reference's result, of the kernel's arguments. -/
def target : Vec Ideal S8x8192x512 .bf16 := Reference4Ideal.Read.val_main_v88 (F := Ideal) (argX m c) (argY m c)

/-- An index of the point's block, in the result array. -/
theorem emb7 (y : S1x512x512.Idx) : ((cfg0.win 7).blk t).view.emb y
    = ix3 ⟨t.val / 16, by have := lt t; omega⟩ ⟨512 * (t.val % 16) + (y 1).val, by have : (y 1).val < 512 := (y 1).isLt; omega⟩ (y 2) := by
  funext a
  apply Fin.ext
  obtain ⟨e0, e1, e2⟩ := idx7 t
  match a with
  | ⟨0, _⟩ => show win0_7.index t (0 : Fin 3) * 1 + 1 * (y 0).val = t.val / 16; have : (y 0).val < 1 := (y 0).isLt; omega
  | ⟨1, _⟩ => show win0_7.index t (1 : Fin 3) * 512 + 1 * (y 1).val = 512 * (t.val % 16) + (y 1).val; omega
  | ⟨2, _⟩ => show win0_7.index t (2 : Fin 3) * 512 + 1 * (y 2).val = (y 2).val; omega

/-- The rows of one block, as a piece of the point's block. -/
theorem piece_value (hf : RealArgs (argX m c) (argY m c)) (u : Fin 4) (o : Nat) (ho : o + 128 ≤ 512) (hou : o = 128 * u.val)
    (hw : startWord (grid0.coords t 1) (BitVec.ofNat 32 u.val) + 640 ≤ 8192) (tab : Vec Ideal S1x8x640x128 .f32)
    (htab : ∀ (h : Fin 8) (k : Fin 640) (r : Fin 128), tabOf tab h (ix4 0 0 k r)
      = V m c main_v215 (ix4 ⟨variant (4 * (t.val % 16) + u.val), variant_lt _ (by omega)⟩ h k r)) (y : S1x128x512.Idx) :
    blockOut m c t o ho (BitVec.ofNat 32 u.val) hw tab y
      = target m c (((cfg0.win 7).blk t).view.emb ((Rect.unit (s := S1x512x512) ![0, o, 0] S1x128x512.size (rows_inb o ho)).emb y)) := by
  have hN := lt t
  have h0 : (y 0).val < 1 := (y 0).isLt
  have h1 : (y 1).val < 128 := (y 1).isLt
  have h2 : (y 2).val < 512 := (y 2).isLt
  have hy : y = ix3 0 ⟨(y 1).val, h1⟩ ⟨64 * ((y 2).val / 64) + (y 2).val % 64, by omega⟩ := by
    funext a
    apply Fin.ext
    match a with
    | ⟨0, _⟩ => show (y 0).val = 0; omega
    | ⟨1, _⟩ => rfl
    | ⟨2, _⟩ => show (y 2).val = 64 * ((y 2).val / 64) + (y 2).val % 64; omega
  refine (congrArg (blockOut m c t o ho (BitVec.ofNat 32 u.val) hw tab) hy).trans ?_
  refine (block_value m c t hf u o ho hou hw tab htab ⟨(y 1).val, h1⟩ ⟨(y 2).val / 64, by omega⟩
    ⟨(y 2).val % 64, by omega⟩).trans ?_
  rw [emb7]
  refine congrArg (target m c) (funext fun a => Fin.ext ?_)
  match a with
  | ⟨0, _⟩ => rfl
  | ⟨1, _⟩ => show 512 * (t.val % 16) + (o + (y 1).val) = 512 * (t.val % 16) + (o + 1 * (y 1).val); omega
  | ⟨2, _⟩ => show 64 * ((y 2).val / 64) + (y 2).val % 64 = 0 + 1 * (y 2).val; omega

/-- What a grid point leaves in the output's block is the reference's block. -/
theorem outs_value (hf : RealArgs (argX m c) (argY m c)) (y : S1x512x512.Idx) :
    outsAt0 m c t y = target m c (((cfg0.win 7).blk t).view.emb y) := by
  have h0 : (y 0).val < 1 := (y 0).isLt
  have h1 : (y 1).val < 512 := (y 1).isLt
  have h2 : (y 2).val < 512 := (y 2).isLt
  rw [outs_eq]
  refine View.canon_apply_of_pieces (fun y => target m c (((cfg0.win 7).blk t).view.emb y)) _ ?_ y ?_
  · intro p hp
    simp only [List.mem_cons, List.not_mem_nil, or_false] at hp
    rcases hp with rfl | rfl | rfl | rfl
    · exact piece_value m c t hf 3 384 (by decide) rfl _ _ (table6 m c t)
    · exact piece_value m c t hf 2 256 (by decide) rfl _ _ (table5 m c t)
    · exact piece_value m c t hf 1 128 (by decide) rfl _ _ (table4 m c t)
    · exact piece_value m c t hf 0 0 (by decide) rfl _ _ (table3 m c t)
  · have mem : ∀ o (ho : o + 128 ≤ 512), o ≤ (y 1).val → (y 1).val < o + 128 →
        y ∈ (Rect.unit (s := S1x512x512) ![0, o, 0] S1x128x512.size (rows_inb o ho)).set := by
      intro o ho l1 l2
      rw [Rect.mem_set_unit]
      intro a
      match a with
      | ⟨0, _⟩ => exact ⟨Nat.zero_le _, by show (y 0).val < 0 + 1; omega⟩
      | ⟨1, _⟩ => exact ⟨l1, l2⟩
      | ⟨2, _⟩ => exact ⟨Nat.zero_le _, by show (y 2).val < 0 + 512; omega⟩
    by_cases c3 : 384 ≤ (y 1).val
    · exact ⟨_, .head _, mem 384 (by decide) c3 (by omega)⟩
    by_cases c2 : 256 ≤ (y 1).val
    · exact ⟨_, .tail _ (.head _), mem 256 (by decide) c2 (by omega)⟩
    by_cases c1 : 128 ≤ (y 1).val
    · exact ⟨_, .tail _ (.tail _ (.head _)), mem 128 (by decide) c1 (by omega)⟩
    · exact ⟨_, .tail _ (.tail _ (.tail _ (.head _))), mem 0 (by decide) (Nat.zero_le _) (by omega)⟩

theorem flushed_value (hf : RealArgs (argX m c) (argY m c)) :
    (dats m 0 c).flushed 7 t = ((cfg0.win 7).blk t).view.read (Elt Ideal) (target m c) := by
  rw [Value.flushed7]
  funext y
  exact outs_value m c t hf y

/-- The grid points' blocks cover the result array. -/
theorem covered (i : S8x8192x512.Idx) : ∃ t : Fin cfg0.N, (cfg0.win 7).flush t = true ∧ i ∈ ((cfg0.win 7).blk t).view.set := by
  have h0 : (i 0).val < 8 := (i 0).isLt
  have h1 : (i 1).val < 8192 := (i 1).isLt
  have hN : cfg0.N = 128 := by decide
  obtain ⟨T, hT⟩ : ∃ T : Fin cfg0.N, T.val = 16 * (i 0).val + (i 1).val / 512 :=
    ⟨⟨16 * (i 0).val + (i 1).val / 512, by rw [hN]; omega⟩, rfl⟩
  refine ⟨T, flush0_7 _, ?_⟩
  have h := ((cfg0.win 7).blk T).view.emb_mem_set (ix3 0 ⟨(i 1).val % 512, by omega⟩ (i 2) : S1x512x512.Idx)
  rw [emb7] at h
  have e : i = ix3 ⟨T.val / 16, by omega⟩ ⟨512 * (T.val % 16) + (i 1).val % 512, by omega⟩ (i 2) := by
    funext a
    apply Fin.ext
    match a with
    | ⟨0, _⟩ => show (i 0).val = T.val / 16; omega
    | ⟨1, _⟩ => show (i 1).val = 512 * (T.val % 16) + (i 1).val % 512; omega
    | ⟨2, _⟩ => rfl
  rw [e]
  exact h

/-- The result array after the run is the reference's result. -/
theorem final (hf : RealArgs (argX m c) (argY m c)) : (dats m 0 c).arrAt 7 cfg0.N = target m c :=
  (dats m 0 c).arrAt_eq_of_cover 7 (target m c) (fun t _ => flushed_value m c t hf) covered

end Cert.Kernel4Ideal.Result

end
-- ==== Proof.NearFinite.lean ====
/- What the neighbourhood attention's precondition says: the queries, the keys and the biases are real numbers. -/
module

public import proofs.«01_k».proof.Defs
public import proofs.«01_k».proof.Proof.Finite
public import proofs.«01_k».proof.Proof.NearResult

@[expose] public section

noncomputable section

namespace Cert.NearFinite

open Idealize.ShloMosaic Idealize.ShloMosaic.TcCoe Cert.Pre_finite4 Cert.Pre_finite4.Facts

set_option maxRecDepth 16384

instance facts : Cert.Pre_finite4.Facts where
  slices_S8x8192x6912_S8x8192x1024_0_0_0 := by decide
  bcast_S_S8x8192x1024 := by decide
  reducesTo_S8x8192x1024_S_d0_1_2 := by decide
  h_S_ := by decide
  bcast_S_S8x15x31 := by decide
  reducesTo_S8x15x31_S_d0_1_2 := by decide

instance : Subsingleton S_.Idx := ⟨fun a b => funext fun i => i.elim0⟩

/-- The precondition's queries, keys and biases are real. -/
theorem real_of_pre (x : FVec Ideal S8x8192x6912 .f32) (y : FVec Ideal S8x15x31 .f32) (h : Cert.Pre_finite4.fn x y = fun _ => 1#1) :
    Kernel4Ideal.Result.RealArgs x y := by
  have h0 := congrFun h (fun a => a.elim0)
  unfold Cert.Pre_finite4.fn at h0
  obtain ⟨hx, hs⟩ := IntOp.andi_eq_one.1 h0
  refine ⟨fun b n l => ?_, fun i => ?_⟩
  · refine Finite.real_of_lt _ (Eq.trans ?_ (Host.reduce_andi_all _ _ _ _ _ hx (ix3 b n l)))
    pointwise []
    rfl
  · exact Finite.real_of_lt _ (Host.reduce_andi_all _ _ _ _ _ hs i)

end Cert.NearFinite

end
-- ==== Proof.MergeBlock.lean ====
/- What one grid point of the merge kernel leaves in its block of the result, as a function of what it reads. -/
module

public import proofs.«01_k».proof.Proof.Gen.Kernel2Ideal.Frame
public import Idealize.ShloMosaic.Lib.Pipeline.ValueKit.Basic
public import Idealize.ShloMosaic.Lib.Pipeline.ValueKit.Tiles
public import Idealize.ShloMosaic.Lib.Pointwise

@[expose] public section

noncomputable section

namespace Cert.Kernel2Ideal.Block

open Cert.Kernel2Ideal Cert.Kernel2Ideal.Gen Idealize.ShloMosaic Idealize.ShloMosaic.TcCoe Idealize.SL.Sem

set_option maxRecDepth 16384

variable {F : FTy → Type} [FloatOps F]

/-- A box of a matrix lies inside it where its two ranges do. -/
theorem box_inb {a b p q o l : Nat} (ho : o + p ≤ a) (hl : l + q ≤ b) (i : Fin 2) :
    (![o, l] : Fin 2 → Nat) i + (![p, q] : Fin 2 → Nat) i ≤ (![a, b] : Fin 2 → Nat) i :=
  match i with
  | ⟨0, _⟩ => ho
  | ⟨1, _⟩ => hl

/-- 256 rows of the gates, one gate's columns. -/
def gate (x : Vec F S512x3072 .bf16) (o l : Nat) (ho : o + 256 ≤ 512) (hl : l + 1024 ≤ 3072) : Vec F S256x1024 .bf16 :=
  View.ld x (Rect.unit ![o, l] S256x1024.size (box_inb ho hl))
/-- 256 rows of a branch. -/
def branch (x : Vec F S512x512 .bf16) (o : Nat) (ho : o + 256 ≤ 512) : Vec F S256x512 .bf16 :=
  View.ld x (Rect.unit ![o, 0] S256x512.size (box_inb ho (Nat.le_refl 512)))
/-- 256 rows of the residual stream. -/
def stream (x : Vec F S512x1024 .f32) (o : Nat) (ho : o + 256 ≤ 512) : Vec F S256x1024 .f32 :=
  View.ld x (Rect.unit ![o, 0] S256x1024.size (box_inb ho (Nat.le_refl 1024)))
/-- 1024 of the hidden units: their columns of the first matrix, their biases, their rows of the second. -/
def up (x : Vec F S1024x4096 .bf16) (l : Nat) (hl : l + 1024 ≤ 4096) : Vec F S1024x1024 .bf16 :=
  View.ld x (Rect.unit ![0, l] S1024x1024.size (box_inb (Nat.le_refl 1024) hl))
def upBias (x : Vec F S1x4096 .f32) (l : Nat) (hl : l + 1024 ≤ 4096) : Vec F S1x1024 .f32 :=
  View.ld x (Rect.unit ![0, l] S1x1024.size (box_inb (Nat.le_refl 1) hl))
def down (x : Vec F S4096x1024 .bf16) (o : Nat) (ho : o + 1024 ≤ 4096) : Vec F S1024x1024 .bf16 :=
  View.ld x (Rect.unit ![o, 0] S1024x1024.size (box_inb ho (Nat.le_refl 1024)))

/-- The boxes the body reads, by the names above. -/
theorem ld_gate (x : Vec F S512x3072 .bf16) (o l : Nat) (h) : View.ld x (Rect.unit ![o, l] ![256, 1024] h) = gate x o l (h 0) (h 1) := rfl
theorem ld_branch (x : Vec F S512x512 .bf16) (o : Nat) (h) : View.ld x (Rect.unit ![o, 0] ![256, 512] h) = branch x o (h 0) := rfl
theorem ld_stream (x : Vec F S512x1024 .f32) (o : Nat) (h) : View.ld x (Rect.unit ![o, 0] ![256, 1024] h) = stream x o (h 0) := rfl
theorem ld_up (x : Vec F S1024x4096 .bf16) (l : Nat) (h) : View.ld x (Rect.unit ![0, l] ![1024, 1024] h) = up x l (h 1) := rfl
theorem ld_upBias (x : Vec F S1x4096 .f32) (l : Nat) (h) : View.ld x (Rect.unit ![0, l] ![1, 1024] h) = upBias x l (h 1) := rfl
theorem ld_down (x : Vec F S4096x1024 .bf16) (o : Nat) (h) : View.ld x (Rect.unit ![o, 0] ![1024, 1024] h) = down x o (h 0) := rfl
/-- The windows the body reads whole. -/
theorem ld_branchWeight (x : Vec F S512x1024 .bf16) (h) : View.ld x (Rect.unit ![0, 0] ![512, 1024] h) = x := View.ld_unit_lit h x (by decide)
theorem ld_outWeight (x : Vec F S1024x1024 .bf16) (h) : View.ld x (Rect.unit ![0, 0] ![1024, 1024] h) = x := View.ld_unit_lit h x (by decide)
theorem ld_vector (x : Vec F S1x1024 .f32) (h) : View.ld x (Rect.unit ![0, 0] ![1, 1024] h) = x := View.ld_unit_lit h x (by decide)

/-- The boxes' elements. -/
theorem gate_apply (x : Vec F S512x3072 .bf16) (o l : Nat) (ho hl) (r : Fin 256) (d : Fin 1024) :
    gate x o l ho hl (ix2 r d) = x (ix2 ⟨o + r.val, by omega⟩ ⟨l + d.val, by omega⟩) :=
  View.ld_unit_apply_of _ _ _ _ _ _ (fun a => match a with | ⟨0, _⟩ => rfl | ⟨1, _⟩ => rfl)
theorem branch_apply (x : Vec F S512x512 .bf16) (o : Nat) (ho) (r : Fin 256) (d : Fin 512) :
    branch x o ho (ix2 r d) = x (ix2 ⟨o + r.val, by omega⟩ d) :=
  View.ld_unit_apply_of _ _ _ _ _ _ (fun a => match a with | ⟨0, _⟩ => rfl | ⟨1, _⟩ => (Nat.zero_add _).symm)
theorem stream_apply (x : Vec F S512x1024 .f32) (o : Nat) (ho) (r : Fin 256) (d : Fin 1024) :
    stream x o ho (ix2 r d) = x (ix2 ⟨o + r.val, by omega⟩ d) :=
  View.ld_unit_apply_of _ _ _ _ _ _ (fun a => match a with | ⟨0, _⟩ => rfl | ⟨1, _⟩ => (Nat.zero_add _).symm)
theorem up_apply (x : Vec F S1024x4096 .bf16) (l : Nat) (hl) (r d : Fin 1024) :
    up x l hl (ix2 r d) = x (ix2 r ⟨l + d.val, by omega⟩) :=
  View.ld_unit_apply_of _ _ _ _ _ _ (fun a => match a with | ⟨0, _⟩ => (Nat.zero_add _).symm | ⟨1, _⟩ => rfl)
theorem upBias_apply (x : Vec F S1x4096 .f32) (l : Nat) (hl) (d : Fin 1024) :
    upBias x l hl (ix2 0 d) = x (ix2 0 ⟨l + d.val, by omega⟩) :=
  View.ld_unit_apply_of _ _ _ _ _ _ (fun a => match a with | ⟨0, _⟩ => rfl | ⟨1, _⟩ => rfl)
theorem down_apply (x : Vec F S4096x1024 .bf16) (o : Nat) (ho) (r d : Fin 1024) :
    down x o ho (ix2 r d) = x (ix2 ⟨o + r.val, by omega⟩ d) :=
  View.ld_unit_apply_of _ _ _ _ _ _ (fun a => match a with | ⟨0, _⟩ => rfl | ⟨1, _⟩ => (Nat.zero_add _).symm)

section
variable (x0 : Vec F S512x3072 .bf16) (x1 x2 x3 : Vec F S512x512 .bf16) (x4 : Vec F S512x1024 .f32) (x5 x6 x7 : Vec F S512x1024 .bf16)
  (x8 : Vec F S1024x1024 .bf16) (x9 x10 : Vec F S1x1024 .f32)

/-- The merged branches of the first 256 rows, and of the last. -/
def mergedTop : FVec F S256x1024 .bf16 :=
  k0_pay2 (gate x0 0 0 (by decide) (by decide)) (branch x1 0 (by decide)) x5 (gate x0 0 1024 (by decide) (by decide)) (branch x2 0 (by decide)) x6
    (gate x0 0 2048 (by decide) (by decide)) (branch x3 0 (by decide)) x7
def mergedLast : FVec F S256x1024 .bf16 :=
  k0_pay5 (k0_pay3 (gate x0 256 0 (by decide) (by decide))) (k0_pay4 (branch x1 256 (by decide))) x5 (gate x0 256 1024 (by decide) (by decide))
    (branch x2 256 (by decide)) x6 (gate x0 256 2048 (by decide) (by decide)) (branch x3 256 (by decide)) x7

/-- The first 256 rows after the first norm. -/
def top : FVec F S256x1024 .f32 :=
  k0_pay9 (k0_pay6 (mergedTop x0 x1 x2 x3 x5 x6 x7) (stream x4 0 (by decide)) x8) (k0_pay7 x9) (k0_pay8 x10)

/-- The last 256 rows less their mean, and the sums of their squares. -/
def lastCentred : FVec F S256x1024 .f32 := k0_pay12 (mergedLast x0 x1 x2 x3 x5 x6 x7) (stream x4 256 (by decide)) x8
def lastSquares : FVec F S256x1 .f32 := k0_pay13 (mergedLast x0 x1 x2 x3 x5 x6 x7) (stream x4 256 (by decide)) x8

variable (x11 : Vec F S1024x4096 .bf16) (x12 : Vec F S1x4096 .f32) (x13 : Vec F S4096x1024 .bf16) (x14 x15 x16 : Vec F S1x1024 .f32)

/-- The block of 512 rows a grid point gives. -/
def blockOut : FVec F S512x1024 .f32 :=
  k0_pay1
    (k0_pay20
      (k0_pay16 (top x0 x1 x2 x3 x4 x5 x6 x7 x8 x9 x10) (k0_pay10 x9) (k0_pay11 x10) (lastCentred x0 x1 x2 x3 x4 x5 x6 x7 x8)
        (lastSquares x0 x1 x2 x3 x4 x5 x6 x7 x8) k0_pay14)
      (k0_pay17 (top x0 x1 x2 x3 x4 x5 x6 x7 x8 x9 x10) (k0_pay10 x9) (k0_pay11 x10) (lastCentred x0 x1 x2 x3 x4 x5 x6 x7 x8)
        (lastSquares x0 x1 x2 x3 x4 x5 x6 x7 x8) k0_pay14 x14 (up x11 0 (by decide)) (upBias x12 0 (by decide)) (down x13 0 (by decide)))
      (k0_pay18 (top x0 x1 x2 x3 x4 x5 x6 x7 x8 x9 x10) (k0_pay10 x9) (k0_pay11 x10) (lastCentred x0 x1 x2 x3 x4 x5 x6 x7 x8)
        (lastSquares x0 x1 x2 x3 x4 x5 x6 x7 x8) k0_pay14 (up x11 1024 (by decide)) (upBias x12 1024 (by decide)))
      k0_pay19 (down x13 1024 (by decide))
      (up x11 2048 (by decide)) (upBias x12 2048 (by decide)) (down x13 2048 (by decide))
      (up x11 3072 (by decide)) (upBias x12 3072 (by decide)) (down x13 3072 (by decide)))
    x15 x16
end

attribute [local irreducible] gate branch stream up upBias down

variable (m : (ℓ : Loc nD τ sig) → Buf (Elt F) ℓ)

set_option maxRecDepth 65536 in
set_option maxHeartbeats 2000000 in
/-- What grid point `t` leaves in the output's block. -/
theorem outs_eq (c : Dev nD) (t : Fin cfg0.N) :
    outsAt0 m c t = blockOut (X0_0 m c t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (iblk m c 14 t)
      (iblk m c 15 t) (iblk m c 16 t) := by
  unfold outsAt0 out0_A_17
  rw [View.read_writes_eq_canon _ _ _ (cover0_A_17 _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (hs0_11 t).read_unread, (hs0_12 t).read_unread, (hs0_13 t).read_unread,
    (hs0_14 t).read_unread, (hs0_15 t).read_unread, (hs0_16 t).read_unread]
  refine (View.canon_cons_unit_lit inb_S512x1024_S512x1024_0_0 _ _ (by decide)).trans ?_
  simp only [ld_gate, ld_branch, ld_stream, ld_up, ld_upBias, ld_down]
  simp only [ld_branchWeight, ld_outWeight, ld_vector]
  rfl

end Cert.Kernel2Ideal.Block

end
-- ==== Proof.MergeMath.lean ====
/- The mathematics of the gated merge and the channel mixer, one token at a time: functions of a token's row and the
   weights, over the extended reals. -/
module

public import Idealize.ShloMosaic.Lib.Pointwise
public import Idealize.ShloMosaic.PureOps.Ideal

@[expose] public section

noncomputable section

namespace Cert.Merge

open Idealize.ShloMosaic

/-- The mean of a row. -/
def mean (v : Fin 1024 → EReal) : EReal := Ideal.div (∑ k, v k) (Ideal.ofBits .f32 0x44800000#32)

/-- A row less its mean. -/
def centred (v : Fin 1024 → EReal) (d : Fin 1024) : EReal := v d - mean v

/-- The layer norm of a row. -/
def norm (v g b : Fin 1024 → EReal) (d : Fin 1024) : EReal :=
  centred v d * FloatOps.rsqrt (F := Ideal) (φ := .f32) (mean (fun k => centred v k * centred v k) + Ideal.ofBits .f32 0x3727C5AC#32) * g d + b d

/-- A product of a row with a matrix. -/
def row {n p : Nat} (v : Fin n → EReal) (w : Fin n → Fin p → EReal) (d : Fin p) : EReal := ∑ k, v k * w k d

/-- The three branches, each by its projection and its gate, added up. -/
def merged (g0 g1 g2 : Fin 1024 → EReal) (a h c : Fin 512 → EReal) (wa wb wc : Fin 512 → Fin 1024 → EReal) (d : Fin 1024) : EReal :=
  g0 d * row a wa d + g1 d * row h wb d + g2 d * row c wc d

/-- The residual stream with a branch added. -/
def residual (x y : Fin 1024 → EReal) (d : Fin 1024) : EReal := Ideal.ofBits .f32 0x3FB504F3#32 * x d + y d

/-- The squared positive part. -/
def square (u : EReal) : EReal := max u 0 * max u 0

/-- The hidden units of the channel mixer. -/
def hidden {p : Nat} (x : Fin 1024 → EReal) (wu : Fin 1024 → Fin p → EReal) (bu : Fin p → EReal) (f : Fin p) : EReal :=
  square (row x wu f + bu f)

/-- The channel mixer. -/
def mixer (x : Fin 1024 → EReal) (wu : Fin 1024 → Fin 4096 → EReal) (bu : Fin 4096 → EReal) (wd : Fin 4096 → Fin 1024 → EReal)
    (bd : Fin 1024 → EReal) (d : Fin 1024) : EReal := row (hidden x wu bu) wd d + bd d

/-- The sum over all hidden units, in four parts of 1024. -/
theorem row_parts (v : Fin 4096 → EReal) (w : Fin 4096 → Fin 1024 → EReal) (d : Fin 1024) :
    row v w d = row (fun k : Fin 1024 => v ⟨k.val, by omega⟩) (fun k => w ⟨k.val, by omega⟩) d
      + row (fun k : Fin 1024 => v ⟨1024 + k.val, by omega⟩) (fun k => w ⟨1024 + k.val, by omega⟩) d
      + row (fun k : Fin 1024 => v ⟨2048 + k.val, by omega⟩) (fun k => w ⟨2048 + k.val, by omega⟩) d
      + row (fun k : Fin 1024 => v ⟨3072 + k.val, by omega⟩) (fun k => w ⟨3072 + k.val, by omega⟩) d := by
  unfold row
  rw [Fin.sum_univ_two_halves 2048 2048 rfl, Fin.sum_univ_two_halves 1024 1024 rfl, Fin.sum_univ_two_halves 1024 1024 rfl]
  simp only [add_assoc]
  rfl

/-- The residual with the mixer, when the mixer's sum is taken in four parts after the bias. -/
theorem residual_mixer (x : Fin 1024 → EReal) (wu : Fin 1024 → Fin 4096 → EReal) (bu : Fin 4096 → EReal)
    (wd : Fin 4096 → Fin 1024 → EReal) (bd : Fin 1024 → EReal) (d : Fin 1024) :
    residual x (mixer x wu bu wd bd) d = residual x bd d
      + row (fun k : Fin 1024 => hidden x wu bu ⟨k.val, by omega⟩) (fun k => wd ⟨k.val, by omega⟩) d
      + row (fun k : Fin 1024 => hidden x wu bu ⟨1024 + k.val, by omega⟩) (fun k => wd ⟨1024 + k.val, by omega⟩) d
      + row (fun k : Fin 1024 => hidden x wu bu ⟨2048 + k.val, by omega⟩) (fun k => wd ⟨2048 + k.val, by omega⟩) d
      + row (fun k : Fin 1024 => hidden x wu bu ⟨3072 + k.val, by omega⟩) (fun k => wd ⟨3072 + k.val, by omega⟩) d := by
  unfold residual mixer
  rw [row_parts]
  ac_rfl

/-- The layer's second half: the merge, its norm, the mixer, its norm. -/
def layer (g0 g1 g2 : Fin 1024 → EReal) (a h c : Fin 512 → EReal) (x : Fin 1024 → EReal) (wa wb wc : Fin 512 → Fin 1024 → EReal)
    (wo : Fin 1024 → Fin 1024 → EReal) (l1g l1b : Fin 1024 → EReal) (wu : Fin 1024 → Fin 4096 → EReal) (bu : Fin 4096 → EReal)
    (wd : Fin 4096 → Fin 1024 → EReal) (bd l2g l2b : Fin 1024 → EReal) : Fin 1024 → EReal :=
  let x1 := norm (residual x (row (merged g0 g1 g2 a h c wa wb wc) wo)) l1g l1b
  norm (residual x1 (mixer x1 wu bu wd bd)) l2g l2b

end Cert.Merge

end
-- ==== Proof.MergeRows.lean ====
/- What the merge kernel's body computes from what it reads, element by element. -/
module

public import proofs.«01_k».proof.Proof.Gen.Kernel2Ideal.Skeleton
public import proofs.«01_k».proof.Proof.MergeMath

@[expose] public section

noncomputable section

namespace Cert.Kernel2Ideal.Rows

open Cert.Kernel2Ideal Cert.Kernel2Ideal.Gen Cert.Merge Idealize.ShloMosaic Idealize.ShloMosaic.TcCoe Idealize.SL.Sem

set_option maxRecDepth 16384

theorem pay1_apply (v : FVec Ideal S512x1024 .f32) (g b : Vec Ideal S1x1024 .f32) (r : Fin 512) (d : Fin 1024) :
    k0_pay1 v g b (ix2 r d) = norm (fun k => v (ix2 r k)) (fun k => g (ix2 0 k)) (fun k => b (ix2 0 k)) d := by
  pointwise [k0_pay1]
  rfl

theorem pay2_apply (g0 g1 g2 : Vec Ideal S256x1024 .bf16) (a h c : Vec Ideal S256x512 .bf16) (wa wb wc : Vec Ideal S512x1024 .bf16)
    (r : Fin 256) (d : Fin 1024) :
    k0_pay2 g0 a wa g1 h wb g2 c wc (ix2 r d) = merged (fun k => g0 (ix2 r k)) (fun k => g1 (ix2 r k)) (fun k => g2 (ix2 r k))
      (fun k => a (ix2 r k)) (fun k => h (ix2 r k)) (fun k => c (ix2 r k)) (fun k l => wa (ix2 k l)) (fun k l => wb (ix2 k l))
      (fun k l => wc (ix2 k l)) d := by
  pointwise [k0_pay2]
  rfl

theorem pay5_apply (g0 g1 g2 : Vec Ideal S256x1024 .bf16) (a h c : Vec Ideal S256x512 .bf16) (wa wb wc : Vec Ideal S512x1024 .bf16)
    (r : Fin 256) (d : Fin 1024) :
    k0_pay5 (k0_pay3 g0) (k0_pay4 a) wa g1 h wb g2 c wc (ix2 r d) = merged (fun k => g0 (ix2 r k)) (fun k => g1 (ix2 r k))
      (fun k => g2 (ix2 r k)) (fun k => a (ix2 r k)) (fun k => h (ix2 r k)) (fun k => c (ix2 r k)) (fun k l => wa (ix2 k l))
      (fun k l => wb (ix2 k l)) (fun k l => wc (ix2 k l)) d := by
  pointwise [k0_pay5, k0_pay3, k0_pay4]
  rfl

theorem pay6_apply (mg : FVec Ideal S256x1024 .bf16) (x : Vec Ideal S256x1024 .f32) (wo : Vec Ideal S1024x1024 .bf16)
    (r : Fin 256) (d : Fin 1024) :
    k0_pay6 mg x wo (ix2 r d) = residual (fun k => x (ix2 r k)) (row (fun k => mg (ix2 r k)) (fun k l => wo (ix2 k l))) d := by
  pointwise [k0_pay6]
  rfl

theorem pay9_apply (v : FVec Ideal S256x1024 .f32) (g b : Vec Ideal S1x1024 .f32) (r : Fin 256) (d : Fin 1024) :
    k0_pay9 v (k0_pay7 g) (k0_pay8 b) (ix2 r d) = norm (fun k => v (ix2 r k)) (fun k => g (ix2 0 k)) (fun k => b (ix2 0 k)) d := by
  pointwise [k0_pay9, k0_pay7, k0_pay8]
  rfl

/-- The second half's rows after the first norm, put below the first half's. -/
theorem pay15_low (top : FVec Ideal S256x1024 .f32) (g b : Vec Ideal S1x1024 .f32) (mg : FVec Ideal S256x1024 .bf16)
    (x : Vec Ideal S256x1024 .f32) (wo : Vec Ideal S1024x1024 .bf16) (r : Fin 512) (d : Fin 1024) (h : r.val < 256) :
    k0_pay15 top (k0_pay10 g) (k0_pay11 b) (k0_pay12 mg x wo) (k0_pay13 mg x wo) k0_pay14 (ix2 r d) = top (ix2 ⟨r.val, h⟩ d) := by
  pointwise [k0_pay15]
  rw [dif_pos h]

theorem pay15_high (top : FVec Ideal S256x1024 .f32) (g b : Vec Ideal S1x1024 .f32) (mg : FVec Ideal S256x1024 .bf16)
    (x : Vec Ideal S256x1024 .f32) (wo : Vec Ideal S1024x1024 .bf16) (r : Fin 512) (d : Fin 1024) (h : ¬ r.val < 256) :
    k0_pay15 top (k0_pay10 g) (k0_pay11 b) (k0_pay12 mg x wo) (k0_pay13 mg x wo) k0_pay14 (ix2 r d)
      = norm (residual (fun k => x (ix2 ⟨r.val - 256, by omega⟩ k)) (row (fun k => mg (ix2 ⟨r.val - 256, by omega⟩ k)) (fun k l => wo (ix2 k l))))
        (fun k => g (ix2 0 k)) (fun k => b (ix2 0 k)) d := by
  pointwise [k0_pay15, k0_pay10, k0_pay11, k0_pay12, k0_pay13, k0_pay14]
  rw [dif_neg h]
  rfl

section
variable (v85 : FVec Ideal S256x1024 .f32) (v95 v97 : FVec Ideal S1x1024 .f32) (v103 : FVec Ideal S256x1024 .f32) (v106 v107 : FVec Ideal S256x1 .f32)

/-- The rounding of the rows changes nothing here. -/
theorem pay16_apply (r : Fin 512) (d : Fin 1024) : k0_pay16 v85 v95 v97 v103 v106 v107 (ix2 r d) = k0_pay15 v85 v95 v97 v103 v106 v107 (ix2 r d) := rfl

theorem pay17_apply (bd : Vec Ideal S1x1024 .f32) (wu : Vec Ideal S1024x1024 .bf16) (bu : Vec Ideal S1x1024 .f32)
    (wd : Vec Ideal S1024x1024 .bf16) (r : Fin 512) (d : Fin 1024) :
    k0_pay17 v85 v95 v97 v103 v106 v107 bd wu bu wd (ix2 r d)
      = residual (fun k => k0_pay15 v85 v95 v97 v103 v106 v107 (ix2 r k)) (fun k => bd (ix2 0 k)) d
        + row (hidden (fun k => k0_pay15 v85 v95 v97 v103 v106 v107 (ix2 r k)) (fun k l => wu (ix2 k l)) (fun k => bu (ix2 0 k)))
          (fun k l => wd (ix2 k l)) d := by
  pointwise [k0_pay17, k0_pay16]
  rfl

theorem pay18_apply (wu : Vec Ideal S1024x1024 .bf16) (bu : Vec Ideal S1x1024 .f32) (r : Fin 512) (d : Fin 1024) :
    k0_pay18 v85 v95 v97 v103 v106 v107 wu bu (ix2 r d)
      = row (fun k => k0_pay15 v85 v95 v97 v103 v106 v107 (ix2 r k)) (fun k l => wu (ix2 k l)) d + bu (ix2 0 d) := by
  pointwise [k0_pay18, k0_pay16]
  rfl
end

theorem pay20_apply (x1 : FVec Ideal S512x1024 .bf16) (acc u : FVec Ideal S512x1024 .f32) (wd1 wu2 : Vec Ideal S1024x1024 .bf16)
    (bu2 : Vec Ideal S1x1024 .f32) (wd2 wu3 : Vec Ideal S1024x1024 .bf16) (bu3 : Vec Ideal S1x1024 .f32) (wd3 : Vec Ideal S1024x1024 .bf16)
    (r : Fin 512) (d : Fin 1024) :
    k0_pay20 x1 acc u k0_pay19 wd1 wu2 bu2 wd2 wu3 bu3 wd3 (ix2 r d)
      = acc (ix2 r d) + row (fun f => square (u (ix2 r f))) (fun k l => wd1 (ix2 k l)) d
        + row (hidden (fun k => x1 (ix2 r k)) (fun k l => wu2 (ix2 k l)) (fun k => bu2 (ix2 0 k))) (fun k l => wd2 (ix2 k l)) d
        + row (hidden (fun k => x1 (ix2 r k)) (fun k l => wu3 (ix2 k l)) (fun k => bu3 (ix2 0 k))) (fun k l => wd3 (ix2 k l)) d := by
  pointwise [k0_pay20, k0_pay19]
  rfl

end Cert.Kernel2Ideal.Rows

end
-- ==== Proof.MergeRef.lean ====
/- The merge reference's result, token by token. -/
module

public import proofs.«01_k».proof.Proof.Gen.Reference2Ideal.Read
public import proofs.«01_k».proof.Proof.MergeMath

@[expose] public section

noncomputable section

namespace Cert.Reference2Ideal.Rows

open Cert.Reference2Ideal Cert.Reference2Ideal.Read Cert.Merge Idealize.ShloMosaic Idealize.ShloMosaic.TcCoe Idealize.SL.Sem

set_option maxRecDepth 16384

variable (x0 : FVec Ideal S65536x6272 .bf16) (x1 x2 x3 : FVec Ideal S8x8192x512 .bf16) (x4 : FVec Ideal S8x8192x1024 .f32)
  (x5 x6 x7 : FVec Ideal S512x1024 .f32) (x8 : FVec Ideal S1024x1024 .f32) (x9 x10 : FVec Ideal S1024 .f32)
  (x11 : FVec Ideal S1024x4096 .f32) (x12 : FVec Ideal S4096 .f32) (x13 : FVec Ideal S4096x1024 .f32) (x14 x15 x16 : FVec Ideal S1024 .f32)
  (b : Fin 8) (n : Fin 8192) (d : Fin 1024)

/-- The three gates of a token. -/
theorem gate0_apply : val_main_v7 (F := Ideal) x0 (ix3 b n d) = x0 (ix2 ⟨b.val * 8192 + n.val, by omega⟩ ⟨d.val, by omega⟩) := by
  pointwise [val_main_v7, val_main_v6, val_main_v2, val_main_v1, val_main_v0]
theorem gate1_apply : val_main_v11 (F := Ideal) x0 (ix3 b n d) = x0 (ix2 ⟨b.val * 8192 + n.val, by omega⟩ ⟨1024 + d.val, by omega⟩) := by
  pointwise [val_main_v11, val_main_v10, val_main_v2, val_main_v1, val_main_v0]
theorem gate2_apply : val_main_v16 (F := Ideal) x0 (ix3 b n d) = x0 (ix2 ⟨b.val * 8192 + n.val, by omega⟩ ⟨2048 + d.val, by omega⟩) := by
  pointwise [val_main_v16, val_main_v15, val_main_v2, val_main_v1, val_main_v0]

theorem merged_apply : val_main_v19 (F := Ideal) x0 x1 x2 x3 x5 x6 x7 (ix3 b n d)
    = merged (fun k => x0 (ix2 ⟨b.val * 8192 + n.val, by omega⟩ ⟨k.val, by omega⟩)) (fun k => x0 (ix2 ⟨b.val * 8192 + n.val, by omega⟩ ⟨1024 + k.val, by omega⟩))
        (fun k => x0 (ix2 ⟨b.val * 8192 + n.val, by omega⟩ ⟨2048 + k.val, by omega⟩)) (fun k => x1 (ix3 b n k)) (fun k => x2 (ix3 b n k))
        (fun k => x3 (ix3 b n k)) (fun k l => x5 (ix2 k l)) (fun k l => x6 (ix2 k l)) (fun k l => x7 (ix2 k l)) d := by
  pointwise [val_main_v19, val_main_v18, val_main_v14, val_main_v9, val_main_v8, val_main_v13, val_main_v12, val_main_v17, val_main_v3, val_main_v4, val_main_v5]
  rw [gate0_apply, gate1_apply, gate2_apply]
  rfl

theorem residual_apply : val_main_v23 (F := Ideal) x0 x1 x2 x3 x4 x5 x6 x7 x8 (ix3 b n d)
    = residual (fun k => x4 (ix3 b n k)) (row (fun k => val_main_v19 (F := Ideal) x0 x1 x2 x3 x5 x6 x7 (ix3 b n k)) (fun k l => x8 (ix2 k l))) d := by
  pointwise [val_main_v23, val_main_v22, val_main_v21, val_main_v20, val_main_cst]
  rfl

theorem norm1_apply : val_main_v47 (F := Ideal) x0 x1 x2 x3 x4 x5 x6 x7 x8 x9 x10 (ix3 b n d)
    = norm (fun k => val_main_v23 (F := Ideal) x0 x1 x2 x3 x4 x5 x6 x7 x8 (ix3 b n k)) (fun k => x9 (ix1 k)) (fun k => x10 (ix1 k)) d := by
  pointwise [val_main_v47, val_main_v46, val_main_v45, val_main_v44, val_main_v43, val_main_v42, val_main_v41, val_main_v40, val_main_v39,
    val_main_v38, val_main_v37, val_main_v36, val_main_v35, val_main_v34, val_main_v33, val_main_v32, val_main_v31, val_main_v30,
    val_main_v29, val_main_v28, val_main_v27, val_main_v26, val_main_v25, val_main_v24, val_main_cst_0, val_main_cst_1, val_main_cst_2,
    val_main_cst_3, val_main_cst_4]
  rfl

theorem hidden_apply (f : Fin 4096) : val_main_v53 (F := Ideal) x0 x1 x2 x3 x4 x5 x6 x7 x8 x9 x10 x11 x12 (ix3 b n f)
    = hidden (fun k => val_main_v47 (F := Ideal) x0 x1 x2 x3 x4 x5 x6 x7 x8 x9 x10 (ix3 b n k)) (fun k l => x11 (ix2 k l)) (fun k => x12 (ix1 k)) f := by
  pointwise [val_main_v53, val_main_v52, val_main_v51, val_main_v50, val_main_v49, val_main_v48, val_main_call0_v0, val_main_call0_cst]
  rfl

theorem mixer_apply : val_main_v60 (F := Ideal) x0 x1 x2 x3 x4 x5 x6 x7 x8 x9 x10 x11 x12 x13 x14 (ix3 b n d)
    = residual (fun k => val_main_v47 (F := Ideal) x0 x1 x2 x3 x4 x5 x6 x7 x8 x9 x10 (ix3 b n k))
        (mixer (fun k => val_main_v47 (F := Ideal) x0 x1 x2 x3 x4 x5 x6 x7 x8 x9 x10 (ix3 b n k)) (fun k l => x11 (ix2 k l)) (fun k => x12 (ix1 k))
          (fun k l => x13 (ix2 k l)) (fun k => x14 (ix1 k))) d := by
  unfold mixer row Merge.residual
  simp only [← hidden_apply]
  pointwise [val_main_v60, val_main_v59, val_main_v58, val_main_v57, val_main_v56, val_main_v55, val_main_v54, val_main_cst_5]

theorem norm2_apply : val_main_v84 (F := Ideal) x0 x1 x2 x3 x4 x5 x6 x7 x8 x9 x10 x11 x12 x13 x14 x15 x16 (ix3 b n d)
    = norm (fun k => val_main_v60 (F := Ideal) x0 x1 x2 x3 x4 x5 x6 x7 x8 x9 x10 x11 x12 x13 x14 (ix3 b n k)) (fun k => x15 (ix1 k)) (fun k => x16 (ix1 k)) d := by
  pointwise [val_main_v84, val_main_v83, val_main_v82, val_main_v81, val_main_v80, val_main_v79, val_main_v78, val_main_v77, val_main_v76,
    val_main_v75, val_main_v74, val_main_v73, val_main_v72, val_main_v71, val_main_v70, val_main_v69, val_main_v68, val_main_v67,
    val_main_v66, val_main_v65, val_main_v64, val_main_v63, val_main_v62, val_main_v61, val_main_cst_6, val_main_cst_7, val_main_cst_8,
    val_main_cst_9, val_main_cst_10]
  rfl

/-- The result, token by token. -/
theorem element : val_main_v85 (F := Ideal) x0 x1 x2 x3 x4 x5 x6 x7 x8 x9 x10 x11 x12 x13 x14 x15 x16 (ix2 ⟨b.val * 8192 + n.val, by omega⟩ d)
    = layer (fun k => x0 (ix2 ⟨b.val * 8192 + n.val, by omega⟩ ⟨k.val, by omega⟩)) (fun k => x0 (ix2 ⟨b.val * 8192 + n.val, by omega⟩ ⟨1024 + k.val, by omega⟩))
        (fun k => x0 (ix2 ⟨b.val * 8192 + n.val, by omega⟩ ⟨2048 + k.val, by omega⟩)) (fun k => x1 (ix3 b n k)) (fun k => x2 (ix3 b n k))
        (fun k => x3 (ix3 b n k)) (fun k => x4 (ix3 b n k)) (fun k l => x5 (ix2 k l)) (fun k l => x6 (ix2 k l)) (fun k l => x7 (ix2 k l))
        (fun k l => x8 (ix2 k l)) (fun k => x9 (ix1 k)) (fun k => x10 (ix1 k)) (fun k l => x11 (ix2 k l)) (fun k => x12 (ix1 k))
        (fun k l => x13 (ix2 k l)) (fun k => x14 (ix1 k)) (fun k => x15 (ix1 k)) (fun k => x16 (ix1 k)) d := by
  have e : val_main_v85 (F := Ideal) x0 x1 x2 x3 x4 x5 x6 x7 x8 x9 x10 x11 x12 x13 x14 x15 x16 (ix2 ⟨b.val * 8192 + n.val, by omega⟩ d)
      = val_main_v84 (F := Ideal) x0 x1 x2 x3 x4 x5 x6 x7 x8 x9 x10 x11 x12 x13 x14 x15 x16 (ix3 b n d) := by
    rw [val_main_v85_apply]
    refine congrArg _ (funext fun a => Fin.ext ?_)
    match a with
    | ⟨0, _⟩ => show ((b.val * 8192 + n.val) * 1024 + d.val) / 8388608 = b.val; omega
    | ⟨1, _⟩ => show ((b.val * 8192 + n.val) * 1024 + d.val) / 1024 % 8192 = n.val; omega
    | ⟨2, _⟩ => show ((b.val * 8192 + n.val) * 1024 + d.val) % 1024 = d.val; omega
  rw [e, norm2_apply]
  simp only [mixer_apply, norm1_apply, residual_apply, merged_apply]
  rfl

end Cert.Reference2Ideal.Rows

end
-- ==== Proof.MergeResult.lean ====
/- The merge kernel's result array is the reference's. -/
module

public import proofs.«01_k».proof.Proof.MergeBlock
public import proofs.«01_k».proof.Proof.MergeRows
public import proofs.«01_k».proof.Proof.MergeRef
public import proofs.«01_k».proof.Proof.Gen.Kernel2Ideal.Value

@[expose] public section

noncomputable section

namespace Cert.Kernel2Ideal.Result

open Cert.Kernel2Ideal Cert.Kernel2Ideal.Gen Cert.Kernel2Ideal.Block Cert.Kernel2Ideal.Rows Cert.Merge
open Idealize.ShloMosaic Idealize.ShloMosaic.TcCoe Idealize.SL.Sem

set_option maxRecDepth 16384

section
variable (x0 : Vec Ideal S512x3072 .bf16) (x1 x2 x3 : Vec Ideal S512x512 .bf16) (x4 : Vec Ideal S512x1024 .f32) (x5 x6 x7 : Vec Ideal S512x1024 .bf16)
  (x8 : Vec Ideal S1024x1024 .bf16) (x9 x10 : Vec Ideal S1x1024 .f32) (x11 : Vec Ideal S1024x4096 .bf16) (x12 : Vec Ideal S1x4096 .f32)
  (x13 : Vec Ideal S4096x1024 .bf16) (x14 x15 x16 : Vec Ideal S1x1024 .f32) (r : Fin 512)

/-- A row of the block after the first norm. -/
theorem first_apply (d : Fin 1024) : k0_pay15 (top x0 x1 x2 x3 x4 x5 x6 x7 x8 x9 x10) (k0_pay10 x9) (k0_pay11 x10)
      (lastCentred x0 x1 x2 x3 x4 x5 x6 x7 x8) (lastSquares x0 x1 x2 x3 x4 x5 x6 x7 x8) k0_pay14 (ix2 r d)
    = norm (Merge.residual (fun k => x4 (ix2 r k)) (row (merged (fun k => x0 (ix2 r ⟨k.val, by omega⟩)) (fun k => x0 (ix2 r ⟨1024 + k.val, by omega⟩))
        (fun k => x0 (ix2 r ⟨2048 + k.val, by omega⟩)) (fun k => x1 (ix2 r k)) (fun k => x2 (ix2 r k)) (fun k => x3 (ix2 r k))
        (fun k l => x5 (ix2 k l)) (fun k l => x6 (ix2 k l)) (fun k l => x7 (ix2 k l))) (fun k l => x8 (ix2 k l))))
        (fun k => x9 (ix2 0 k)) (fun k => x10 (ix2 0 k)) d := by
  unfold lastCentred lastSquares
  by_cases h : r.val < 256
  · rw [pay15_low _ _ _ _ _ _ r d h]
    unfold top mergedTop
    rw [pay9_apply]
    simp only [pay6_apply, pay2_apply, gate_apply, branch_apply, stream_apply, Nat.zero_add]
  · rw [pay15_high _ _ _ _ _ _ r d h]
    unfold mergedLast
    have e : ∀ h', (⟨256 + (r.val - 256), h'⟩ : Fin 512) = r := fun _ => Fin.ext (by dsimp only; omega)
    simp only [pay5_apply, gate_apply, branch_apply, stream_apply, Nat.zero_add, e]

/-- A row of the block. -/
theorem blockOut_apply (d : Fin 1024) : blockOut x0 x1 x2 x3 x4 x5 x6 x7 x8 x9 x10 x11 x12 x13 x14 x15 x16 (ix2 r d)
    = layer (fun k => x0 (ix2 r ⟨k.val, by omega⟩)) (fun k => x0 (ix2 r ⟨1024 + k.val, by omega⟩))
        (fun k => x0 (ix2 r ⟨2048 + k.val, by omega⟩)) (fun k => x1 (ix2 r k)) (fun k => x2 (ix2 r k)) (fun k => x3 (ix2 r k))
        (fun k => x4 (ix2 r k)) (fun k l => x5 (ix2 k l)) (fun k l => x6 (ix2 k l)) (fun k l => x7 (ix2 k l))
        (fun k l => x8 (ix2 k l)) (fun k => x9 (ix2 0 k)) (fun k => x10 (ix2 0 k)) (fun k l => x11 (ix2 k l)) (fun k => x12 (ix2 0 k))
        (fun k l => x13 (ix2 k l)) (fun k => x14 (ix2 0 k)) (fun k => x15 (ix2 0 k)) (fun k => x16 (ix2 0 k)) d := by
  unfold blockOut layer
  rw [pay1_apply]
  refine congrFun (congrArg (fun v => norm v _ _) (funext fun d => ?_)) d
  rw [pay20_apply, pay17_apply]
  simp only [pay18_apply, pay16_apply, first_apply, up_apply, upBias_apply, down_apply, Nat.zero_add]
  rw [residual_mixer]
  rfl
end

theorem lt (t : Fin cfg0.N) : t.val < 128 := t.isLt.trans_eq (by decide)

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)
theorem idx10 : ∀ t : Fin cfg0.N, win0_10.index t (0 : Fin 2) = 0 ∧ win0_10.index t (1 : Fin 2) = 0 := (by decide +kernel : ∀ t : Fin grid0.N, _)
theorem idx11 : ∀ t : Fin cfg0.N, win0_11.index t (0 : Fin 2) = 0 ∧ win0_11.index t (1 : Fin 2) = 0 := (by decide +kernel : ∀ t : Fin grid0.N, _)
theorem idx12 : ∀ t : Fin cfg0.N, win0_12.index t (0 : Fin 2) = 0 ∧ win0_12.index t (1 : Fin 2) = 0 := (by decide +kernel : ∀ t : Fin grid0.N, _)
theorem idx13 : ∀ t : Fin cfg0.N, win0_13.index t (0 : Fin 2) = 0 ∧ win0_13.index t (1 : Fin 2) = 0 := (by decide +kernel : ∀ t : Fin grid0.N, _)
theorem idx14 : ∀ t : Fin cfg0.N, win0_14.index t (0 : Fin 2) = 0 ∧ win0_14.index t (1 : Fin 2) = 0 := (by decide +kernel : ∀ t : Fin grid0.N, _)
theorem idx15 : ∀ t : Fin cfg0.N, win0_15.index t (0 : Fin 2) = 0 ∧ win0_15.index t (1 : Fin 2) = 0 := (by decide +kernel : ∀ t : Fin grid0.N, _)
theorem idx16 : ∀ t : Fin cfg0.N, win0_16.index t (0 : Fin 2) = 0 ∧ win0_16.index t (1 : Fin 2) = 0 := (by decide +kernel : ∀ t : Fin grid0.N, _)
theorem idx17 : ∀ t : Fin cfg0.N, win0_17.index t (0 : Fin 2) = t.val ∧ win0_17.index t (1 : Fin 2) = 0 := (by decide +kernel : ∀ t : Fin grid0.N, _)

variable (m : (ℓ : Loc nD τ sig) → Buf (Elt Ideal) ℓ) (c : Dev nD) (t : Fin cfg0.N)

/-- The arguments. -/
abbrev arg0 : FVec Ideal S65536x6272 .bf16 := m ((c : Thread nD τ).loc main_arg0)
abbrev arg1 : FVec Ideal S8x8192x512 .bf16 := m ((c : Thread nD τ).loc main_arg1)
abbrev arg2 : FVec Ideal S8x8192x512 .bf16 := m ((c : Thread nD τ).loc main_arg2)
abbrev arg3 : FVec Ideal S8x8192x512 .bf16 := m ((c : Thread nD τ).loc main_arg3)
abbrev arg4 : FVec Ideal S8x8192x1024 .f32 := m ((c : Thread nD τ).loc main_arg4)
abbrev arg5 : FVec Ideal S512x1024 .f32 := m ((c : Thread nD τ).loc main_arg5)
abbrev arg6 : FVec Ideal S512x1024 .f32 := m ((c : Thread nD τ).loc main_arg6)
abbrev arg7 : FVec Ideal S512x1024 .f32 := m ((c : Thread nD τ).loc main_arg7)
abbrev arg8 : FVec Ideal S1024x1024 .f32 := m ((c : Thread nD τ).loc main_arg8)
abbrev arg9 : FVec Ideal S1024 .f32 := m ((c : Thread nD τ).loc main_arg9)
abbrev arg10 : FVec Ideal S1024 .f32 := m ((c : Thread nD τ).loc main_arg10)
abbrev arg11 : FVec Ideal S1024x4096 .f32 := m ((c : Thread nD τ).loc main_arg11)
abbrev arg12 : FVec Ideal S4096 .f32 := m ((c : Thread nD τ).loc main_arg12)
abbrev arg13 : FVec Ideal S4096x1024 .f32 := m ((c : Thread nD τ).loc main_arg13)
abbrev arg14 : FVec Ideal S1024 .f32 := m ((c : Thread nD τ).loc main_arg14)
abbrev arg15 : FVec Ideal S1024 .f32 := m ((c : Thread nD τ).loc main_arg15)
abbrev arg16 : FVec Ideal S1024 .f32 := m ((c : Thread nD τ).loc main_arg16)

/-! What each window holds at a grid point, element by element, in terms of the arguments. -/

theorem host5 : V m c main_v0 = truncf (F := Ideal) .bf16 (arg5 m c) bitsLt_bf16_f32 := by
  simp only [V, hostOps0]
  after_results
theorem host6 : V m c main_v1 = truncf (F := Ideal) .bf16 (arg6 m c) bitsLt_bf16_f32 := by
  simp only [V, hostOps0]
  after_results
theorem host7 : V m c main_v2 = truncf (F := Ideal) .bf16 (arg7 m c) bitsLt_bf16_f32 := by
  simp only [V, hostOps0]
  after_results
theorem host8 : V m c main_v3 = truncf (F := Ideal) .bf16 (arg8 m c) bitsLt_bf16_f32 := by
  simp only [V, hostOps0]
  after_results
theorem host11 : V m c main_v6 = truncf (F := Ideal) .bf16 (arg11 m c) bitsLt_bf16_f32 := by
  simp only [V, hostOps0]
  after_results
theorem host13 : V m c main_v8 = truncf (F := Ideal) .bf16 (arg13 m c) bitsLt_bf16_f32 := by
  simp only [V, hostOps0]
  after_results
theorem host9 : V m c main_v4 = shapeCast S1x1024 (arg9 m c) shapeCasts_S1024_S1x1024 := by
  simp only [V, hostOps0]
  after_results
  rfl
theorem host10 : V m c main_v5 = shapeCast S1x1024 (arg10 m c) shapeCasts_S1024_S1x1024 := by
  simp only [V, hostOps0]
  after_results
  rfl
theorem host12 : V m c main_v7 = shapeCast S1x4096 (arg12 m c) shapeCasts_S4096_S1x4096 := by
  simp only [V, hostOps0]
  after_results
  rfl
theorem host14 : V m c main_v9 = shapeCast S1x1024 (arg14 m c) shapeCasts_S1024_S1x1024 := by
  simp only [V, hostOps0]
  after_results
  rfl
theorem host15 : V m c main_v10 = shapeCast S1x1024 (arg15 m c) shapeCasts_S1024_S1x1024 := by
  simp only [V, hostOps0]
  after_results
  rfl
theorem host16 : V m c main_v11 = shapeCast S1x1024 (arg16 m c) shapeCasts_S1024_S1x1024 := by
  simp only [V, hostOps0]
  after_results
  rfl
theorem host1 : V m c main_v12 = shapeCast S65536x512 (arg1 m c) shapeCasts_S8x8192x512_S65536x512 := by
  simp only [V, hostOps0]
  after_results
  rfl
theorem host2 : V m c main_v13 = shapeCast S65536x512 (arg2 m c) shapeCasts_S8x8192x512_S65536x512 := by
  simp only [V, hostOps0]
  after_results
  rfl
theorem host3 : V m c main_v14 = shapeCast S65536x512 (arg3 m c) shapeCasts_S8x8192x512_S65536x512 := by
  simp only [V, hostOps0]
  after_results
  rfl
theorem host4 : V m c main_v15 = shapeCast S65536x1024 (arg4 m c) shapeCasts_S8x8192x1024_S65536x1024 := by
  simp only [V, hostOps0]
  after_results
  rfl

theorem window0 (r : Fin 512) (d : Fin 3072) : X0_0 m c t (ix2 r d) = arg0 m c (ix2 ⟨512 * t.val + r.val, by have := lt t; omega⟩ ⟨d.val, by omega⟩) := by
  unfold X0_0 Pipeline.Window.fill
  rw [dif_pos (moved0_0 t (ix2 r d))]
  refine Eq.trans (congrArg (V m c main_arg0) (funext fun a => Fin.ext ?_)) (congrFun (V_main_arg0 m c) _)
  obtain ⟨e0, e1⟩ := idx0 t
  match a with
  | ⟨0, _⟩ => show win0_0.index t (0 : Fin 2) * 512 + 1 * r.val = 512 * t.val + r.val; omega
  | ⟨1, _⟩ => show win0_0.index t (1 : Fin 2) * 3072 + 1 * d.val = d.val; omega
theorem window1 (r : Fin 512) (d : Fin 512) : iblk m c 1 t (ix2 r d)
    = arg1 m c (ix3 ⟨t.val / 16, by have := lt t; omega⟩ ⟨512 * (t.val % 16) + r.val, by omega⟩ d) := by
  refine Eq.trans (b := V m c main_v12 (ix2 ⟨512 * t.val + r.val, by have := lt t; omega⟩ d)) (congrArg (V m c main_v12) (funext fun a => Fin.ext ?_)) ?_
  · obtain ⟨e0, e1⟩ := idx1 t
    match a with
    | ⟨0, _⟩ => show win0_1.index t (0 : Fin 2) * 512 + 1 * r.val = 512 * t.val + r.val; omega
    | ⟨1, _⟩ => show win0_1.index t (1 : Fin 2) * 512 + 1 * d.val = d.val; omega
  · rw [host1]
    refine shapeCast_apply _ _ _ _ ?_
    rewrite [Shape.rowMajor_val_three, Shape.rowMajor_val_two]
    show (t.val / 16 * 8192 + (512 * (t.val % 16) + r.val)) * 512 + d.val = (512 * t.val + r.val) * 512 + d.val
    omega
theorem window2 (r : Fin 512) (d : Fin 512) : iblk m c 2 t (ix2 r d)
    = arg2 m c (ix3 ⟨t.val / 16, by have := lt t; omega⟩ ⟨512 * (t.val % 16) + r.val, by omega⟩ d) := by
  refine Eq.trans (b := V m c main_v13 (ix2 ⟨512 * t.val + r.val, by have := lt t; omega⟩ d)) (congrArg (V m c main_v13) (funext fun a => Fin.ext ?_)) ?_
  · obtain ⟨e0, e1⟩ := idx2 t
    match a with
    | ⟨0, _⟩ => show win0_2.index t (0 : Fin 2) * 512 + 1 * r.val = 512 * t.val + r.val; omega
    | ⟨1, _⟩ => show win0_2.index t (1 : Fin 2) * 512 + 1 * d.val = d.val; omega
  · rw [host2]
    refine shapeCast_apply _ _ _ _ ?_
    rewrite [Shape.rowMajor_val_three, Shape.rowMajor_val_two]
    show (t.val / 16 * 8192 + (512 * (t.val % 16) + r.val)) * 512 + d.val = (512 * t.val + r.val) * 512 + d.val
    omega
theorem window3 (r : Fin 512) (d : Fin 512) : iblk m c 3 t (ix2 r d)
    = arg3 m c (ix3 ⟨t.val / 16, by have := lt t; omega⟩ ⟨512 * (t.val % 16) + r.val, by omega⟩ d) := by
  refine Eq.trans (b := V m c main_v14 (ix2 ⟨512 * t.val + r.val, by have := lt t; omega⟩ d)) (congrArg (V m c main_v14) (funext fun a => Fin.ext ?_)) ?_
  · obtain ⟨e0, e1⟩ := idx3 t
    match a with
    | ⟨0, _⟩ => show win0_3.index t (0 : Fin 2) * 512 + 1 * r.val = 512 * t.val + r.val; omega
    | ⟨1, _⟩ => show win0_3.index t (1 : Fin 2) * 512 + 1 * d.val = d.val; omega
  · rw [host3]
    refine shapeCast_apply _ _ _ _ ?_
    rewrite [Shape.rowMajor_val_three, Shape.rowMajor_val_two]
    show (t.val / 16 * 8192 + (512 * (t.val % 16) + r.val)) * 512 + d.val = (512 * t.val + r.val) * 512 + d.val
    omega
theorem window4 (r : Fin 512) (d : Fin 1024) : iblk m c 4 t (ix2 r d)
    = arg4 m c (ix3 ⟨t.val / 16, by have := lt t; omega⟩ ⟨512 * (t.val % 16) + r.val, by omega⟩ d) := by
  refine Eq.trans (b := V m c main_v15 (ix2 ⟨512 * t.val + r.val, by have := lt t; omega⟩ d)) (congrArg (V m c main_v15) (funext fun a => Fin.ext ?_)) ?_
  · obtain ⟨e0, e1⟩ := idx4 t
    match a with
    | ⟨0, _⟩ => show win0_4.index t (0 : Fin 2) * 512 + 1 * r.val = 512 * t.val + r.val; omega
    | ⟨1, _⟩ => show win0_4.index t (1 : Fin 2) * 1024 + 1 * d.val = d.val; omega
  · rw [host4]
    refine shapeCast_apply _ _ _ _ ?_
    rewrite [Shape.rowMajor_val_three, Shape.rowMajor_val_two]
    show (t.val / 16 * 8192 + (512 * (t.val % 16) + r.val)) * 1024 + d.val = (512 * t.val + r.val) * 1024 + d.val
    omega
theorem window5 (r : Fin 512) (d : Fin 1024) : iblk m c 5 t (ix2 r d) = arg5 m c (ix2 r d) := by
  refine Eq.trans (b := V m c main_v0 (ix2 r d)) (congrArg (V m c main_v0) (funext fun a => Fin.ext ?_)) ?_
  · obtain ⟨e0, e1⟩ := idx5 t
    match a with
    | ⟨0, _⟩ => show win0_5.index t (0 : Fin 2) * 512 + 1 * r.val = r.val; omega
    | ⟨1, _⟩ => show win0_5.index t (1 : Fin 2) * 1024 + 1 * d.val = d.val; omega
  · rw [host5]
    rfl
theorem window6 (r : Fin 512) (d : Fin 1024) : iblk m c 6 t (ix2 r d) = arg6 m c (ix2 r d) := by
  refine Eq.trans (b := V m c main_v1 (ix2 r d)) (congrArg (V m c main_v1) (funext fun a => Fin.ext ?_)) ?_
  · obtain ⟨e0, e1⟩ := idx6 t
    match a with
    | ⟨0, _⟩ => show win0_6.index t (0 : Fin 2) * 512 + 1 * r.val = r.val; omega
    | ⟨1, _⟩ => show win0_6.index t (1 : Fin 2) * 1024 + 1 * d.val = d.val; omega
  · rw [host6]
    rfl
theorem window7 (r : Fin 512) (d : Fin 1024) : iblk m c 7 t (ix2 r d) = arg7 m c (ix2 r d) := by
  refine Eq.trans (b := V m c main_v2 (ix2 r d)) (congrArg (V m c main_v2) (funext fun a => Fin.ext ?_)) ?_
  · obtain ⟨e0, e1⟩ := idx7 t
    match a with
    | ⟨0, _⟩ => show win0_7.index t (0 : Fin 2) * 512 + 1 * r.val = r.val; omega
    | ⟨1, _⟩ => show win0_7.index t (1 : Fin 2) * 1024 + 1 * d.val = d.val; omega
  · rw [host7]
    rfl
theorem window8 (r : Fin 1024) (d : Fin 1024) : iblk m c 8 t (ix2 r d) = arg8 m c (ix2 r d) := by
  refine Eq.trans (b := V m c main_v3 (ix2 r d)) (congrArg (V m c main_v3) (funext fun a => Fin.ext ?_)) ?_
  · obtain ⟨e0, e1⟩ := idx8 t
    match a with
    | ⟨0, _⟩ => show win0_8.index t (0 : Fin 2) * 1024 + 1 * r.val = r.val; omega
    | ⟨1, _⟩ => show win0_8.index t (1 : Fin 2) * 1024 + 1 * d.val = d.val; omega
  · rw [host8]
    rfl
theorem window11 (r : Fin 1024) (d : Fin 4096) : iblk m c 11 t (ix2 r d) = arg11 m c (ix2 r d) := by
  refine Eq.trans (b := V m c main_v6 (ix2 r d)) (congrArg (V m c main_v6) (funext fun a => Fin.ext ?_)) ?_
  · obtain ⟨e0, e1⟩ := idx11 t
    match a with
    | ⟨0, _⟩ => show win0_11.index t (0 : Fin 2) * 1024 + 1 * r.val = r.val; omega
    | ⟨1, _⟩ => show win0_11.index t (1 : Fin 2) * 4096 + 1 * d.val = d.val; omega
  · rw [host11]
    rfl
theorem window13 (r : Fin 4096) (d : Fin 1024) : iblk m c 13 t (ix2 r d) = arg13 m c (ix2 r d) := by
  refine Eq.trans (b := V m c main_v8 (ix2 r d)) (congrArg (V m c main_v8) (funext fun a => Fin.ext ?_)) ?_
  · obtain ⟨e0, e1⟩ := idx13 t
    match a with
    | ⟨0, _⟩ => show win0_13.index t (0 : Fin 2) * 4096 + 1 * r.val = r.val; omega
    | ⟨1, _⟩ => show win0_13.index t (1 : Fin 2) * 1024 + 1 * d.val = d.val; omega
  · rw [host13]
    rfl
theorem window9 (d : Fin 1024) : iblk m c 9 t (ix2 0 d) = arg9 m c (ix1 d) := by
  refine Eq.trans (b := V m c main_v4 (ix2 0 d)) (congrArg (V m c main_v4) (funext fun a => Fin.ext ?_)) ?_
  · obtain ⟨e0, e1⟩ := idx9 t
    match a with
    | ⟨0, _⟩ => show win0_9.index t (0 : Fin 2) * 1 + 1 * 0 = 0; omega
    | ⟨1, _⟩ => show win0_9.index t (1 : Fin 2) * 1024 + 1 * d.val = d.val; omega
  · rw [host9]
    refine shapeCast_apply _ _ _ _ ?_
    rewrite [Shape.rowMajor_val_one, Shape.rowMajor_val_two]
    show d.val = 0 * 1024 + d.val
    omega
theorem window10 (d : Fin 1024) : iblk m c 10 t (ix2 0 d) = arg10 m c (ix1 d) := by
  refine Eq.trans (b := V m c main_v5 (ix2 0 d)) (congrArg (V m c main_v5) (funext fun a => Fin.ext ?_)) ?_
  · obtain ⟨e0, e1⟩ := idx10 t
    match a with
    | ⟨0, _⟩ => show win0_10.index t (0 : Fin 2) * 1 + 1 * 0 = 0; omega
    | ⟨1, _⟩ => show win0_10.index t (1 : Fin 2) * 1024 + 1 * d.val = d.val; omega
  · rw [host10]
    refine shapeCast_apply _ _ _ _ ?_
    rewrite [Shape.rowMajor_val_one, Shape.rowMajor_val_two]
    show d.val = 0 * 1024 + d.val
    omega
theorem window12 (d : Fin 4096) : iblk m c 12 t (ix2 0 d) = arg12 m c (ix1 d) := by
  refine Eq.trans (b := V m c main_v7 (ix2 0 d)) (congrArg (V m c main_v7) (funext fun a => Fin.ext ?_)) ?_
  · obtain ⟨e0, e1⟩ := idx12 t
    match a with
    | ⟨0, _⟩ => show win0_12.index t (0 : Fin 2) * 1 + 1 * 0 = 0; omega
    | ⟨1, _⟩ => show win0_12.index t (1 : Fin 2) * 4096 + 1 * d.val = d.val; omega
  · rw [host12]
    refine shapeCast_apply _ _ _ _ ?_
    rewrite [Shape.rowMajor_val_one, Shape.rowMajor_val_two]
    show d.val = 0 * 4096 + d.val
    omega
theorem window14 (d : Fin 1024) : iblk m c 14 t (ix2 0 d) = arg14 m c (ix1 d) := by
  refine Eq.trans (b := V m c main_v9 (ix2 0 d)) (congrArg (V m c main_v9) (funext fun a => Fin.ext ?_)) ?_
  · obtain ⟨e0, e1⟩ := idx14 t
    match a with
    | ⟨0, _⟩ => show win0_14.index t (0 : Fin 2) * 1 + 1 * 0 = 0; omega
    | ⟨1, _⟩ => show win0_14.index t (1 : Fin 2) * 1024 + 1 * d.val = d.val; omega
  · rw [host14]
    refine shapeCast_apply _ _ _ _ ?_
    rewrite [Shape.rowMajor_val_one, Shape.rowMajor_val_two]
    show d.val = 0 * 1024 + d.val
    omega
theorem window15 (d : Fin 1024) : iblk m c 15 t (ix2 0 d) = arg15 m c (ix1 d) := by
  refine Eq.trans (b := V m c main_v10 (ix2 0 d)) (congrArg (V m c main_v10) (funext fun a => Fin.ext ?_)) ?_
  · obtain ⟨e0, e1⟩ := idx15 t
    match a with
    | ⟨0, _⟩ => show win0_15.index t (0 : Fin 2) * 1 + 1 * 0 = 0; omega
    | ⟨1, _⟩ => show win0_15.index t (1 : Fin 2) * 1024 + 1 * d.val = d.val; omega
  · rw [host15]
    refine shapeCast_apply _ _ _ _ ?_
    rewrite [Shape.rowMajor_val_one, Shape.rowMajor_val_two]
    show d.val = 0 * 1024 + d.val
    omega
theorem window16 (d : Fin 1024) : iblk m c 16 t (ix2 0 d) = arg16 m c (ix1 d) := by
  refine Eq.trans (b := V m c main_v11 (ix2 0 d)) (congrArg (V m c main_v11) (funext fun a => Fin.ext ?_)) ?_
  · obtain ⟨e0, e1⟩ := idx16 t
    match a with
    | ⟨0, _⟩ => show win0_16.index t (0 : Fin 2) * 1 + 1 * 0 = 0; omega
    | ⟨1, _⟩ => show win0_16.index t (1 : Fin 2) * 1024 + 1 * d.val = d.val; omega
  · rw [host16]
    refine shapeCast_apply _ _ _ _ ?_
    rewrite [Shape.rowMajor_val_one, Shape.rowMajor_val_two]
    show d.val = 0 * 1024 + d.val
    omega

/-- The reference's result, of the kernel's arguments. -/
def target : Vec Ideal S65536x1024 .f32 :=
  Reference2Ideal.Read.val_main_v85 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c)

/-- An index of the point's block, in the result array. -/
theorem emb17 (y : S512x1024.Idx) : ((cfg0.win 17).blk t).view.emb y
    = ix2 ⟨512 * t.val + (y 0).val, by have := lt t; have : (y 0).val < 512 := (y 0).isLt; omega⟩ (y 1) := by
  funext a
  apply Fin.ext
  obtain ⟨e0, e1⟩ := idx17 t
  match a with
  | ⟨0, _⟩ => show win0_17.index t (0 : Fin 2) * 512 + 1 * (y 0).val = 512 * t.val + (y 0).val; omega
  | ⟨1, _⟩ => show win0_17.index t (1 : Fin 2) * 1024 + 1 * (y 1).val = (y 1).val; omega

/-- What a grid point leaves in the output's block is the reference's block. -/
theorem outs_value (r : Fin 512) (d : Fin 1024) :
    outsAt0 m c t (ix2 r d) = target m c (ix2 ⟨512 * t.val + r.val, by have := lt t; omega⟩ d) := by
  have hN := lt t
  have e : (⟨512 * t.val + r.val, by omega⟩ : Fin 65536) = ⟨t.val / 16 * 8192 + (512 * (t.val % 16) + r.val), by omega⟩ :=
    Fin.ext (by dsimp only; omega)
  unfold target
  rw [outs_eq, blockOut_apply, e]
  refine Eq.trans ?_ (Reference2Ideal.Rows.element (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) ⟨t.val / 16, by omega⟩ ⟨512 * (t.val % 16) + r.val, by omega⟩ d).symm
  simp only [window0, window1, window2, window3, window4, window5, window6, window7, window8, window9, window10, window11, window12,
    window13, window14, window15, window16, e]

theorem flushed_value : (dats m 0 c).flushed 17 t = ((cfg0.win 17).blk t).view.read (Elt Ideal) (target m c) := by
  rw [Value.flushed17]
  funext y
  have hy : y = ix2 (y 0) (y 1) := funext fun a => match a with | ⟨0, _⟩ => rfl | ⟨1, _⟩ => rfl
  refine Eq.trans (congrArg (outsAt0 m c t) hy) ((outs_value m c t (y 0) (y 1)).trans ?_)
  exact congrArg (target m c) (emb17 t y).symm

/-- The grid points' blocks cover the result array. -/
theorem covered (i : S65536x1024.Idx) : ∃ t : Fin cfg0.N, (cfg0.win 17).flush t = true ∧ i ∈ ((cfg0.win 17).blk t).view.set := by
  have h0 : (i 0).val < 65536 := (i 0).isLt
  have hN : cfg0.N = 128 := by decide
  obtain ⟨T, hT⟩ : ∃ T : Fin cfg0.N, T.val = (i 0).val / 512 := ⟨⟨(i 0).val / 512, by rw [hN]; omega⟩, rfl⟩
  refine ⟨T, flush0_17 _, ?_⟩
  have h := ((cfg0.win 17).blk T).view.emb_mem_set (ix2 ⟨(i 0).val % 512, by omega⟩ (i 1) : S512x1024.Idx)
  rw [emb17] at h
  have e : i = ix2 ⟨512 * T.val + (i 0).val % 512, by omega⟩ (i 1) := by
    funext a
    apply Fin.ext
    match a with
    | ⟨0, _⟩ => show (i 0).val = 512 * T.val + (i 0).val % 512; omega
    | ⟨1, _⟩ => rfl
  rw [e]
  exact h

/-- The result array after the run is the reference's result. -/
theorem final : (dats m 0 c).arrAt 17 cfg0.N = target m c :=
  (dats m 0 c).arrAt_eq_of_cover 17 (target m c) (fun t _ => flushed_value m c t) covered

end Cert.Kernel2Ideal.Result

end
-- ==== Proof.ProjBlock.lean ====
/- What one grid point of the projection kernel leaves in its blocks of the two results. -/
module

public import proofs.«01_k».proof.Proof.Gen.Kernel3Ideal.Frame
public import Idealize.ShloMosaic.Lib.Pipeline.ValueKit.Basic
public import Idealize.ShloMosaic.Lib.Pipeline.ValueKit.Tiles
public import Idealize.ShloMosaic.Lib.Pointwise

@[expose] public section

noncomputable section

namespace Cert.Kernel3Ideal.Block

open Cert.Kernel3Ideal Cert.Kernel3Ideal.Gen Idealize.ShloMosaic Idealize.ShloMosaic.TcCoe Idealize.SL.Sem

set_option maxRecDepth 16384

variable {F : FTy → Type} [FloatOps F]

/-- A range of columns lies inside a matrix where its last column does. -/
theorem box_inb {a b q l : Nat} (hl : l + q ≤ b) (i : Fin 2) :
    (![0, l] : Fin 2 → Nat) i + (![a, q] : Fin 2 → Nat) i ≤ (![a, b] : Fin 2 → Nat) i :=
  match i with
  | ⟨0, _⟩ => (Nat.zero_add a).le
  | ⟨1, _⟩ => hl

/-- 768 columns of the weights and of the biases, and the last 128. -/
def weight (x : Vec F S1024x6272 .bf16) (l : Nat) (hl : l + 768 ≤ 6272) : Vec F S1024x768 .bf16 :=
  View.ld x (Rect.unit ![0, l] S1024x768.size (box_inb hl))
def bias (x : Vec F S1x6272 .f32) (l : Nat) (hl : l + 768 ≤ 6272) : Vec F S1x768 .f32 :=
  View.ld x (Rect.unit ![0, l] S1x768.size (box_inb hl))
def lastWeight (x : Vec F S1024x6272 .bf16) : Vec F S1024x128 .bf16 :=
  View.ld x (Rect.unit ![0, 6144] S1024x128.size (box_inb (by decide)))
def lastBias (x : Vec F S1x6272 .f32) : Vec F S1x128 .f32 :=
  View.ld x (Rect.unit ![0, 6144] S1x128.size (box_inb (by decide)))

/-- The boxes the body reads, by the names above. -/
theorem ld_weight (x : Vec F S1024x6272 .bf16) (l : Nat) (h) : View.ld x (Rect.unit ![0, l] ![1024, 768] h) = weight x l (h 1) := rfl
theorem ld_bias (x : Vec F S1x6272 .f32) (l : Nat) (h) : View.ld x (Rect.unit ![0, l] ![1, 768] h) = bias x l (h 1) := rfl
theorem ld_lastWeight (x : Vec F S1024x6272 .bf16) (h) : View.ld x (Rect.unit ![0, 6144] ![1024, 128] h) = lastWeight x := rfl
theorem ld_lastBias (x : Vec F S1x6272 .f32) (h) : View.ld x (Rect.unit ![0, 6144] ![1, 128] h) = lastBias x := rfl
/-- The windows the body reads whole. -/
theorem ld_stream (x : Vec F S512x1024 .f32) (h) : View.ld x (Rect.unit ![0, 0] ![512, 1024] h) = x := View.ld_unit_lit h x (by decide)
theorem ld_valueWeight (x : Vec F S640x1024 .bf16) (h) : View.ld x (Rect.unit ![0, 0] ![640, 1024] h) = x := View.ld_unit_lit h x (by decide)
theorem ld_valueBias (x : Vec F S640x1 .f32) (h) : View.ld x (Rect.unit ![0, 0] ![640, 1] h) = x := View.ld_unit_lit h x (by decide)

/-- The boxes' elements. -/
theorem weight_apply (x : Vec F S1024x6272 .bf16) (l : Nat) (hl) (k : Fin 1024) (d : Fin 768) :
    weight x l hl (ix2 k d) = x (ix2 k ⟨l + d.val, by omega⟩) :=
  View.ld_unit_apply_of _ _ _ _ _ _ (fun a => match a with | ⟨0, _⟩ => (Nat.zero_add _).symm | ⟨1, _⟩ => rfl)
theorem bias_apply (x : Vec F S1x6272 .f32) (l : Nat) (hl) (d : Fin 768) : bias x l hl (ix2 0 d) = x (ix2 0 ⟨l + d.val, by omega⟩) :=
  View.ld_unit_apply_of _ _ _ _ _ _ (fun a => match a with | ⟨0, _⟩ => rfl | ⟨1, _⟩ => rfl)
theorem lastWeight_apply (x : Vec F S1024x6272 .bf16) (k : Fin 1024) (d : Fin 128) :
    lastWeight x (ix2 k d) = x (ix2 k ⟨6144 + d.val, by omega⟩) :=
  View.ld_unit_apply_of _ _ _ _ _ _ (fun a => match a with | ⟨0, _⟩ => (Nat.zero_add _).symm | ⟨1, _⟩ => rfl)
theorem lastBias_apply (x : Vec F S1x6272 .f32) (d : Fin 128) : lastBias x (ix2 0 d) = x (ix2 0 ⟨6144 + d.val, by omega⟩) :=
  View.ld_unit_apply_of _ _ _ _ _ _ (fun a => match a with | ⟨0, _⟩ => rfl | ⟨1, _⟩ => rfl)

section
variable (x0 : Vec F S512x1024 .f32) (x1 : Vec F S1024x6272 .bf16) (x2 : Vec F S1x6272 .f32)

/-- A piece of the tokens' block: 768 columns from column `l`. -/
abbrev piece (l : Nat) (hl : l + 768 ≤ 6272) (p : FVec F S512x768 .bf16) : View.Piece (Elt F) S512x6272 .bf16 :=
  ⟨Rect.unit ![0, l] S512x768.size (box_inb hl), p⟩
/-- Its last 128 columns. -/
abbrev lastPiece (p : FVec F S512x128 .bf16) : View.Piece (Elt F) S512x6272 .bf16 :=
  ⟨Rect.unit ![0, 6144] S512x128.size (box_inb (by decide)), p⟩

/-- The tokens' block, as the body stores it. -/
def pieces : List (View.Piece (Elt F) S512x6272 .bf16) := [
  lastPiece (k0_pay2 (k0_pay3 x0) (lastWeight x1) (lastBias x2)),
  piece 5376 (by decide) (k0_pay1 (k0_pay3 x0) (weight x1 5376 (by decide)) (bias x2 5376 (by decide))),
  piece 4608 (by decide) (k0_pay14 (k0_pay3 x0) (weight x1 4608 (by decide)) (bias x2 4608 (by decide))),
  piece 3840 (by decide) (k0_pay13 (k0_pay3 x0) (weight x1 3840 (by decide)) (bias x2 3840 (by decide))),
  piece 3072 (by decide) (k0_pay12 (k0_pay3 x0) (weight x1 3072 (by decide)) (bias x2 3072 (by decide))),
  piece 2304 (by decide) (k0_pay11 (k0_pay10 (k0_pay3 x0) (weight x1 2304 (by decide)) (bias x2 2304 (by decide)))),
  piece 1536 (by decide) (k0_pay9 (k0_pay3 x0) (weight x1 1536 (by decide)) (bias x2 1536 (by decide))),
  piece 768 (by decide) (k0_pay8 (k0_pay6 x0 (weight x1 768 (by decide))) (k0_pay7 (bias x2 768 (by decide)))),
  piece 0 (by decide) (k0_pay5 x0 (weight x1 0 (by decide)) (bias x2 0 (by decide)))]
end

attribute [local irreducible] weight bias lastWeight lastBias

variable (m : (ℓ : Loc nD τ sig) → Buf (Elt F) ℓ)

set_option maxRecDepth 65536 in
set_option maxHeartbeats 2000000 in
/-- What grid point `t` leaves in the tokens' block. -/
theorem tokens_eq (c : Dev nD) (t : Fin cfg0.N) :
    (outsAt0 m c t).1 = View.canon (pieces (iblk m c 0 t) (iblk m c 1 t) (iblk m c 2 t)) := by
  unfold outsAt0 out0_A_5
  dsimp only
  rw [View.read_writes_eq_canon _ _ _ (cover0_A_5 _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread]
  simp only [ld_stream, ld_weight, ld_bias, ld_lastWeight, ld_lastBias]
  rfl

set_option maxRecDepth 65536 in
set_option maxHeartbeats 2000000 in
/-- What grid point `t` leaves in the values' block. -/
theorem values_eq (c : Dev nD) (t : Fin cfg0.N) :
    (outsAt0 m c t).2 = k0_pay4 (iblk m c 0 t) (iblk m c 3 t) (iblk m c 4 t) := by
  unfold outsAt0 out0_A_6
  dsimp only
  rw [View.read_writes_eq_canon _ _ _ (cover0_A_6 _ _ _ _ _ _ _ _ _ _ _ _ _ _ _ _ _ _ _ _ _)]
  unfold kernelRun0_A
  dsimp only
  simp only [View.readAt_eq_ld, (hs0_0 t).read_unread, (hs0_3 t).read_unread, (hs0_4 t).read_unread]
  refine (View.canon_cons_unit_lit inb_S640x512_S640x512_0_0 _ _ (by decide)).trans ?_
  simp only [ld_stream, ld_valueWeight, ld_valueBias]

end Cert.Kernel3Ideal.Block

end
-- ==== Proof.ProjRows.lean ====
/- The projection kernel's stored values, element by element. -/
module

public import proofs.«01_k».proof.Proof.ProjBlock
public import proofs.«01_k».proof.Proof.ProjMath

@[expose] public section

noncomputable section

namespace Cert.Kernel3Ideal.Rows

open Cert.Kernel3Ideal Cert.Kernel3Ideal.Gen Cert.Kernel3Ideal.Block Cert.Proj Idealize.ShloMosaic Idealize.ShloMosaic.TcCoe Idealize.SL.Sem

set_option maxRecDepth 16384

section
variable (x : Vec Ideal S512x1024 .f32) (w : Vec Ideal S1024x768 .bf16) (b : Vec Ideal S1x768 .f32) (r : Fin 512) (d : Fin 768)

/-- One column of 768 of the projection of the block's row `r`. -/
abbrev row : EReal := linear (fun k => x (ix2 r k)) (fun k => w (ix2 k d)) (b (ix2 0 d))

theorem gate_of (z : EReal) : Ideal.div 1 (1 + FloatOps.exp (F := Ideal) (φ := .f32) (0 - z)) = gate z := by
  unfold gate; rw [zero_sub]

theorem pay5_apply : k0_pay5 x w b (ix2 r d) = gate (row x w b r d) := by
  pointwise [k0_pay5, k0_pay3]
  exact gate_of (row x w b r d)
theorem pay8_apply : k0_pay8 (k0_pay6 x w) (k0_pay7 b) (ix2 r d) = gate (row x w b r d) := by
  pointwise [k0_pay8, k0_pay6, k0_pay7, k0_pay3]
  exact gate_of (row x w b r d)
theorem pay9_apply : k0_pay9 (k0_pay3 x) w b (ix2 r d) = gate (row x w b r d) := by
  pointwise [k0_pay9, k0_pay3]
  exact gate_of (row x w b r d)
theorem pay11_apply : k0_pay11 (k0_pay10 (k0_pay3 x) w b) (ix2 r d) = gate (row x w b r d) := by
  pointwise [k0_pay11, k0_pay10, k0_pay3]
  exact gate_of (row x w b r d)
theorem pay12_apply : k0_pay12 (k0_pay3 x) w b (ix2 r d) = row x w b r d := by
  pointwise [k0_pay12, k0_pay3]
  rfl
theorem pay13_apply : k0_pay13 (k0_pay3 x) w b (ix2 r d) = row x w b r d := by
  pointwise [k0_pay13, k0_pay3]
  rfl
theorem pay14_apply : k0_pay14 (k0_pay3 x) w b (ix2 r d) = row x w b r d := by
  pointwise [k0_pay14, k0_pay3]
  rfl
theorem pay1_apply : k0_pay1 (k0_pay3 x) w b (ix2 r d) = row x w b r d := by
  pointwise [k0_pay1, k0_pay3]
  rfl
end

theorem pay2_apply (x : Vec Ideal S512x1024 .f32) (w : Vec Ideal S1024x128 .bf16) (b : Vec Ideal S1x128 .f32) (r : Fin 512) (d : Fin 128) :
    k0_pay2 (k0_pay3 x) w b (ix2 r d) = linear (fun k => x (ix2 r k)) (fun k => w (ix2 k d)) (b (ix2 0 d)) := by
  pointwise [k0_pay2, k0_pay3]
  rfl

theorem pay4_apply (x : Vec Ideal S512x1024 .f32) (w : Vec Ideal S640x1024 .bf16) (b : Vec Ideal S640x1 .f32) (f : Fin 640) (r : Fin 512) :
    k0_pay4 x w b (ix2 f r) = linear (fun k => x (ix2 r k)) (fun k => w (ix2 f k)) (b (ix2 f 0)) := by
  pointwise [k0_pay4, k0_pay3]
  unfold linear
  exact congrArg (· + b (ix2 f 0)) (Finset.sum_congr rfl fun k _ => mul_comm (w (ix2 f k)) (x (ix2 r k)))

/-- The tokens' block at row `r`, column `f`. -/
def block (x0 : Vec Ideal S512x1024 .f32) (x1 : Vec Ideal S1024x6272 .bf16) (x2 : Vec Ideal S1x6272 .f32) (r : Fin 512) (f : Fin 6272) : EReal :=
  token f.val (linear (fun k => x0 (ix2 r k)) (fun k => x1 (ix2 k f)) (x2 (ix2 0 f)))

section
variable (x0 : Vec Ideal S512x1024 .f32) (x1 : Vec Ideal S1024x6272 .bf16) (x2 : Vec Ideal S1x6272 .f32)

theorem gated (l : Nat) (hl : l + 768 ≤ 6272) (h : l + 768 ≤ 3072) (r : Fin 512) (d : Fin 768) :
    gate (row x0 (weight x1 l hl) (bias x2 l hl) r d) = block x0 x1 x2 r ⟨l + d.val, by omega⟩ := by
  unfold block token row
  rw [if_pos (by dsimp only; omega)]
  simp only [weight_apply, bias_apply]
theorem plain (l : Nat) (hl : l + 768 ≤ 6272) (h : 3072 ≤ l) (r : Fin 512) (d : Fin 768) :
    row x0 (weight x1 l hl) (bias x2 l hl) r d = block x0 x1 x2 r ⟨l + d.val, by omega⟩ := by
  unfold block token row
  rw [if_neg (by dsimp only; omega)]
  simp only [weight_apply, bias_apply]
theorem last (r : Fin 512) (d : Fin 128) :
    linear (fun k => x0 (ix2 r k)) (fun k => lastWeight x1 (ix2 k d)) (lastBias x2 (ix2 0 d)) = block x0 x1 x2 r ⟨6144 + d.val, by omega⟩ := by
  unfold block token
  rw [if_neg (by dsimp only; omega)]
  simp only [lastWeight_apply, lastBias_apply]

end

end Cert.Kernel3Ideal.Rows

end
-- ==== Proof.ProjHost.lean ====
/- The arrays the projection kernel's windows read, element by element, in terms of the arguments. -/
module

public import proofs.«01_k».proof.Proof.Gen.Kernel3Ideal.Frame
public import proofs.«01_k».proof.Proof.ProjMath

@[expose] public section

noncomputable section

namespace Cert.Kernel3Ideal.Host

open Cert.Kernel3Ideal Cert.Kernel3Ideal.Gen Cert.Proj Idealize.ShloMosaic Idealize.ShloMosaic.TcCoe Idealize.SL.Sem

set_option maxRecDepth 16384

/-- The weights with their columns in the order of the tokens' array. -/
def weights (x : FVec Ideal S1024x6912 .f32) : FVec Ideal S1024x6272 .bf16 :=
  truncf (F := Ideal) .bf16 (concatenate S1024x6272 1
    [⟨S1024x3072, extractStridedSlice S1024x3072 ![0, 3840] x slices_S1024x6912_S1024x3072_0_3840⟩,
     ⟨S1024x1536, extractStridedSlice S1024x1536 ![0, 1536] x slices_S1024x6912_S1024x1536_0_1536⟩,
     ⟨S1024x1024, extractStridedSlice S1024x1024 ![0, 0] x slices_S1024x6912_S1024x1024_0_0⟩,
     ⟨S1024x64, extractStridedSlice S1024x64 ![0, 3072] x slices_S1024x6912_S1024x64_0_3072⟩,
     ⟨S1024x64, extractStridedSlice S1024x64 ![0, 3328] x slices_S1024x6912_S1024x64_0_3328⟩,
     ⟨S1024x64, extractStridedSlice S1024x64 ![0, 3136] x slices_S1024x6912_S1024x64_0_3136⟩,
     ⟨S1024x64, extractStridedSlice S1024x64 ![0, 3392] x slices_S1024x6912_S1024x64_0_3392⟩,
     ⟨S1024x64, extractStridedSlice S1024x64 ![0, 3200] x slices_S1024x6912_S1024x64_0_3200⟩,
     ⟨S1024x64, extractStridedSlice S1024x64 ![0, 3456] x slices_S1024x6912_S1024x64_0_3456⟩,
     ⟨S1024x64, extractStridedSlice S1024x64 ![0, 3264] x slices_S1024x6912_S1024x64_0_3264⟩,
     ⟨S1024x64, extractStridedSlice S1024x64 ![0, 3520] x slices_S1024x6912_S1024x64_0_3520⟩,
     ⟨S1024x128, extractStridedSlice S1024x128 ![0, 3584] x slices_S1024x6912_S1024x128_0_3584⟩]
    concatenates_S1024x3072_S1024x1536_S1024x1024_S1024x64_S1024x64_S1024x64_S1024x64_S1024x64_S1024x64_S1024x64_S1024x64_S1024x128_S1024x6272_d1) bitsLt_bf16_f32

/-- The biases in the same order. -/
def biases (x : FVec Ideal S6912 .f32) : FVec Ideal S1x6272 .f32 :=
  shapeCast S1x6272 (concatenate S6272 0
    [⟨S3072, extractStridedSlice S3072 ![3840] x slices_S6912_S3072_3840⟩,
     ⟨S1536, extractStridedSlice S1536 ![1536] x slices_S6912_S1536_1536⟩,
     ⟨S1024, extractStridedSlice S1024 ![0] x slices_S6912_S1024_0⟩,
     ⟨S64, extractStridedSlice S64 ![3072] x slices_S6912_S64_3072⟩,
     ⟨S64, extractStridedSlice S64 ![3328] x slices_S6912_S64_3328⟩,
     ⟨S64, extractStridedSlice S64 ![3136] x slices_S6912_S64_3136⟩,
     ⟨S64, extractStridedSlice S64 ![3392] x slices_S6912_S64_3392⟩,
     ⟨S64, extractStridedSlice S64 ![3200] x slices_S6912_S64_3200⟩,
     ⟨S64, extractStridedSlice S64 ![3456] x slices_S6912_S64_3456⟩,
     ⟨S64, extractStridedSlice S64 ![3264] x slices_S6912_S64_3264⟩,
     ⟨S64, extractStridedSlice S64 ![3520] x slices_S6912_S64_3520⟩,
     ⟨S128, extractStridedSlice S128 ![3584] x slices_S6912_S128_3584⟩]
    concatenates_S3072_S1536_S1024_S64_S64_S64_S64_S64_S64_S64_S64_S128_S6272_d0) shapeCasts_S6272_S1x6272

/-- The value columns of the weights, transposed, and of the biases. -/
def valueWeights (x : FVec Ideal S1024x6912 .f32) : FVec Ideal S640x1024 .bf16 :=
  truncf (F := Ideal) .bf16 (transpose S640x1024 [1, 0] (concatenate S1024x640 1
    [⟨S1024x512, extractStridedSlice S1024x512 ![0, 1024] x slices_S1024x6912_S1024x512_0_1024⟩,
     ⟨S1024x128, extractStridedSlice S1024x128 ![0, 3712] x slices_S1024x6912_S1024x128_0_3712⟩]
    concatenates_S1024x512_S1024x128_S1024x640_d1) transposes_S1024x640_S640x1024_1_0) bitsLt_bf16_f32
def valueBiases (x : FVec Ideal S6912 .f32) : FVec Ideal S640x1 .f32 :=
  shapeCast S640x1 (concatenate S640 0
    [⟨S512, extractStridedSlice S512 ![1024] x slices_S6912_S512_1024⟩,
     ⟨S128, extractStridedSlice S128 ![3712] x slices_S6912_S128_3712⟩]
    concatenates_S512_S128_S640_d0) shapeCasts_S640_S640x1

variable (m : (ℓ : Loc nD τ sig) → Buf (Elt Ideal) ℓ)

theorem weights_eq (c : Dev nD) : V m c main_v14 = weights (m ((c : Thread nD τ).loc main_arg1)) := by
  simp only [V, hostOps0]
  after_results
  rfl
theorem biases_eq (c : Dev nD) : V m c main_v28 = biases (m ((c : Thread nD τ).loc main_arg2)) := by
  simp only [V, hostOps0]
  after_results
  rfl
theorem valueWeights_eq (c : Dev nD) : V m c main_v33 = valueWeights (m ((c : Thread nD τ).loc main_arg1)) := by
  simp only [V, hostOps0]
  after_results
  rfl
theorem valueBiases_eq (c : Dev nD) : V m c main_v37 = valueBiases (m ((c : Thread nD τ).loc main_arg2)) := by
  simp only [V, hostOps0]
  after_results
  rfl
theorem stream_eq (c : Dev nD) : V m c main_v0
    = shapeCast S65536x1024 (m ((c : Thread nD τ).loc main_arg0) : FVec Ideal S8x8192x1024 .f32) shapeCasts_S8x8192x1024_S65536x1024 := by
  simp only [V, hostOps0]
  after_results
  rfl

set_option maxHeartbeats 2000000 in
theorem weights_apply (x : FVec Ideal S1024x6912 .f32) (k : Fin 1024) (f : Fin 6272) :
    weights x (ix2 k f) = x (ix2 k ⟨source f.val, source_lt f⟩) := by
  pointwise [weights]
  have key : ∀ i : Fin 6912, i.val = source f.val → x (ix2 k i) = x (ix2 k ⟨source f.val, source_lt f⟩) :=
    fun i h => congrArg (fun j => x (ix2 k j)) (Fin.ext h)
  repeat' refine dite_eq_of (fun _ => ?_) (fun _ => ?_)
  all_goals refine key _ ?_
  all_goals dsimp only [source]
  all_goals split_ifs <;> omega

set_option maxRecDepth 65536 in
set_option maxHeartbeats 2000000 in
theorem biases_apply (x : FVec Ideal S6912 .f32) (f : Fin 6272) : biases x (ix2 0 f) = x (ix1 ⟨source f.val, source_lt f⟩) := by
  pointwise [biases]
  have key : ∀ i : Fin 6912, i.val = source f.val → x (ix1 i) = x (ix1 ⟨source f.val, source_lt f⟩) :=
    fun i h => congrArg (fun j => x (ix1 j)) (Fin.ext h)
  repeat' refine dite_eq_of (fun _ => ?_) (fun _ => ?_)
  all_goals refine key _ ?_
  all_goals dsimp only [source]
  all_goals split_ifs <;> omega

theorem valueWeights_apply (x : FVec Ideal S1024x6912 .f32) (k : Fin 1024) (f : Fin 640) :
    valueWeights x (ix2 f k) = x (ix2 k ⟨valueSource f.val, valueSource_lt f⟩) := by
  pointwise [valueWeights]
  have key : ∀ i : Fin 6912, i.val = valueSource f.val → x (ix2 k i) = x (ix2 k ⟨valueSource f.val, valueSource_lt f⟩) :=
    fun i h => congrArg (fun j => x (ix2 k j)) (Fin.ext h)
  repeat' refine dite_eq_of (fun _ => ?_) (fun _ => ?_)
  all_goals refine key _ ?_
  all_goals dsimp only [valueSource]
  all_goals split_ifs; omega

theorem valueBiases_apply (x : FVec Ideal S6912 .f32) (f : Fin 640) :
    valueBiases x (ix2 f 0) = x (ix1 ⟨valueSource f.val, valueSource_lt f⟩) := by
  pointwise [valueBiases]
  have key : ∀ i : Fin 6912, i.val = valueSource f.val → x (ix1 i) = x (ix1 ⟨valueSource f.val, valueSource_lt f⟩) :=
    fun i h => congrArg (fun j => x (ix1 j)) (Fin.ext h)
  repeat' refine dite_eq_of (fun _ => ?_) (fun _ => ?_)
  all_goals refine key _ ?_
  all_goals dsimp only [valueSource]
  all_goals split_ifs; omega

end Cert.Kernel3Ideal.Host

end
-- ==== Proof.ProjRef.lean ====
/- The projection reference's two results, element by element. -/
module

public import proofs.«01_k».proof.Proof.Gen.Reference3Ideal.Read
public import proofs.«01_k».proof.Proof.ProjMath

@[expose] public section

noncomputable section

namespace Cert.Reference3Ideal.Rows

open Cert.Reference3Ideal Cert.Reference3Ideal.Read Cert.Proj Idealize.ShloMosaic Idealize.ShloMosaic.TcCoe Idealize.SL.Sem

set_option maxRecDepth 16384

variable (x0 : FVec Ideal S8x8192x1024 .f32) (x1 : FVec Ideal S1024x6912 .f32) (x2 : FVec Ideal S6912 .f32) (b : Fin 8) (n : Fin 8192)

/-- The projection. -/
theorem projected (l : Fin 6912) : val_main_v3 (F := Ideal) x0 x1 x2 (ix3 b n l)
    = linear (fun k => x0 (ix3 b n k)) (fun k => x1 (ix2 k l)) (x2 (ix1 l)) := by
  pointwise [val_main_v3, val_main_v2, val_main_v1, val_main_v0]
  rfl

/-- The gates. -/
theorem gates (l : Fin 3072) : val_main_v17 (F := Ideal) x0 x1 x2 (ix3 b n l)
    = gate (val_main_v3 (F := Ideal) x0 x1 x2 (ix3 b n ⟨3840 + l.val, by omega⟩)) := by
  pointwise [val_main_v17, val_main_v16, val_main_v15, val_main_v14, val_main_v13, val_main_v12, val_main_v11, val_main_cst, val_main_cst_0]
  rfl

/-- The window's queries, heads `j` and `j + 4` side by side. -/
theorem queries (j : Fin 4) (g : Fin 2) (e : Fin 64) (h) : val_main_v20 (F := Ideal) x0 x1 x2 (ix3 b n ⟨(j.val * 2 + g.val) * 64 + e.val, h⟩)
    = val_main_v3 (F := Ideal) x0 x1 x2 (ix3 b n ⟨3072 + (g.val * 256 + j.val * 64 + e.val), by omega⟩) := by
  pointwise [val_main_v20, val_main_v19, val_main_v18, val_main_v8]

/-- The same, by the column. -/
theorem queries' (f : Fin 512) : val_main_v20 (F := Ideal) x0 x1 x2 (ix3 b n f)
    = val_main_v3 (F := Ideal) x0 x1 x2 (ix3 b n ⟨3072 + (f.val / 64 % 2 * 256 + f.val / 128 * 64 + f.val % 64), by omega⟩) := by
  refine Eq.trans (congrArg (fun i => val_main_v20 (F := Ideal) x0 x1 x2 (ix3 b n i)) (Fin.ext ?_))
    (queries x0 x1 x2 b n ⟨f.val / 128, by omega⟩ ⟨f.val / 64 % 2, by omega⟩ ⟨f.val % 64, by omega⟩ (by dsimp only; omega))
  dsimp only
  omega

/-- The other ranges of columns. -/
theorem hyena (l : Fin 1536) : val_main_v7 (F := Ideal) x0 x1 x2 (ix3 b n l) = val_main_v3 (F := Ideal) x0 x1 x2 (ix3 b n ⟨1536 + l.val, by omega⟩) := by
  pointwise [val_main_v7]
theorem nearQueries (l : Fin 512) : val_main_v4 (F := Ideal) x0 x1 x2 (ix3 b n l) = val_main_v3 (F := Ideal) x0 x1 x2 (ix3 b n ⟨l.val, by omega⟩) := by
  pointwise [val_main_v4]
theorem nearKeys (l : Fin 512) : val_main_v5 (F := Ideal) x0 x1 x2 (ix3 b n l) = val_main_v3 (F := Ideal) x0 x1 x2 (ix3 b n ⟨512 + l.val, by omega⟩) := by
  pointwise [val_main_v5]
theorem keys (l : Fin 128) : val_main_v9 (F := Ideal) x0 x1 x2 (ix3 b n l) = val_main_v3 (F := Ideal) x0 x1 x2 (ix3 b n ⟨3584 + l.val, by omega⟩) := by
  pointwise [val_main_v9]

/-- Any column of the projection, by its number. -/
theorem projected_of (l l' : Fin 6912) (h : l.val = l'.val) : val_main_v3 (F := Ideal) x0 x1 x2 (ix3 b n l)
    = linear (fun k => x0 (ix3 b n k)) (fun k => x1 (ix2 k l')) (x2 (ix1 l')) := by
  obtain rfl := Fin.ext h
  exact projected x0 x1 x2 b n l

/-- The tokens' array. -/
theorem tokens (f : Fin 6272) : val_main_v24 (F := Ideal) x0 x1 x2 (ix2 ⟨b.val * 8192 + n.val, by omega⟩ f)
    = token f.val (linear (fun k => x0 (ix3 b n k)) (fun k => x1 (ix2 k ⟨source f.val, source_lt f⟩)) (x2 (ix1 ⟨source f.val, source_lt f⟩))) := by
  pointwise [val_main_v24, val_main_v23, val_main_v21]
  unfold token
  refine dite_eq_of (fun h => ?_) (fun h => ?_)
  · rw [if_pos h, gates]
    refine congrArg gate (projected_of x0 x1 x2 b n _ _ ?_)
    dsimp only [source]
    rw [if_pos h]
  · rw [if_neg h]
    repeat' refine dite_eq_of (fun _ => ?_) (fun _ => ?_)
    all_goals simp only [hyena, nearQueries, nearKeys, queries', keys]
    all_goals refine projected_of x0 x1 x2 b n _ _ ?_
    all_goals dsimp only [source]
    all_goals split_ifs <;> omega

/-- The values' array. -/
theorem values (f : Fin 640) : val_main_v27 (F := Ideal) x0 x1 x2 (ix2 f ⟨b.val * 8192 + n.val, by omega⟩)
    = linear (fun k => x0 (ix3 b n k)) (fun k => x1 (ix2 k ⟨valueSource f.val, valueSource_lt f⟩)) (x2 (ix1 ⟨valueSource f.val, valueSource_lt f⟩)) := by
  pointwise [val_main_v27, val_main_v26, val_main_v25, val_main_v22, val_main_v6, val_main_v10]
  repeat' refine dite_eq_of (fun _ => ?_) (fun _ => ?_)
  all_goals refine projected_of x0 x1 x2 b n _ _ ?_
  all_goals dsimp only [valueSource]
  all_goals split_ifs; omega

end Cert.Reference3Ideal.Rows

end
-- ==== Proof.ProjResult.lean ====
/- The projection kernel's two result arrays are the reference's. -/
module

public import proofs.«01_k».proof.Proof.ProjRows
public import proofs.«01_k».proof.Proof.ProjHost
public import proofs.«01_k».proof.Proof.ProjRef
public import proofs.«01_k».proof.Proof.Gen.Kernel3Ideal.Value

@[expose] public section

noncomputable section

namespace Cert.Kernel3Ideal.Result

open Cert.Kernel3Ideal Cert.Kernel3Ideal.Gen Cert.Kernel3Ideal.Block Cert.Kernel3Ideal.Rows Cert.Kernel3Ideal.Host Cert.Proj
open Idealize.ShloMosaic Idealize.ShloMosaic.TcCoe Idealize.SL.Sem

set_option maxRecDepth 16384

theorem lt (t : Fin cfg0.N) : t.val < 128 := t.isLt.trans_eq (by decide)

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx6 : ∀ t : Fin cfg0.N, win0_6.index t (0 : Fin 2) = 0 ∧ win0_6.index t (1 : Fin 2) = t.val := (by decide +kernel : ∀ t : Fin grid0.N, _)

variable (m : (ℓ : Loc nD τ sig) → Buf (Elt Ideal) ℓ) (c : Dev nD) (t : Fin cfg0.N)

/-- The arguments. -/
abbrev arg0 : FVec Ideal S8x8192x1024 .f32 := m ((c : Thread nD τ).loc main_arg0)
abbrev arg1 : FVec Ideal S1024x6912 .f32 := m ((c : Thread nD τ).loc main_arg1)
abbrev arg2 : FVec Ideal S6912 .f32 := m ((c : Thread nD τ).loc main_arg2)

/-! What each window holds at a grid point, element by element, in terms of the arguments. -/

theorem window0 (r : Fin 512) (d : Fin 1024) : iblk m c 0 t (ix2 r d)
    = arg0 m c (ix3 ⟨t.val / 16, by have := lt t; omega⟩ ⟨512 * (t.val % 16) + r.val, by omega⟩ d) := by
  refine Eq.trans (b := V m c main_v0 (ix2 ⟨512 * t.val + r.val, by have := lt t; omega⟩ d)) (congrArg (V m c main_v0) (funext fun a => Fin.ext ?_)) ?_
  · obtain ⟨e0, e1⟩ := idx0 t
    match a with
    | ⟨0, _⟩ => show win0_0.index t (0 : Fin 2) * 512 + 1 * r.val = 512 * t.val + r.val; omega
    | ⟨1, _⟩ => show win0_0.index t (1 : Fin 2) * 1024 + 1 * d.val = d.val; omega
  · rw [stream_eq]
    refine shapeCast_apply (arg0 m c) _ _ _ ?_
    rewrite [Shape.rowMajor_val_three, Shape.rowMajor_val_two]
    show (t.val / 16 * 8192 + (512 * (t.val % 16) + r.val)) * 1024 + d.val = (512 * t.val + r.val) * 1024 + d.val
    omega
theorem window1 (k : Fin 1024) (f : Fin 6272) : iblk m c 1 t (ix2 k f) = arg1 m c (ix2 k ⟨source f.val, source_lt f⟩) := by
  refine Eq.trans (b := V m c main_v14 (ix2 k f)) (congrArg (V m c main_v14) (funext fun a => Fin.ext ?_)) ?_
  · obtain ⟨e0, e1⟩ := idx1 t
    match a with
    | ⟨0, _⟩ => show win0_1.index t (0 : Fin 2) * 1024 + 1 * k.val = k.val; omega
    | ⟨1, _⟩ => show win0_1.index t (1 : Fin 2) * 6272 + 1 * f.val = f.val; omega
  · rw [weights_eq]
    exact weights_apply _ k f
theorem window2 (f : Fin 6272) : iblk m c 2 t (ix2 0 f) = arg2 m c (ix1 ⟨source f.val, source_lt f⟩) := by
  refine Eq.trans (b := V m c main_v28 (ix2 0 f)) (congrArg (V m c main_v28) (funext fun a => Fin.ext ?_)) ?_
  · obtain ⟨e0, e1⟩ := idx2 t
    match a with
    | ⟨0, _⟩ => show win0_2.index t (0 : Fin 2) * 1 + 1 * 0 = 0; omega
    | ⟨1, _⟩ => show win0_2.index t (1 : Fin 2) * 6272 + 1 * f.val = f.val; omega
  · rw [biases_eq]
    exact biases_apply _ f
theorem window3 (f : Fin 640) (k : Fin 1024) : iblk m c 3 t (ix2 f k) = arg1 m c (ix2 k ⟨valueSource f.val, valueSource_lt f⟩) := by
  refine Eq.trans (b := V m c main_v33 (ix2 f k)) (congrArg (V m c main_v33) (funext fun a => Fin.ext ?_)) ?_
  · obtain ⟨e0, e1⟩ := idx3 t
    match a with
    | ⟨0, _⟩ => show win0_3.index t (0 : Fin 2) * 640 + 1 * f.val = f.val; omega
    | ⟨1, _⟩ => show win0_3.index t (1 : Fin 2) * 1024 + 1 * k.val = k.val; omega
  · rw [valueWeights_eq]
    exact valueWeights_apply _ k f
theorem window4 (f : Fin 640) : iblk m c 4 t (ix2 f 0) = arg2 m c (ix1 ⟨valueSource f.val, valueSource_lt f⟩) := by
  refine Eq.trans (b := V m c main_v37 (ix2 f 0)) (congrArg (V m c main_v37) (funext fun a => Fin.ext ?_)) ?_
  · obtain ⟨e0, e1⟩ := idx4 t
    match a with
    | ⟨0, _⟩ => show win0_4.index t (0 : Fin 2) * 640 + 1 * f.val = f.val; omega
    | ⟨1, _⟩ => show win0_4.index t (1 : Fin 2) * 1 + 1 * 0 = 0; omega
  · rw [valueBiases_eq]
    exact valueBiases_apply _ f

/-- The reference's two results, of the kernel's arguments. -/
def tokens : Vec Ideal S65536x6272 .bf16 := Reference3Ideal.Read.val_main_v24 (F := Ideal) (arg0 m c) (arg1 m c) (arg2 m c)
def values : Vec Ideal S640x65536 .bf16 := Reference3Ideal.Read.val_main_v27 (F := Ideal) (arg0 m c) (arg1 m c) (arg2 m c)

/-- The grid point's rows in the token order. -/
theorem token_number (r : Fin 512) (h) (h') : (⟨t.val / 16 * 8192 + (512 * (t.val % 16) + r.val), h⟩ : Fin 65536) = ⟨512 * t.val + r.val, h'⟩ :=
  Fin.ext (by dsimp only; omega)

/-- A grid point's tokens are the reference's. -/
theorem block_tokens (r : Fin 512) (f : Fin 6272) : block (iblk m c 0 t) (iblk m c 1 t) (iblk m c 2 t) r f
    = tokens m c (ix2 ⟨512 * t.val + r.val, by have := lt t; omega⟩ f) := by
  unfold block tokens
  have h := Reference3Ideal.Rows.tokens (arg0 m c) (arg1 m c) (arg2 m c) ⟨t.val / 16, by have := lt t; omega⟩ ⟨512 * (t.val % 16) + r.val, by omega⟩ f
  simp only [window0, window1, window2]
  refine h.symm.trans ?_
  rw [token_number]

/-- A grid point's values are the reference's. -/
theorem block_values (f : Fin 640) (r : Fin 512) : (outsAt0 m c t).2 (ix2 f r)
    = values m c (ix2 f ⟨512 * t.val + r.val, by have := lt t; omega⟩) := by
  unfold values
  have h := Reference3Ideal.Rows.values (arg0 m c) (arg1 m c) (arg2 m c) ⟨t.val / 16, by have := lt t; omega⟩ ⟨512 * (t.val % 16) + r.val, by omega⟩ f
  rw [values_eq, pay4_apply]
  simp only [window0, window3, window4]
  refine h.symm.trans ?_
  rw [token_number]

/-- An index of the point's block of tokens, and of values, in the result array. -/
theorem emb5 (y : S512x6272.Idx) : ((cfg0.win 5).blk t).view.emb y
    = ix2 ⟨512 * t.val + (y 0).val, by have := lt t; have : (y 0).val < 512 := (y 0).isLt; omega⟩ (y 1) := by
  funext a
  apply Fin.ext
  obtain ⟨e0, e1⟩ := idx5 t
  match a with
  | ⟨0, _⟩ => show win0_5.index t (0 : Fin 2) * 512 + 1 * (y 0).val = 512 * t.val + (y 0).val; omega
  | ⟨1, _⟩ => show win0_5.index t (1 : Fin 2) * 6272 + 1 * (y 1).val = (y 1).val; omega
theorem emb6 (y : S640x512.Idx) : ((cfg0.win 6).blk t).view.emb y
    = ix2 (y 0) ⟨512 * t.val + (y 1).val, by have := lt t; have : (y 1).val < 512 := (y 1).isLt; omega⟩ := by
  funext a
  apply Fin.ext
  obtain ⟨e0, e1⟩ := idx6 t
  match a with
  | ⟨0, _⟩ => show win0_6.index t (0 : Fin 2) * 640 + 1 * (y 0).val = (y 0).val; omega
  | ⟨1, _⟩ => show win0_6.index t (1 : Fin 2) * 512 + 1 * (y 1).val = 512 * t.val + (y 1).val; omega

/-- A piece of the tokens' block is the reference's, where its elements are the block's. -/
theorem piece_value (l : Nat) (hl : l + 768 ≤ 6272) (p : FVec Ideal S512x768 .bf16)
    (hp : ∀ (r : Fin 512) (d : Fin 768), p (ix2 r d) = block (iblk m c 0 t) (iblk m c 1 t) (iblk m c 2 t) r ⟨l + d.val, by omega⟩) (y : S512x768.Idx) :
    p y = tokens m c (((cfg0.win 5).blk t).view.emb ((Rect.unit (s := S512x6272) ![0, l] S512x768.size (box_inb hl)).emb y)) := by
  have hy : y = ix2 (y 0) (y 1) := funext fun a => match a with | ⟨0, _⟩ => rfl | ⟨1, _⟩ => rfl
  refine (congrArg p hy).trans ((hp (y 0) (y 1)).trans ((block_tokens m c t _ _).trans ?_))
  rw [emb5]
  refine congrArg (tokens m c) (funext fun a => Fin.ext ?_)
  match a with
  | ⟨0, _⟩ => show 512 * t.val + (y 0).val = 512 * t.val + (0 + 1 * (y 0).val); omega
  | ⟨1, _⟩ => show l + (y 1).val = l + 1 * (y 1).val; omega

/-- The last piece likewise. -/
theorem lastPiece_value (p : FVec Ideal S512x128 .bf16)
    (hp : ∀ (r : Fin 512) (d : Fin 128), p (ix2 r d) = block (iblk m c 0 t) (iblk m c 1 t) (iblk m c 2 t) r ⟨6144 + d.val, by omega⟩) (y : S512x128.Idx) :
    p y = tokens m c (((cfg0.win 5).blk t).view.emb ((Rect.unit (s := S512x6272) ![0, 6144] S512x128.size (box_inb (by decide))).emb y)) := by
  have hy : y = ix2 (y 0) (y 1) := funext fun a => match a with | ⟨0, _⟩ => rfl | ⟨1, _⟩ => rfl
  refine (congrArg p hy).trans ((hp (y 0) (y 1)).trans ((block_tokens m c t _ _).trans ?_))
  rw [emb5]
  refine congrArg (tokens m c) (funext fun a => Fin.ext ?_)
  match a with
  | ⟨0, _⟩ => show 512 * t.val + (y 0).val = 512 * t.val + (0 + 1 * (y 0).val); omega
  | ⟨1, _⟩ => show 6144 + (y 1).val = 6144 + 1 * (y 1).val; omega

/-- What a grid point leaves in the tokens' block is the reference's block. -/
theorem outs_value (y : S512x6272.Idx) : (outsAt0 m c t).1 y = tokens m c (((cfg0.win 5).blk t).view.emb y) := by
  have h0 : (y 0).val < 512 := (y 0).isLt
  have h1 : (y 1).val < 6272 := (y 1).isLt
  rw [tokens_eq]
  unfold pieces
  refine View.canon_apply_of_pieces (fun y => tokens m c (((cfg0.win 5).blk t).view.emb y)) _ ?_ y ?_
  · intro p hp
    simp only [List.mem_cons, List.not_mem_nil, or_false] at hp
    rcases hp with rfl | rfl | rfl | rfl | rfl | rfl | rfl | rfl | rfl
    · exact lastPiece_value m c t _ fun r d => (pay2_apply _ _ _ r d).trans (last _ _ _ r d)
    · exact piece_value m c t 5376 (by decide) _ fun r d => (pay1_apply _ _ _ r d).trans (plain _ _ _ _ _ (by decide) r d)
    · exact piece_value m c t 4608 (by decide) _ fun r d => (pay14_apply _ _ _ r d).trans (plain _ _ _ _ _ (by decide) r d)
    · exact piece_value m c t 3840 (by decide) _ fun r d => (pay13_apply _ _ _ r d).trans (plain _ _ _ _ _ (by decide) r d)
    · exact piece_value m c t 3072 (by decide) _ fun r d => (pay12_apply _ _ _ r d).trans (plain _ _ _ _ _ (by decide) r d)
    · exact piece_value m c t 2304 (by decide) _ fun r d => (pay11_apply _ _ _ r d).trans (gated _ _ _ _ _ (by decide) r d)
    · exact piece_value m c t 1536 (by decide) _ fun r d => (pay9_apply _ _ _ r d).trans (gated _ _ _ _ _ (by decide) r d)
    · exact piece_value m c t 768 (by decide) _ fun r d => (pay8_apply _ _ _ r d).trans (gated _ _ _ _ _ (by decide) r d)
    · exact piece_value m c t 0 (by decide) _ fun r d => (pay5_apply _ _ _ r d).trans (gated _ _ _ _ _ (by decide) r d)
  · have mem : ∀ l (hl : l + 768 ≤ 6272), l ≤ (y 1).val → (y 1).val < l + 768 →
        y ∈ (Rect.unit (s := S512x6272) ![0, l] S512x768.size (box_inb hl)).set := by
      intro l hl l1 l2
      rw [Rect.mem_set_unit]
      intro a
      match a with
      | ⟨0, _⟩ => exact ⟨Nat.zero_le _, by show (y 0).val < 0 + 512; omega⟩
      | ⟨1, _⟩ => exact ⟨l1, l2⟩
    by_cases c8 : 6144 ≤ (y 1).val
    · refine ⟨_, .head _, ?_⟩
      show y ∈ (Rect.unit (s := S512x6272) ![0, 6144] S512x128.size (box_inb (by decide))).set
      rw [Rect.mem_set_unit]
      intro a
      match a with
      | ⟨0, _⟩ => exact ⟨Nat.zero_le _, by show (y 0).val < 0 + 512; omega⟩
      | ⟨1, _⟩ => exact ⟨c8, by show (y 1).val < 6144 + 128; omega⟩
    by_cases c7 : 5376 ≤ (y 1).val
    · exact ⟨_, .tail _ (.head _), mem 5376 (by decide) c7 (by omega)⟩
    by_cases c6 : 4608 ≤ (y 1).val
    · exact ⟨_, .tail _ (.tail _ (.head _)), mem 4608 (by decide) c6 (by omega)⟩
    by_cases c5 : 3840 ≤ (y 1).val
    · exact ⟨_, .tail _ (.tail _ (.tail _ (.head _))), mem 3840 (by decide) c5 (by omega)⟩
    by_cases c4 : 3072 ≤ (y 1).val
    · exact ⟨_, .tail _ (.tail _ (.tail _ (.tail _ (.head _)))), mem 3072 (by decide) c4 (by omega)⟩
    by_cases c3 : 2304 ≤ (y 1).val
    · exact ⟨_, .tail _ (.tail _ (.tail _ (.tail _ (.tail _ (.head _))))), mem 2304 (by decide) c3 (by omega)⟩
    by_cases c2 : 1536 ≤ (y 1).val
    · exact ⟨_, .tail _ (.tail _ (.tail _ (.tail _ (.tail _ (.tail _ (.head _)))))), mem 1536 (by decide) c2 (by omega)⟩
    by_cases c1 : 768 ≤ (y 1).val
    · exact ⟨_, .tail _ (.tail _ (.tail _ (.tail _ (.tail _ (.tail _ (.tail _ (.head _))))))), mem 768 (by decide) c1 (by omega)⟩
    · exact ⟨_, .tail _ (.tail _ (.tail _ (.tail _ (.tail _ (.tail _ (.tail _ (.tail _ (.head _)))))))), mem 0 (by decide) (Nat.zero_le _) (by omega)⟩

theorem flushed_tokens : (dats m 0 c).flushed 5 t = ((cfg0.win 5).blk t).view.read (Elt Ideal) (tokens m c) := by
  rw [Value.flushed5]
  funext y
  exact outs_value m c t y

theorem flushed_values : (dats m 0 c).flushed 6 t = ((cfg0.win 6).blk t).view.read (Elt Ideal) (values m c) := by
  rw [Value.flushed6]
  funext y
  have hy : y = ix2 (y 0) (y 1) := funext fun a => match a with | ⟨0, _⟩ => rfl | ⟨1, _⟩ => rfl
  refine Eq.trans (congrArg (outsAt0 m c t).2 hy) ((block_values m c t (y 0) (y 1)).trans ?_)
  exact congrArg (values m c) (emb6 t y).symm

/-- The grid points' blocks cover the two result arrays. -/
theorem covered5 (i : S65536x6272.Idx) : ∃ t : Fin cfg0.N, (cfg0.win 5).flush t = true ∧ i ∈ ((cfg0.win 5).blk t).view.set := by
  have h0 : (i 0).val < 65536 := (i 0).isLt
  have hN : cfg0.N = 128 := by decide
  obtain ⟨T, hT⟩ : ∃ T : Fin cfg0.N, T.val = (i 0).val / 512 := ⟨⟨(i 0).val / 512, by rw [hN]; omega⟩, rfl⟩
  refine ⟨T, flush0_5 _, ?_⟩
  have h := ((cfg0.win 5).blk T).view.emb_mem_set (ix2 ⟨(i 0).val % 512, by omega⟩ (i 1) : S512x6272.Idx)
  rw [emb5] at h
  have e : i = ix2 ⟨512 * T.val + (i 0).val % 512, by omega⟩ (i 1) := by
    funext a
    apply Fin.ext
    match a with
    | ⟨0, _⟩ => show (i 0).val = 512 * T.val + (i 0).val % 512; omega
    | ⟨1, _⟩ => rfl
  rw [e]
  exact h
theorem covered6 (i : S640x65536.Idx) : ∃ t : Fin cfg0.N, (cfg0.win 6).flush t = true ∧ i ∈ ((cfg0.win 6).blk t).view.set := by
  have h1 : (i 1).val < 65536 := (i 1).isLt
  have hN : cfg0.N = 128 := by decide
  obtain ⟨T, hT⟩ : ∃ T : Fin cfg0.N, T.val = (i 1).val / 512 := ⟨⟨(i 1).val / 512, by rw [hN]; omega⟩, rfl⟩
  refine ⟨T, flush0_6 _, ?_⟩
  have h := ((cfg0.win 6).blk T).view.emb_mem_set (ix2 (i 0) ⟨(i 1).val % 512, by omega⟩ : S640x512.Idx)
  rw [emb6] at h
  have e : i = ix2 (i 0) ⟨512 * T.val + (i 1).val % 512, by omega⟩ := by
    funext a
    apply Fin.ext
    match a with
    | ⟨0, _⟩ => rfl
    | ⟨1, _⟩ => show (i 1).val = 512 * T.val + (i 1).val % 512; omega
  rw [e]
  exact h

/-- The result arrays after the run are the reference's results. -/
theorem final_tokens : (dats m 0 c).arrAt 5 cfg0.N = tokens m c :=
  (dats m 0 c).arrAt_eq_of_cover 5 (tokens m c) (fun t _ => flushed_tokens m c t) covered5
theorem final_values : (dats m 0 c).arrAt 6 cfg0.N = values m c :=
  (dats m 0 c).arrAt_eq_of_cover 6 (values m c) (fun t _ => flushed_values m c t) covered6

end Cert.Kernel3Ideal.Result

end
-- ==== Proof.lean ====
/- The proof of the certificate's claim. -/
module

public import proofs.«01_k».proof.Defs
public import proofs.«01_k».proof.Proof.Gen.Kernel.Frame
public import proofs.«01_k».proof.Proof.Gen.KernelIdeal.Frame
public import proofs.«01_k».proof.Proof.Result
public import proofs.«01_k».proof.Proof.Finite
public import proofs.«01_k».proof.Proof.Gen.ReferenceIdeal.Run
public import proofs.«01_k».proof.Proof.Gen.Kernel3.Frame
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.NearResult
public import proofs.«01_k».proof.Proof.NearFinite
public import proofs.«01_k».proof.Proof.Gen.Kernel3Ideal.Value
public import proofs.«01_k».proof.Proof.Gen.Reference3Ideal.Read
public import proofs.«01_k».proof.Proof.Gen.Kernel2.Frame
public import proofs.«01_k».proof.Proof.Gen.Kernel2Ideal.Frame
public import proofs.«01_k».proof.Proof.MergeResult
public import proofs.«01_k».proof.Proof.ProjResult
public import proofs.«01_k».proof.Proof.Gen.Reference2Ideal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference leaves its arguments as they were, every counter at zero. -/
theorem reference_frame (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal))) ⟨m, fun _ => 0, ρ⟩
      (fun r => (∀ c : Dev ReferenceIdeal.nD,
        r.2.mem ((c.tc : Thread ReferenceIdeal.nD ReferenceIdeal.τ).loc ReferenceIdeal.main_arg0)
          = m ((c.tc : Thread ReferenceIdeal.nD ReferenceIdeal.τ).loc ReferenceIdeal.main_arg0)
        ∧ r.2.mem ((c.tc : Thread ReferenceIdeal.nD ReferenceIdeal.τ).loc ReferenceIdeal.main_arg1)
          = m ((c.tc : Thread ReferenceIdeal.nD ReferenceIdeal.τ).loc ReferenceIdeal.main_arg1))
      ∧ r.2.sem = fun _ => 0) :=
  (θ_run _ _ _).mono (fun r h => ⟨fun c => (h c).2, sem_eq_zero_of_no_sems (by decide) r.2⟩) (ReferenceIdeal.Value.run m ρ)

set_option maxRecDepth 16384

/-- Kernel and reference compute the same result where queries, keys and sinks are finite. -/
theorem attention_eq : Cert.algebraic_KernelIdeal_ReferenceIdeal_pre_finite := by
  intro m g m' g' hpre hargs
  refine ⟨fun c => KernelIdeal.Result.target m c, ?_, ?_⟩
  · refine (θ_run _ _ _).mono (fun r h c => ⟨(h c).1.trans ?_, (h c).2⟩) (KernelIdeal.Value.run_blocks m g)
    exact KernelIdeal.Result.final m c (Finite.real_of_pre _ _ (hpre c))
  · refine (θ_run _ _ _).mono (fun r h c => ⟨(h c).1.trans ?_, (h c).2⟩) (ReferenceIdeal.Value.run m' g')
    rw [ReferenceIdeal.Read.val_main_v61_eq, (hargs c).1, (hargs c).2]
    rfl

/-- The merge reference leaves its arguments as they were, every counter at zero. -/
theorem reference2_frame : Cert.quiescent_Reference2Ideal := fun m ρ _ =>
  (θ_run _ _ _).mono (fun r h => ⟨fun c => (h c).2, sem_eq_zero_of_no_sems (by decide) r.2⟩) (Reference2Ideal.Value.run m ρ)

/-- Kernel and reference compute the same merge and channel mixer. -/
theorem merge_eq : Cert.algebraic_Kernel2Ideal_Reference2Ideal := by
  intro m g m' g' _ hargs
  refine ⟨fun c => Kernel2Ideal.Result.target m c, ?_, ?_⟩
  · refine (θ_run _ _ _).mono (fun r h c => ⟨(h c).1.trans ?_, (h c).2⟩) (Kernel2Ideal.Value.run_blocks m g)
    exact Kernel2Ideal.Result.final m c
  · refine (θ_run _ _ _).mono (fun r h c => ⟨(h c).1.trans ?_, (h c).2⟩) (Reference2Ideal.Value.run m' g')
    obtain ⟨h0, h1, h2, h3, h4, h5, h6, h7, h8, h9, h10, h11, h12, h13, h14, h15, h16⟩ := hargs c
    refine (Reference2Ideal.Read.val_main_v85_eq _).trans ?_
    show Reference2Ideal.Read.val_main_v85 (F := Ideal) (m' ((c.tc : Thread _ _).loc Reference2Ideal.main_arg0))
      (m' ((c.tc : Thread _ _).loc Reference2Ideal.main_arg1)) (m' ((c.tc : Thread _ _).loc
      Reference2Ideal.main_arg2)) (m' ((c.tc : Thread _ _).loc Reference2Ideal.main_arg3)) (m' ((c.tc : Thread _
      _).loc Reference2Ideal.main_arg4)) (m' ((c.tc : Thread _ _).loc Reference2Ideal.main_arg5)) (m' ((c.tc :
      Thread _ _).loc Reference2Ideal.main_arg6)) (m' ((c.tc : Thread _ _).loc Reference2Ideal.main_arg7)) (m'
      ((c.tc : Thread _ _).loc Reference2Ideal.main_arg8)) (m' ((c.tc : Thread _ _).loc
      Reference2Ideal.main_arg9)) (m' ((c.tc : Thread _ _).loc Reference2Ideal.main_arg10)) (m' ((c.tc : Thread
      _ _).loc Reference2Ideal.main_arg11)) (m' ((c.tc : Thread _ _).loc Reference2Ideal.main_arg12)) (m' ((c.tc
      : Thread _ _).loc Reference2Ideal.main_arg13)) (m' ((c.tc : Thread _ _).loc Reference2Ideal.main_arg14))
      (m' ((c.tc : Thread _ _).loc Reference2Ideal.main_arg15)) (m' ((c.tc : Thread _ _).loc
      Reference2Ideal.main_arg16)) = _
    rw [h0, h1, h2, h3, h4, h5, h6, h7, h8, h9, h10, h11, h12, h13, h14, h15, h16]
    rfl

/-- The projection reference leaves its arguments as they were, every counter at zero. -/
theorem reference3_frame : Cert.quiescent_Reference3Ideal := fun m ρ _ =>
  (θ_run _ _ _).mono (fun r h => ⟨fun c => (h c).2.2, sem_eq_zero_of_no_sems (by decide) r.2⟩) (Reference3Ideal.Value.run m ρ)

/-- Kernel and reference compute the same projection. -/
theorem projection_eq : Cert.algebraic_Kernel3Ideal_Reference3Ideal := by
  intro m g m' g' _ hargs
  refine ⟨fun c => Kernel3Ideal.Result.tokens m c, fun c => Kernel3Ideal.Result.values m c, ?_, ?_⟩
  · refine (θ_run _ _ _).mono (fun r h c => ⟨(h c).1.trans ?_, (h c).2.1.trans ?_, (h c).2.2⟩) (Kernel3Ideal.Value.run_blocks m g)
    · exact Kernel3Ideal.Result.final_tokens m c
    · exact Kernel3Ideal.Result.final_values m c
  · refine (θ_run _ _ _).mono (fun r h c => ⟨(h c).1.trans ?_, (h c).2.1.trans ?_, (h c).2.2⟩) (Reference3Ideal.Value.run m' g')
    · rw [Reference3Ideal.Read.val_main_v24_eq, (hargs c).1, (hargs c).2.1, (hargs c).2.2]
      rfl
    · rw [Reference3Ideal.Read.val_main_v27_eq, (hargs c).1, (hargs c).2.1, (hargs c).2.2]
      rfl

/-- The neighbourhood reference leaves its arguments as they were, every counter at zero. -/
theorem reference4_frame : Cert.quiescent_Reference4Ideal := fun m ρ _ =>
  (θ_run _ _ _).mono (fun r h => ⟨fun c => (h c).2, sem_eq_zero_of_no_sems (by decide) r.2⟩) (Reference4Ideal.Value.run m ρ)

/-- Kernel and reference compute the same neighbourhood attention where queries, keys and biases are finite. -/
theorem neighbourhood_eq : Cert.algebraic_Kernel4Ideal_Reference4Ideal_pre_finite4 := by
  intro m g m' g' hpre hargs
  refine ⟨fun c => Kernel4Ideal.Result.target m c, ?_, ?_⟩
  · refine (θ_run _ _ _).mono (fun r h c => ⟨(h c).1.trans ?_, (h c).2⟩) (Kernel4Ideal.Value.run_blocks m g)
    exact Kernel4Ideal.Result.final m c (NearFinite.real_of_pre _ _ (hpre c))
  · refine (θ_run _ _ _).mono (fun r h c => ⟨(h c).1.trans ?_, (h c).2⟩) (Reference4Ideal.Value.run m' g')
    rw [Reference4Ideal.Read.val_main_v88_eq, (hargs c).1, (hargs c).2]
    rfl

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Finite.facts, NearFinite.facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  fun m ρ _ => Cert.Kernel2.Gen.frame m ρ,
  fun m ρ _ => Cert.Kernel2Ideal.Gen.frame m ρ,
  reference2_frame,
  fun m ρ _ => Cert.Kernel3.Gen.frame m ρ,
  fun m ρ _ => Cert.Kernel3Ideal.Gen.frame m ρ,
  reference3_frame,
  fun m ρ _ => Cert.Kernel4.Gen.frame m ρ,
  fun m ρ _ => Cert.Kernel4Ideal.Gen.frame m ρ,
  fun m ρ _ => Cert.Kernel4Ideal.Gen.frame m ρ,
  reference4_frame,
  fun m ρ _ => reference4_frame m ρ trivial,
  ⟨IdealRules.named_const.statement Cert.KernelIdeal.κ "qscale" .f32 0x3E38AA3B#32 _ rfl,
   IdealRules.named_const.statement Cert.KernelIdeal.κ "log2e" .f32 0x3FB8AA3B#32 _ rfl⟩,
  attention_eq, trivial, merge_eq, trivial, projection_eq,
  ⟨IdealRules.named_const.statement Cert.Kernel4Ideal.κ "qscale" .f32 0x3E38AA3B#32 _ rfl,
   IdealRules.named_const.statement Cert.Kernel4Ideal.κ "log2e" .f32 0x3FB8AA3B#32 _ rfl⟩,
  neighbourhood_eq⟩

end Cert.Proof

end
